-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v8)) (v1 : (c : Dev Cert.Kernel8Ideal.nD) → Buf (Elt Ideal) ((c.tc : Thread Cert.Kernel8Ideal.nD Cert.Kernel8Ideal.τ).loc Cert.Kernel8Ideal.main_v12)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8) = v0 c
          ∧ r.2.mem ((c.tc : Thread Cert.Kernel8Ideal.nD Cert.Kernel8Ideal.τ).loc Cert.Kernel8Ideal.main_v12) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v38) = v0 c
          ∧ r.2.mem ((c.tc : Thread Cert.Reference8Ideal.nD Cert.Reference8Ideal.τ).loc Cert.Reference8Ideal.main_v42) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v8)) (v1 : (c : Dev Cert.Kernel9Ideal.nD) → Buf (Elt Ideal) ((c.tc : Thread Cert.Kernel9Ideal.nD Cert.Kernel9Ideal.τ).loc Cert.Kernel9Ideal.main_v12)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8) = v0 c
          ∧ r.2.mem ((c.tc : Thread Cert.Kernel9Ideal.nD Cert.Kernel9Ideal.τ).loc Cert.Kernel9Ideal.main_v12) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v38) = v0 c
          ∧ r.2.mem ((c.tc : Thread Cert.Reference9Ideal.nD Cert.Reference9Ideal.τ).loc Cert.Reference9Ideal.main_v43) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v8)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v33) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v14)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v14) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v39) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v15_0)) (v1 : (c : Dev Cert.Kernel2Ideal.nD) → Buf (Elt Ideal) ((c.tc : Thread Cert.Kernel2Ideal.nD Cert.Kernel2Ideal.τ).loc Cert.Kernel2Ideal.main_v15_1)) (v2 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15_0) = v0 c
          ∧ r.2.mem ((c.tc : Thread Cert.Kernel2Ideal.nD Cert.Kernel2Ideal.τ).loc Cert.Kernel2Ideal.main_v15_1) = v1 c
          ∧ r.2.mem ((c.tc : Thread Cert.Kernel2Ideal.nD Cert.Kernel2Ideal.τ).loc Cert.Kernel2Ideal.main_v18) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v11) = v1 c
          ∧ r.2.mem ((c.tc : Thread Cert.Reference2Ideal.nD Cert.Reference2Ideal.τ).loc Cert.Reference2Ideal.main_v13) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v15_0)) (v1 : (c : Dev Cert.Kernel13Ideal.nD) → Buf (Elt Ideal) ((c.tc : Thread Cert.Kernel13Ideal.nD Cert.Kernel13Ideal.τ).loc Cert.Kernel13Ideal.main_v15_1)) (v2 : (c : Dev Cert.Kernel13Ideal.nD) → Buf (Elt Ideal) ((c.tc : Thread Cert.Kernel13Ideal.nD Cert.Kernel13Ideal.τ).loc Cert.Kernel13Ideal.main_v18)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v15_0) = v0 c
          ∧ r.2.mem ((c.tc : Thread Cert.Kernel13Ideal.nD Cert.Kernel13Ideal.τ).loc Cert.Kernel13Ideal.main_v15_1) = v1 c
          ∧ r.2.mem ((c.tc : Thread Cert.Kernel13Ideal.nD Cert.Kernel13Ideal.τ).loc Cert.Kernel13Ideal.main_v18) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_v6) = v1 c
          ∧ r.2.mem ((c.tc : Thread Cert.Reference13Ideal.nD Cert.Reference13Ideal.τ).loc Cert.Reference13Ideal.main_v8) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)
      ∧ m' ((c.tc : Thread Cert.Reference12Ideal.nD Cert.Reference12Ideal.τ).loc Cert.Reference12Ideal.main_arg10) = m ((c.tc : Thread Cert.Kernel12Ideal.nD Cert.Kernel12Ideal.τ).loc Cert.Kernel12Ideal.main_arg10)) →
    ∃ (v0 : (c : Dev Cert.Kernel12Ideal.nD) → Buf (Elt Ideal) ((c.tc : Thread Cert.Kernel12Ideal.nD Cert.Kernel12Ideal.τ).loc Cert.Kernel12Ideal.main_v33_0)) (v1 : (c : Dev Cert.Kernel12Ideal.nD) → Buf (Elt Ideal) ((c.tc : Thread Cert.Kernel12Ideal.nD Cert.Kernel12Ideal.τ).loc Cert.Kernel12Ideal.main_v33_1)) (v2 : (c : Dev Cert.Kernel12Ideal.nD) → Buf (Elt Ideal) ((c.tc : Thread Cert.Kernel12Ideal.nD Cert.Kernel12Ideal.τ).loc Cert.Kernel12Ideal.main_v33_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v33_0) = v0 c
          ∧ r.2.mem ((c.tc : Thread Cert.Kernel12Ideal.nD Cert.Kernel12Ideal.τ).loc Cert.Kernel12Ideal.main_v33_1) = v1 c
          ∧ r.2.mem ((c.tc : Thread Cert.Kernel12Ideal.nD Cert.Kernel12Ideal.τ).loc Cert.Kernel12Ideal.main_v33_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
          ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v67) = v0 c
          ∧ r.2.mem ((c.tc : Thread Cert.Reference12Ideal.nD Cert.Reference12Ideal.τ).loc Cert.Reference12Ideal.main_v55) = v1 c
          ∧ r.2.mem ((c.tc : Thread Cert.Reference12Ideal.nD Cert.Reference12Ideal.τ).loc Cert.Reference12Ideal.main_v65) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9)
          ∧ r.2.mem ((c.tc : Thread Cert.Reference12Ideal.nD Cert.Reference12Ideal.τ).loc Cert.Reference12Ideal.main_arg10) = m' ((c.tc : Thread Cert.Reference12Ideal.nD Cert.Reference12Ideal.τ).loc Cert.Reference12Ideal.main_arg10))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel2 : Cert.Kernel2.Facts) (hKernel2Ideal : Cert.Kernel2Ideal.Facts) (hReference2Ideal : Cert.Reference2Ideal.Facts) (hKernel13 : Cert.Kernel13.Facts) (hKernel13Ideal : Cert.Kernel13Ideal.Facts) (hReference13Ideal : Cert.Reference13Ideal.Facts) (hKernel12 : Cert.Kernel12.Facts) (hKernel12Ideal : Cert.Kernel12Ideal.Facts) (hReference12Ideal : Cert.Reference12Ideal.Facts),
    quiescent_Kernel (hKernel := hKernel)
    ∧ quiescent_KernelIdeal (hKernelIdeal := hKernelIdeal)
    ∧ quiescent_ReferenceIdeal (hReferenceIdeal := hReferenceIdeal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel2_Kernel2Ideal
    ∧ algebraic_Kernel2Ideal_Reference2Ideal (hKernel2Ideal := hKernel2Ideal) (hReference2Ideal := hReference2Ideal)
    ∧ preserves_Kernel13_Kernel13Ideal
    ∧ algebraic_Kernel13Ideal_Reference13Ideal (hKernel13Ideal := hKernel13Ideal) (hReference13Ideal := hReference13Ideal)
    ∧ preserves_Kernel12_Kernel12Ideal
    ∧ algebraic_Kernel12Ideal_Reference12Ideal (hKernel12Ideal := hKernel12Ideal) (hReference12Ideal := hReference12Ideal)
-- ==== Kernel.lean ====
abbrev S8704x2048 : Shape := ⟨2, ![8704, 2048]⟩
abbrev S2x2048x8192 : Shape := ⟨3, ![2, 2048, 8192]⟩
abbrev S2x8192x2048 : Shape := ⟨3, ![2, 8192, 2048]⟩
abbrev S2x2048 : Shape := ⟨2, ![2, 2048]⟩
abbrev S1x2048 : Shape := ⟨2, ![1, 2048]⟩
abbrev S2048 : Shape := ⟨1, ![2048]⟩
abbrev S8192x2048 : Shape := ⟨2, ![8192, 2048]⟩
abbrev S1024x2048 : Shape := ⟨2, ![1024, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 14
  | .vmem => 9
  | .smem => 0
  | _ => 0

abbrev bufTy : (tb : Table) → Fin (tcTables nBuf tb) → BufTy
  | .hbm, ⟨0, _⟩ => ⟨S8704x2048, .f32⟩
  | .hbm, ⟨1, _⟩ => ⟨S2x2048x8192, .f32⟩
  | .hbm, ⟨2, _⟩ => ⟨S2x8192x2048, .f32⟩
  | .hbm, ⟨3, _⟩ => ⟨S2x2048, .f32⟩
  | .hbm, ⟨4, _⟩ => ⟨S2x2048, .f32⟩
  | .hbm, ⟨5, _⟩ => ⟨S2x2048x8192, .bf16⟩
  | .hbm, ⟨6, _⟩ => ⟨S2x8192x2048, .bf16⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S8192x2048, .f32⟩
  | .local _ .vmem, ⟨0, _⟩ => ⟨S1024x2048, .f32⟩
  | .local _ .vmem, ⟨1, _⟩ => ⟨S1x2048x1024, .bf16⟩
  | .local _ .vmem, ⟨2, _⟩ => ⟨S1x2048x1024, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x2048, .f32⟩
  | .local _ .vmem, ⟨6, _⟩ => ⟨S1x2048, .f32⟩
  | .local _ .vmem, ⟨7, _⟩ => ⟨S1024x2048, .f32⟩
  | .local _ .vmem, ⟨8, _⟩ => ⟨S1024x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2176_i32 : BitVec 32 := 2176#32
  let v17 : BitVec 32 := Scalar.muli v16 c2176_i32
  let c16_i32 : BitVec 32 := 16#32
  let v18 : BitVec 32 := Scalar.addi v17 c16_i32
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v30 : BitVec 32 := Scalar.addi v18 v29
  v30
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2176_i32 : BitVec 32 := 2176#32
  let v17 : BitVec 32 := Scalar.muli v16 c2176_i32
  let c16_i32 : BitVec 32 := 16#32
  let v18 : BitVec 32 := Scalar.addi v17 c16_i32
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== ReferenceIdeal.lean ====
abbrev S8704x2048 : Shape := ⟨2, ![8704, 2048]⟩
abbrev S2x2048x8192 : Shape := ⟨3, ![2, 2048, 8192]⟩
abbrev S2x8192x2048 : Shape := ⟨3, ![2, 8192, 2048]⟩
abbrev S2x2048 : Shape := ⟨2, ![2, 2048]⟩
abbrev S4x2176x2048 : Shape := ⟨3, ![4, 2176, 2048]⟩
abbrev S4x2064x2048 : Shape := ⟨3, ![4, 2064, 2048]⟩
abbrev S1x2048x8192 : Shape := ⟨3, ![1, 2048, 8192]⟩
abbrev S2048x8192 : Shape := ⟨2, ![2048, 8192]⟩
abbrev S4x2064x8192 : Shape := ⟨3, ![4, 2064, 8192]⟩
abbrev S_ : Shape := ⟨0, ![]⟩
abbrev S1x8192x2048 : Shape := ⟨3, ![1, 8192, 2048]⟩
abbrev S8192x2048 : Shape := ⟨2, ![8192, 2048]⟩
abbrev S4x2064 : Shape := ⟨2, ![4, 2064]⟩
abbrev S4x2064x1 : Shape := ⟨3, ![4, 2064, 1]⟩
abbrev S1x2048 : Shape := ⟨2, ![1, 2048]⟩
abbrev S2048 : Shape := ⟨1, ![2048]⟩
abbrev S1x1x2048 : Shape := ⟨3, ![1, 1, 2048]⟩
abbrev S4x2048x2048 : Shape := ⟨3, ![4, 2048, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2x2048x8192, .f32⟩
  | .hbm, ⟨2, _⟩ => ⟨S2x8192x2048, .f32⟩
  | .hbm, ⟨3, _⟩ => ⟨S2x2048, .f32⟩
  | .hbm, ⟨4, _⟩ => ⟨S2x2048, .f32⟩
  | .hbm, ⟨5, _⟩ => ⟨S4x2176x2048, .f32⟩
  | .hbm, ⟨6, _⟩ => ⟨S4x2064x2048, .f32⟩
  | .hbm, ⟨7, _⟩ => ⟨S1x2048x8192, .f32⟩
  | .hbm, ⟨8, _⟩ => ⟨S2048x8192, .f32⟩
  | .hbm, ⟨9, _⟩ => ⟨S4x2064x8192, .f32⟩
  | .hbm, ⟨10, _⟩ => ⟨S_, .f32⟩
  | .hbm, ⟨11, _⟩ => ⟨S4x2064x8192, .f32⟩
  | .hbm, ⟨12, _⟩ => ⟨S4x2064x8192, .f32⟩
  | .hbm, ⟨13, _⟩ => ⟨S4x2064x8192, .f32⟩
  | .hbm, ⟨14, _⟩ => ⟨S1x8192x2048, .f32⟩
  | .hbm, ⟨15, _⟩ => ⟨S8192x2048, .f32⟩
  | .hbm, ⟨16, _⟩ => ⟨S4x2064x2048, .f32⟩
  | .hbm, ⟨17, _⟩ => ⟨S_, .f32⟩
  | .hbm, ⟨18, _⟩ => ⟨S4x2064x2048, .f32⟩
  | .hbm, ⟨19, _⟩ => ⟨S4x2064x2048, .f32⟩
  | .hbm, ⟨20, _⟩ => ⟨S4x2064x2048, .f32⟩
  | .hbm, ⟨21, _⟩ => ⟨S_, .f32⟩
  | .hbm, ⟨22, _⟩ => ⟨S4x2064, .f32⟩
  | .hbm, ⟨23, _⟩ => ⟨S4x2064x1, .f32⟩
  | .hbm, ⟨24, _⟩ => ⟨S_, .f32⟩
  | .hbm, ⟨25, _⟩ => ⟨S4x2064x1, .f32⟩
  | .hbm, ⟨26, _⟩ => ⟨S4x2064x1, .f32⟩
  | .hbm, ⟨27, _⟩ => ⟨S4x2064x2048, .f32⟩
  | .hbm, ⟨28, _⟩ => ⟨S4x2064x2048, .f32⟩
  | .hbm, ⟨29, _⟩ => ⟨S4x2064x2048, .f32⟩
  | .hbm, ⟨30, _⟩ => ⟨S_, .f32⟩
  | .hbm, ⟨31, _⟩ => ⟨S4x2064, .f32⟩
  | .hbm, ⟨32, _⟩ => ⟨S4x2064x1, .f32⟩
  | .hbm, ⟨33, _⟩ => ⟨S_, .f32⟩
  | .hbm, ⟨34, _⟩ => ⟨S4x2064x1, .f32⟩
  | .hbm, ⟨35, _⟩ => ⟨S4x2064x1, .f32⟩
  | .hbm, ⟨36, _⟩ => ⟨S4x2064x2048, .f32⟩
  | .hbm, ⟨37, _⟩ => ⟨S4x2064x2048, .f32⟩
  | .hbm, ⟨38, _⟩ => ⟨S_, .f32⟩
  | .hbm, ⟨39, _⟩ => ⟨S4x2064x1, .f32⟩
  | .hbm, ⟨40, _⟩ => ⟨S4x2064x1, .f32⟩
  | .hbm, ⟨41, _⟩ => ⟨S4x2064x1, .f32⟩
  | .hbm, ⟨42, _⟩ => ⟨S4x2064x2048, .f32⟩
  | .hbm, ⟨43, _⟩ => ⟨S4x2064x2048, .f32⟩
  | .hbm, ⟨44, _⟩ => ⟨S1x2048, .f32⟩
  | .hbm, ⟨45, _⟩ => ⟨S2048, .f32⟩
  | .hbm, ⟨46, _⟩ => ⟨S1x1x2048, .f32⟩
  | .hbm, ⟨47, _⟩ => ⟨S4x2064x2048, .f32⟩
  | .hbm, ⟨48, _⟩ => ⟨S4x2064x2048, .f32⟩
  | .hbm, ⟨49, _⟩ => ⟨S1x2048, .f32⟩
  | .hbm, ⟨50, _⟩ => ⟨S2048, .f32⟩
  | .hbm, ⟨51, _⟩ => ⟨S1x1x2048, .f32⟩
  | .hbm, ⟨52, _⟩ => ⟨S4x2064x2048, .f32⟩
  | .hbm, ⟨53, _⟩ => ⟨S4x2064x2048, .f32⟩
  | .hbm, ⟨54, _⟩ => ⟨S4x2048x2048, .f32⟩
  | .hbm, ⟨55, _⟩ => ⟨S8192x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel3.lean ====
abbrev S8704x1024 : Shape := ⟨2, ![8704, 1024]⟩
abbrev S1x2048x2048 : Shape := ⟨3, ![1, 2048, 2048]⟩
abbrev S4x2048x2048 : Shape := ⟨3, ![4, 2048, 2048]⟩
abbrev S16x2048 : Shape := ⟨2, ![16, 2048]⟩
abbrev S2x2048 : Shape := ⟨2, ![2, 2048]⟩
abbrev S2048x2048 : Shape := ⟨2, ![2048, 2048]⟩
abbrev S1x2048 : Shape := ⟨2, ![1, 2048]⟩
abbrev S2048 : Shape := ⟨1, ![2048]⟩
abbrev S8192x2048 : Shape := ⟨2, ![8192, 2048]⟩
abbrev S8704x2048 : Shape := ⟨2, ![8704, 2048]⟩
abbrev S272x1024 : Shape := ⟨2, ![272, 1024]⟩
abbrev S272x2048 : Shape := ⟨2, ![272, 2048]⟩
abbrev S256x2048 : Shape := ⟨2, ![256, 2048]⟩
abbrev S160x2048 : Shape := ⟨2, ![160, 2048]⟩
abbrev S112x2048 : Shape := ⟨2, ![112, 2048]⟩
abbrev S1024x2048 : Shape := ⟨2, ![1024, 2048]⟩
abbrev S272 : Shape := ⟨1, ![272]⟩
abbrev S272x1 : Shape := ⟨2, ![272, 1]⟩

abbrev nBuf : Space → Nat
  | .hbm => 17
  | .vmem => 12
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S1x2048x2048, .f32⟩
  | .hbm, ⟨3, _⟩ => ⟨S4x2048x2048, .f32⟩
  | .hbm, ⟨4, _⟩ => ⟨S16x2048, .f32⟩
  | .hbm, ⟨5, _⟩ => ⟨S2x2048, .f32⟩
  | .hbm, ⟨6, _⟩ => ⟨S2x2048, .f32⟩
  | .hbm, ⟨7, _⟩ => ⟨S2048x2048, .f32⟩
  | .hbm, ⟨8, _⟩ => ⟨S2048x2048, .bf16⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S8192x2048, .f32⟩
  | .hbm, ⟨16, _⟩ => ⟨S8704x2048, .f32⟩
  | .local _ .vmem, ⟨0, _⟩ => ⟨S272x1024, .bf16⟩
  | .local _ .vmem, ⟨1, _⟩ => ⟨S272x1024, .bf16⟩
  | .local _ .vmem, ⟨2, _⟩ => ⟨S272x1024, .bf16⟩
  | .local _ .vmem, ⟨3, _⟩ => ⟨S272x1024, .bf16⟩
  | .local _ .vmem, ⟨4, _⟩ => ⟨S2048x2048, .bf16⟩
  | .local _ .vmem, ⟨5, _⟩ => ⟨S272x2048, .f32⟩
  | .local _ .vmem, ⟨6, _⟩ => ⟨S272x2048, .f32⟩
  | .local _ .vmem, ⟨7, _⟩ => ⟨S1x2048, .f32⟩
  | .local _ .vmem, ⟨8, _⟩ => ⟨S1x2048, .f32⟩
  | .local _ .vmem, ⟨9, _⟩ => ⟨S16x2048, .f32⟩
  | .local _ .vmem, ⟨10, _⟩ => ⟨S272x2048, .f32⟩
  | .local _ .vmem, ⟨11, _⟩ => ⟨S272x2048, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c0_i32_5 : BitVec 32 := 0#32
  let v15 : BitVec 1 := Scalar.cmpi .sgt arg0 c0_i32_5
  let v16 : BitVec 32 := Scalar.extui v15
  let c0_i32_6 : BitVec 32 := 0#32
  let v17 : BitVec 1 := Scalar.cmpi .slt arg0 c0_i32_6
  let v18 : BitVec 32 := Scalar.extui v17
  let v19 : BitVec 32 := Scalar.subi v16 v18
  let c8_i32_4 : BitVec 32 := 8#32
  let c0_i32_7 : BitVec 32 := 0#32
  let v20 : BitVec 1 := Scalar.cmpi .sgt c8_i32_4 c0_i32_7
  let v21 : BitVec 32 := Scalar.extui v20
  let c0_i32_8 : BitVec 32 := 0#32
  let v22 : BitVec 1 := Scalar.cmpi .slt c8_i32_4 c0_i32_8
  let v23 : BitVec 32 := Scalar.extui v22
  let v24 : BitVec 32 := Scalar.subi v21 v23
  let v25 : BitVec 1 := Scalar.cmpi .ne v19 v24
  let v26 : BitVec 32 := Scalar.remsi arg0 c8_i32_4
  let c0_i32_9 : BitVec 32 := 0#32
  let v27 : BitVec 1 := Scalar.cmpi .ne v26 c0_i32_9
  let v28 : BitVec 1 := Scalar.andi v25 v27
  let v14 : BitVec 32 := Scalar.divsi arg0 c8_i32_4
  let c1_i32_10 : BitVec 32 := 1#32
  let v29 : BitVec 32 := Scalar.subi v14 c1_i32_10
  let v30 : BitVec 32 := Scalar.select v28 v29 v14
  let c2048_i32 : BitVec 32 := 2048#32
  let v31 : BitVec 32 := Scalar.muli v30 c2048_i32
  let c1776_i32 : BitVec 32 := 1776#32
  let c0_i32_3 : BitVec 32 := 0#32
  let c272_i32 : BitVec 32 := 272#32
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.muli c272_i32 v9
  let c16_i32 : BitVec 32 := 16#32
  let v11 : BitVec 32 := Scalar.subi v10 c16_i32
  let v12 : BitVec 32 := Scalar.maxsi c0_i32_3 v11
  let v13 : BitVec 32 := Scalar.minsi c1776_i32 v12
  let v32 : BitVec 32 := Scalar.addi v31 v13
  v32
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c272_i32 : BitVec 32 := 272#32
  let v10 : BitVec 32 := Scalar.muli c272_i32 v9
  let c16_i32 : BitVec 32 := 16#32
  let v11 : BitVec 32 := Scalar.subi v10 c16_i32
  let c0_i32_3 : BitVec 32 := 0#32
  let c1776_i32 : BitVec 32 := 1776#32
  let v12 : BitVec 32 := Scalar.maxsi c0_i32_3 v11
  let v13 : BitVec 32 := Scalar.minsi c1776_i32 v12
  let c8_i32_4 : BitVec 32 := 8#32
  let v14 : BitVec 32 := Scalar.divsi arg0 c8_i32_4
  let c0_i32_5 : BitVec 32 := 0#32
  let v15 : BitVec 1 := Scalar.cmpi .sgt arg0 c0_i32_5
  let v16 : BitVec 32 := Scalar.extui v15
  let c0_i32_6 : BitVec 32 := 0#32
  let v17 : BitVec 1 := Scalar.cmpi .slt arg0 c0_i32_6
  let v18 : BitVec 32 := Scalar.extui v17
  let v19 : BitVec 32 := Scalar.subi v16 v18
  let c0_i32_7 : BitVec 32 := 0#32
  let v20 : BitVec 1 := Scalar.cmpi .sgt c8_i32_4 c0_i32_7
  let v21 : BitVec 32 := Scalar.extui v20
  let c0_i32_8 : BitVec 32 := 0#32
  let v22 : BitVec 1 := Scalar.cmpi .slt c8_i32_4 c0_i32_8
  let v23 : BitVec 32 := Scalar.extui v22
  let v24 : BitVec 32 := Scalar.subi v21 v23
  let v25 : BitVec 1 := Scalar.cmpi .ne v19 v24
  let v26 : BitVec 32 := Scalar.remsi arg0 c8_i32_4
  let c0_i32_9 : BitVec 32 := 0#32
  let v27 : BitVec 1 := Scalar.cmpi .ne v26 c0_i32_9
  let v28 : BitVec 1 := Scalar.andi v25 v27
  let c1_i32_10 : BitVec 32 := 1#32
  let v29 : BitVec 32 := Scalar.subi v14 c1_i32_10
  let v30 : BitVec 32 := Scalar.select v28 v29 v14
  let c2048_i32 : BitVec 32 := 2048#32
  let v31 : BitVec 32 := Scalar.muli v30 c2048_i32
  let v32 : BitVec 32 := Scalar.addi v31 v13
  let v33 : BitVec 32 := v32
  let c0_i32_11 : BitVec 32 := 0#32
  let c0_i32_12 : BitVec 32 := 0#32
  ![v33.toNat, c0_i32_11.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S272x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S272x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S8704x1024 : Shape := ⟨2, ![8704, 1024]⟩
abbrev S1x2048x2048 : Shape := ⟨3, ![1, 2048, 2048]⟩
abbrev S4x2048x2048 : Shape := ⟨3, ![4, 2048, 2048]⟩
abbrev S16x2048 : Shape := ⟨2, ![16, 2048]⟩
abbrev S2x2048 : Shape := ⟨2, ![2, 2048]⟩
abbrev S1x16x2048 : Shape := ⟨3, ![1, 16, 2048]⟩
abbrev S4x16x2048 : Shape := ⟨3, ![4, 16, 2048]⟩
abbrev S_ : Shape := ⟨0, ![]⟩
abbrev S4x112x2048 : Shape := ⟨3, ![4, 112, 2048]⟩
abbrev S4x2176x2048 : Shape := ⟨3, ![4, 2176, 2048]⟩
abbrev S8704x2048 : Shape := ⟨2, ![8704, 2048]⟩
abbrev S2048x2048 : Shape := ⟨2, ![2048, 2048]⟩
abbrev S8704 : Shape := ⟨1, ![8704]⟩
abbrev S8704x1 : Shape := ⟨2, ![8704, 1]⟩
abbrev S1x2048 : Shape := ⟨2, ![1, 2048]⟩
abbrev S2048 : Shape := ⟨1, ![2048]⟩

abbrev nBuf : Space → Nat
  | .hbm => 55
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S1x2048x2048, .f32⟩
  | .hbm, ⟨3, _⟩ => ⟨S4x2048x2048, .f32⟩
  | .hbm, ⟨4, _⟩ => ⟨S16x2048, .f32⟩
  | .hbm, ⟨5, _⟩ => ⟨S2x2048, .f32⟩
  | .hbm, ⟨6, _⟩ => ⟨S2x2048, .f32⟩
  | .hbm, ⟨7, _⟩ => ⟨S1x16x2048, .f32⟩
  | .hbm, ⟨8, _⟩ => ⟨S4x16x2048, .f32⟩
  | .hbm, ⟨9, _⟩ => ⟨S_, .f32⟩
  | .hbm, ⟨10, _⟩ => ⟨S4x112x2048, .f32⟩
  | .hbm, ⟨11, _⟩ => ⟨S4x2176x2048, .f32⟩
  | .hbm, ⟨12, _⟩ => ⟨S8704x2048, .f32⟩
  | .hbm, ⟨13, _⟩ => ⟨S8704x1024, .f32⟩
  | .hbm, ⟨14, _⟩ => ⟨S8704x1024, .f32⟩
  | .hbm, ⟨15, _⟩ => ⟨S8704x2048, .f32⟩
  | .hbm, ⟨16, _⟩ => ⟨S2048x2048, .f32⟩
  | .hbm, ⟨17, _⟩ => ⟨S8704x2048, .f32⟩
  | .hbm, ⟨18, _⟩ => ⟨S_, .f32⟩
  | .hbm, ⟨19, _⟩ => ⟨S8704x2048, .f32⟩
  | .hbm, ⟨20, _⟩ => ⟨S8704x2048, .f32⟩
  | .hbm, ⟨21, _⟩ => ⟨S8704x2048, .f32⟩
  | .hbm, ⟨22, _⟩ => ⟨S_, .f32⟩
  | .hbm, ⟨23, _⟩ => ⟨S8704, .f32⟩
  | .hbm, ⟨24, _⟩ => ⟨S8704x1, .f32⟩
  | .hbm, ⟨25, _⟩ => ⟨S_, .f32⟩
  | .hbm, ⟨26, _⟩ => ⟨S8704x1, .f32⟩
  | .hbm, ⟨27, _⟩ => ⟨S8704x1, .f32⟩
  | .hbm, ⟨28, _⟩ => ⟨S8704x2048, .f32⟩
  | .hbm, ⟨29, _⟩ => ⟨S8704x2048, .f32⟩
  | .hbm, ⟨30, _⟩ => ⟨S8704x2048, .f32⟩
  | .hbm, ⟨31, _⟩ => ⟨S_, .f32⟩
  | .hbm, ⟨32, _⟩ => ⟨S8704, .f32⟩
  | .hbm, ⟨33, _⟩ => ⟨S8704x1, .f32⟩
  | .hbm, ⟨34, _⟩ => ⟨S_, .f32⟩
  | .hbm, ⟨35, _⟩ => ⟨S8704x1, .f32⟩
  | .hbm, ⟨36, _⟩ => ⟨S8704x1, .f32⟩
  | .hbm, ⟨37, _⟩ => ⟨S8704x2048, .f32⟩
  | .hbm, ⟨38, _⟩ => ⟨S8704x2048, .f32⟩
  | .hbm, ⟨39, _⟩ => ⟨S_, .f32⟩
  | .hbm, ⟨40, _⟩ => ⟨S8704x1, .f32⟩
  | .hbm, ⟨41, _⟩ => ⟨S8704x1, .f32⟩
  | .hbm, ⟨42, _⟩ => ⟨S8704x1, .f32⟩
  | .hbm, ⟨43, _⟩ => ⟨S8704x2048, .f32⟩
  | .hbm, ⟨44, _⟩ => ⟨S8704x2048, .f32⟩
  | .hbm, ⟨45, _⟩ => ⟨S1x2048, .f32⟩
  | .hbm, ⟨46, _⟩ => ⟨S2048, .f32⟩
  | .hbm, ⟨47, _⟩ => ⟨S1x2048, .f32⟩
  | .hbm, ⟨48, _⟩ => ⟨S8704x2048, .f32⟩
  | .hbm, ⟨49, _⟩ => ⟨S8704x2048, .f32⟩
  | .hbm, ⟨50, _⟩ => ⟨S1x2048, .f32⟩
  | .hbm, ⟨51, _⟩ => ⟨S2048, .f32⟩
  | .hbm, ⟨52, _⟩ => ⟨S1x2048, .f32⟩
  | .hbm, ⟨53, _⟩ => ⟨S8704x2048, .f32⟩
  | .hbm, ⟨54, _⟩ => ⟨S8704x2048, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel4.lean ====
abbrev S1x2048x6152 : Shape := ⟨3, ![1, 2048, 6152]⟩
abbrev S2048x6152 : Shape := ⟨2, ![2048, 6152]⟩
abbrev S6152x2048 : Shape := ⟨2, ![6152, 2048]⟩
abbrev S6144x2048 : Shape := ⟨2, ![6144, 2048]⟩
abbrev S1024x2048 : Shape := ⟨2, ![1024, 2048]⟩

abbrev nBuf : Space → Nat
  | .hbm => 4
  | .vmem => 4
  | .smem => 0
  | _ => 0

abbrev bufTy : (tb : Table) → Fin (tcTables nBuf tb) → BufTy
  | .hbm, ⟨0, _⟩ => ⟨S1x2048x6152, .f32⟩
  | .hbm, ⟨1, _⟩ => ⟨S2048x6152, .f32⟩
  | .hbm, ⟨2, _⟩ => ⟨S6152x2048, .f32⟩
  | .hbm, ⟨3, _⟩ => ⟨S6144x2048, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | _, _ => ⟨S1x2048x6152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![6], ![false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  let c4_i32 : BitVec 32 := 4#32
  let v1 : BitVec 1 := Scalar.cmpi .sge arg0 c4_i32
  let c8_i32 : BitVec 32 := 8#32
  let c0_i32 : BitVec 32 := 0#32
  let v2 : BitVec 32 := Scalar.select v1 c8_i32 c0_i32
  let v3 : BitVec 32 := Scalar.addi v0 v2
  v3
def cc0_transform_0 (i : grid0.Coords) : Fin 2 → Nat :=
  let arg0 : BitVec 32 := BitVec.ofNat 32 (i 0).val
  let c1024_i32 : BitVec 32 := 1024#32
  let v0 : BitVec 32 := Scalar.muli arg0 c1024_i32
  let c4_i32 : BitVec 32 := 4#32
  let v1 : BitVec 1 := Scalar.cmpi .sge arg0 c4_i32
  let c8_i32 : BitVec 32 := 8#32
  let c0_i32 : BitVec 32 := 0#32
  let v2 : BitVec 32 := Scalar.select v1 c8_i32 c0_i32
  let v3 : BitVec 32 := Scalar.addi v0 v2
  let v4 : BitVec 32 := v3
  let c0_i32_0 : BitVec 32 := 0#32
  let c0_i32_1 : BitVec 32 := 0#32
  ![v4.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference4Ideal.lean ====
abbrev S1x2048x6152 : Shape := ⟨3, ![1, 2048, 6152]⟩
abbrev S2048x6152 : Shape := ⟨2, ![2048, 6152]⟩
abbrev S2048x4096 : Shape := ⟨2, ![2048, 4096]⟩
abbrev S2048x2048 : Shape := ⟨2, ![2048, 2048]⟩
abbrev S2048x6144 : Shape := ⟨2, ![2048, 6144]⟩
abbrev S6144x2048 : Shape := ⟨2, ![6144, 2048]⟩

abbrev nBuf : Space → Nat
  | .hbm => 8
  | .vmem => 0
  | .smem => 0
  | _ => 0

abbrev bufTy : (tb : Table) → Fin (tcTables nBuf tb) → BufTy
  | .hbm, ⟨0, _⟩ => ⟨S1x2048x6152, .f32⟩
  | .hbm, ⟨1, _⟩ => ⟨S2048x6152, .f32⟩
  | .hbm, ⟨2, _⟩ => ⟨S2048x4096, .f32⟩
  | .hbm, ⟨3, _⟩ => ⟨S2048x6152, .f32⟩
  | .hbm, ⟨4, _⟩ => ⟨S2048x2048, .f32⟩
  | .hbm, ⟨5, _⟩ => ⟨S2048x6144, .f32⟩
  | .hbm, ⟨6, _⟩ => ⟨S6144x2048, .f32⟩
  | .hbm, ⟨7, _⟩ => ⟨S6144x2048, .bf16⟩
  | _, _ => ⟨S1x2048x6152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩

abbrev nD : Nat := 1
abbrev τ : Topo := Topo.v7x

variable {F : FTy → Type} [FloatOps F]
-- ==== Kernel5.lean ====
abbrev S1024x2048 : Shape := ⟨2, ![1024, 2048]⟩
abbrev S2x2048x8192 : Shape := ⟨3, ![2, 2048, 8192]⟩
abbrev S2x8192x2048 : Shape := ⟨3, ![2, 8192, 2048]⟩
abbrev S2x2048 : Shape := ⟨2, ![2, 2048]⟩
abbrev S1x2048 : Shape := ⟨2, ![1, 2048]⟩
abbrev S2048 : Shape := ⟨1, ![2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 14
  | .vmem => 9
  | .smem => 0
  | _ => 0

abbrev bufTy : (tb : Table) → Fin (tcTables nBuf tb) → BufTy
  | .hbm, ⟨0, _⟩ => ⟨S1024x2048, .f32⟩
  | .hbm, ⟨1, _⟩ => ⟨S2x2048x8192, .f32⟩
  | .hbm, ⟨2, _⟩ => ⟨S2x8192x2048, .f32⟩
  | .hbm, ⟨3, _⟩ => ⟨S2x2048, .f32⟩
  | .hbm, ⟨4, _⟩ => ⟨S2x2048, .f32⟩
  | .hbm, ⟨5, _⟩ => ⟨S2x2048x8192, .bf16⟩
  | .hbm, ⟨6, _⟩ => ⟨S2x8192x2048, .bf16⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S1024x2048, .f32⟩
  | .local _ .vmem, ⟨0, _⟩ => ⟨S1024x2048, .f32⟩
  | .local _ .vmem, ⟨1, _⟩ => ⟨S1x2048x1024, .bf16⟩
  | .local _ .vmem, ⟨2, _⟩ => ⟨S1x2048x1024, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x2048, .f32⟩
  | .local _ .vmem, ⟨6, _⟩ => ⟨S1x2048, .f32⟩
  | .local _ .vmem, ⟨7, _⟩ => ⟨S1024x2048, .f32⟩
  | .local _ .vmem, ⟨8, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference5Ideal.lean ====
abbrev S1024x2048 : Shape := ⟨2, ![1024, 2048]⟩
abbrev S2x2048x8192 : Shape := ⟨3, ![2, 2048, 8192]⟩
abbrev S2x8192x2048 : Shape := ⟨3, ![2, 8192, 2048]⟩
abbrev S2x2048 : Shape := ⟨2, ![2, 2048]⟩
abbrev S1x2048x8192 : Shape := ⟨3, ![1, 2048, 8192]⟩
abbrev S2048x8192 : Shape := ⟨2, ![2048, 8192]⟩
abbrev S1024x8192 : Shape := ⟨2, ![1024, 8192]⟩
abbrev S_ : Shape := ⟨0, ![]⟩
abbrev S1x8192x2048 : Shape := ⟨3, ![1, 8192, 2048]⟩
abbrev S8192x2048 : Shape := ⟨2, ![8192, 2048]⟩
abbrev S1024 : Shape := ⟨1, ![1024]⟩
abbrev S1024x1 : Shape := ⟨2, ![1024, 1]⟩
abbrev S1x2048 : Shape := ⟨2, ![1, 2048]⟩
abbrev S2048 : Shape := ⟨1, ![2048]⟩

abbrev nBuf : Space → Nat
  | .hbm => 52
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2x2048x8192, .f32⟩
  | .hbm, ⟨2, _⟩ => ⟨S2x8192x2048, .f32⟩
  | .hbm, ⟨3, _⟩ => ⟨S2x2048, .f32⟩
  | .hbm, ⟨4, _⟩ => ⟨S2x2048, .f32⟩
  | .hbm, ⟨5, _⟩ => ⟨S1x2048x8192, .f32⟩
  | .hbm, ⟨6, _⟩ => ⟨S2048x8192, .f32⟩
  | .hbm, ⟨7, _⟩ => ⟨S1024x8192, .f32⟩
  | .hbm, ⟨8, _⟩ => ⟨S_, .f32⟩
  | .hbm, ⟨9, _⟩ => ⟨S1024x8192, .f32⟩
  | .hbm, ⟨10, _⟩ => ⟨S1024x8192, .f32⟩
  | .hbm, ⟨11, _⟩ => ⟨S1024x8192, .f32⟩
  | .hbm, ⟨12, _⟩ => ⟨S1x8192x2048, .f32⟩
  | .hbm, ⟨13, _⟩ => ⟨S8192x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024, .f32⟩
  | .hbm, ⟨21, _⟩ => ⟨S1024x1, .f32⟩
  | .hbm, ⟨22, _⟩ => ⟨S_, .f32⟩
  | .hbm, ⟨23, _⟩ => ⟨S1024x1, .f32⟩
  | .hbm, ⟨24, _⟩ => ⟨S1024x1, .f32⟩
  | .hbm, ⟨25, _⟩ => ⟨S1024x2048, .f32⟩
  | .hbm, ⟨26, _⟩ => ⟨S1024x2048, .f32⟩
  | .hbm, ⟨27, _⟩ => ⟨S1024x2048, .f32⟩
  | .hbm, ⟨28, _⟩ => ⟨S_, .f32⟩
  | .hbm, ⟨29, _⟩ => ⟨S1024, .f32⟩
  | .hbm, ⟨30, _⟩ => ⟨S1024x1, .f32⟩
  | .hbm, ⟨31, _⟩ => ⟨S_, .f32⟩
  | .hbm, ⟨32, _⟩ => ⟨S1024x1, .f32⟩
  | .hbm, ⟨33, _⟩ => ⟨S1024x1, .f32⟩
  | .hbm, ⟨34, _⟩ => ⟨S1024x2048, .f32⟩
  | .hbm, ⟨35, _⟩ => ⟨S1024x2048, .f32⟩
  | .hbm, ⟨36, _⟩ => ⟨S_, .f32⟩
  | .hbm, ⟨37, _⟩ => ⟨S1024x1, .f32⟩
  | .hbm, ⟨38, _⟩ => ⟨S1024x1, .f32⟩
  | .hbm, ⟨39, _⟩ => ⟨S1024x1, .f32⟩
  | .hbm, ⟨40, _⟩ => ⟨S1024x2048, .f32⟩
  | .hbm, ⟨41, _⟩ => ⟨S1024x2048, .f32⟩
  | .hbm, ⟨42, _⟩ => ⟨S1x2048, .f32⟩
  | .hbm, ⟨43, _⟩ => ⟨S2048, .f32⟩
  | .hbm, ⟨44, _⟩ => ⟨S1x2048, .f32⟩
  | .hbm, ⟨45, _⟩ => ⟨S1024x2048, .f32⟩
  | .hbm, ⟨46, _⟩ => ⟨S1024x2048, .f32⟩
  | .hbm, ⟨47, _⟩ => ⟨S1x2048, .f32⟩
  | .hbm, ⟨48, _⟩ => ⟨S2048, .f32⟩
  | .hbm, ⟨49, _⟩ => ⟨S1x2048, .f32⟩
  | .hbm, ⟨50, _⟩ => ⟨S1024x2048, .f32⟩
  | .hbm, ⟨51, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel8.lean ====
abbrev S1024x2048 : Shape := ⟨2, ![1024, 2048]⟩
abbrev S2x2048x8192 : Shape := ⟨3, ![2, 2048, 8192]⟩
abbrev S2x8192x2048 : Shape := ⟨3, ![2, 8192, 2048]⟩
abbrev S2x2048 : Shape := ⟨2, ![2, 2048]⟩
abbrev S1x2048 : Shape := ⟨2, ![1, 2048]⟩
abbrev S2048 : Shape := ⟨1, ![2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩
abbrev S128x8x2048 : Shape := ⟨3, ![128, 8, 2048]⟩
abbrev S128x1x2048 : Shape := ⟨3, ![128, 1, 2048]⟩
abbrev S128x2048 : Shape := ⟨2, ![128, 2048]⟩
abbrev S1x128x2048 : Shape := ⟨3, ![1, 128, 2048]⟩

abbrev nBuf : Space → Nat
  | .hbm => 18
  | .vmem => 9
  | .smem => 0
  | _ => 0

abbrev bufTy : (tb : Table) → Fin (tcTables nBuf tb) → BufTy
  | .hbm, ⟨0, _⟩ => ⟨S1024x2048, .f32⟩
  | .hbm, ⟨1, _⟩ => ⟨S2x2048x8192, .f32⟩
  | .hbm, ⟨2, _⟩ => ⟨S2x8192x2048, .f32⟩
  | .hbm, ⟨3, _⟩ => ⟨S2x2048, .f32⟩
  | .hbm, ⟨4, _⟩ => ⟨S2x2048, .f32⟩
  | .hbm, ⟨5, _⟩ => ⟨S2x2048x8192, .bf16⟩
  | .hbm, ⟨6, _⟩ => ⟨S2x8192x2048, .bf16⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S1024x2048, .f32⟩
  | .hbm, ⟨14, _⟩ => ⟨S128x8x2048, .f32⟩
  | .hbm, ⟨15, _⟩ => ⟨S128x1x2048, .f32⟩
  | .hbm, ⟨16, _⟩ => ⟨S128x2048, .f32⟩
  | .hbm, ⟨17, _⟩ => ⟨S1x128x2048, .f32⟩
  | .local _ .vmem, ⟨0, _⟩ => ⟨S1024x2048, .f32⟩
  | .local _ .vmem, ⟨1, _⟩ => ⟨S1x2048x1024, .bf16⟩
  | .local _ .vmem, ⟨2, _⟩ => ⟨S1x2048x1024, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x2048, .f32⟩
  | .local _ .vmem, ⟨6, _⟩ => ⟨S1x2048, .f32⟩
  | .local _ .vmem, ⟨7, _⟩ => ⟨S1024x2048, .f32⟩
  | .local _ .vmem, ⟨8, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference8Ideal.lean ====
abbrev S1024x2048 : Shape := ⟨2, ![1024, 2048]⟩
abbrev S2x2048x8192 : Shape := ⟨3, ![2, 2048, 8192]⟩
abbrev S2x8192x2048 : Shape := ⟨3, ![2, 8192, 2048]⟩
abbrev S2x2048 : Shape := ⟨2, ![2, 2048]⟩
abbrev S1x2048x8192 : Shape := ⟨3, ![1, 2048, 8192]⟩
abbrev S2048x8192 : Shape := ⟨2, ![2048, 8192]⟩
abbrev S1024x8192 : Shape := ⟨2, ![1024, 8192]⟩
abbrev S_ : Shape := ⟨0, ![]⟩
abbrev S1x8192x2048 : Shape := ⟨3, ![1, 8192, 2048]⟩
abbrev S8192x2048 : Shape := ⟨2, ![8192, 2048]⟩
abbrev S1024 : Shape := ⟨1, ![1024]⟩
abbrev S1024x1 : Shape := ⟨2, ![1024, 1]⟩
abbrev S1x2048 : Shape := ⟨2, ![1, 2048]⟩
abbrev S2048 : Shape := ⟨1, ![2048]⟩
abbrev S128x8x2048 : Shape := ⟨3, ![128, 8, 2048]⟩
abbrev S128x1x2048 : Shape := ⟨3, ![128, 1, 2048]⟩
abbrev S128x2048 : Shape := ⟨2, ![128, 2048]⟩
abbrev S1x128x2048 : Shape := ⟨3, ![1, 128, 2048]⟩

abbrev nBuf : Space → Nat
  | .hbm => 56
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2x2048x8192, .f32⟩
  | .hbm, ⟨2, _⟩ => ⟨S2x8192x2048, .f32⟩
  | .hbm, ⟨3, _⟩ => ⟨S2x2048, .f32⟩
  | .hbm, ⟨4, _⟩ => ⟨S2x2048, .f32⟩
  | .hbm, ⟨5, _⟩ => ⟨S1x2048x8192, .f32⟩
  | .hbm, ⟨6, _⟩ => ⟨S2048x8192, .f32⟩
  | .hbm, ⟨7, _⟩ => ⟨S1024x8192, .f32⟩
  | .hbm, ⟨8, _⟩ => ⟨S_, .f32⟩
  | .hbm, ⟨9, _⟩ => ⟨S1024x8192, .f32⟩
  | .hbm, ⟨10, _⟩ => ⟨S1024x8192, .f32⟩
  | .hbm, ⟨11, _⟩ => ⟨S1024x8192, .f32⟩
  | .hbm, ⟨12, _⟩ => ⟨S1x8192x2048, .f32⟩
  | .hbm, ⟨13, _⟩ => ⟨S8192x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024, .f32⟩
  | .hbm, ⟨21, _⟩ => ⟨S1024x1, .f32⟩
  | .hbm, ⟨22, _⟩ => ⟨S_, .f32⟩
  | .hbm, ⟨23, _⟩ => ⟨S1024x1, .f32⟩
  | .hbm, ⟨24, _⟩ => ⟨S1024x1, .f32⟩
  | .hbm, ⟨25, _⟩ => ⟨S1024x2048, .f32⟩
  | .hbm, ⟨26, _⟩ => ⟨S1024x2048, .f32⟩
  | .hbm, ⟨27, _⟩ => ⟨S1024x2048, .f32⟩
  | .hbm, ⟨28, _⟩ => ⟨S_, .f32⟩
  | .hbm, ⟨29, _⟩ => ⟨S1024, .f32⟩
  | .hbm, ⟨30, _⟩ => ⟨S1024x1, .f32⟩
  | .hbm, ⟨31, _⟩ => ⟨S_, .f32⟩
  | .hbm, ⟨32, _⟩ => ⟨S1024x1, .f32⟩
  | .hbm, ⟨33, _⟩ => ⟨S1024x1, .f32⟩
  | .hbm, ⟨34, _⟩ => ⟨S1024x2048, .f32⟩
  | .hbm, ⟨35, _⟩ => ⟨S1024x2048, .f32⟩
  | .hbm, ⟨36, _⟩ => ⟨S_, .f32⟩
  | .hbm, ⟨37, _⟩ => ⟨S1024x1, .f32⟩
  | .hbm, ⟨38, _⟩ => ⟨S1024x1, .f32⟩
  | .hbm, ⟨39, _⟩ => ⟨S1024x1, .f32⟩
  | .hbm, ⟨40, _⟩ => ⟨S1024x2048, .f32⟩
  | .hbm, ⟨41, _⟩ => ⟨S1024x2048, .f32⟩
  | .hbm, ⟨42, _⟩ => ⟨S1x2048, .f32⟩
  | .hbm, ⟨43, _⟩ => ⟨S2048, .f32⟩
  | .hbm, ⟨44, _⟩ => ⟨S1x2048, .f32⟩
  | .hbm, ⟨45, _⟩ => ⟨S1024x2048, .f32⟩
  | .hbm, ⟨46, _⟩ => ⟨S1024x2048, .f32⟩
  | .hbm, ⟨47, _⟩ => ⟨S1x2048, .f32⟩
  | .hbm, ⟨48, _⟩ => ⟨S2048, .f32⟩
  | .hbm, ⟨49, _⟩ => ⟨S1x2048, .f32⟩
  | .hbm, ⟨50, _⟩ => ⟨S1024x2048, .f32⟩
  | .hbm, ⟨51, _⟩ => ⟨S1024x2048, .f32⟩
  | .hbm, ⟨52, _⟩ => ⟨S128x8x2048, .f32⟩
  | .hbm, ⟨53, _⟩ => ⟨S128x1x2048, .f32⟩
  | .hbm, ⟨54, _⟩ => ⟨S128x2048, .f32⟩
  | .hbm, ⟨55, _⟩ => ⟨S1x128x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel9.lean ====
abbrev S8704x2048 : Shape := ⟨2, ![8704, 2048]⟩
abbrev S2x2048x8192 : Shape := ⟨3, ![2, 2048, 8192]⟩
abbrev S2x8192x2048 : Shape := ⟨3, ![2, 8192, 2048]⟩
abbrev S2x2048 : Shape := ⟨2, ![2, 2048]⟩
abbrev S1x2048 : Shape := ⟨2, ![1, 2048]⟩
abbrev S2048 : Shape := ⟨1, ![2048]⟩
abbrev S1088x2048 : Shape := ⟨2, ![1088, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S1088x1024 : Shape := ⟨2, ![1088, 1024]⟩
abbrev S1024x2048 : Shape := ⟨2, ![1024, 2048]⟩
abbrev S1088 : Shape := ⟨1, ![1088]⟩
abbrev S1088x1 : Shape := ⟨2, ![1088, 1]⟩
abbrev S4x2176x2048 : Shape := ⟨3, ![4, 2176, 2048]⟩
abbrev S4x1x2048 : Shape := ⟨3, ![4, 1, 2048]⟩
abbrev S4x2048 : Shape := ⟨2, ![4, 2048]⟩
abbrev S1x4x2048 : Shape := ⟨3, ![1, 4, 2048]⟩

abbrev nBuf : Space → Nat
  | .hbm => 18
  | .vmem => 9
  | .smem => 0
  | _ => 0

abbrev bufTy : (tb : Table) → Fin (tcTables nBuf tb) → BufTy
  | .hbm, ⟨0, _⟩ => ⟨S8704x2048, .f32⟩
  | .hbm, ⟨1, _⟩ => ⟨S2x2048x8192, .f32⟩
  | .hbm, ⟨2, _⟩ => ⟨S2x8192x2048, .f32⟩
  | .hbm, ⟨3, _⟩ => ⟨S2x2048, .f32⟩
  | .hbm, ⟨4, _⟩ => ⟨S2x2048, .f32⟩
  | .hbm, ⟨5, _⟩ => ⟨S2x2048x8192, .bf16⟩
  | .hbm, ⟨6, _⟩ => ⟨S2x8192x2048, .bf16⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S8704x2048, .f32⟩
  | .hbm, ⟨14, _⟩ => ⟨S4x2176x2048, .f32⟩
  | .hbm, ⟨15, _⟩ => ⟨S4x1x2048, .f32⟩
  | .hbm, ⟨16, _⟩ => ⟨S4x2048, .f32⟩
  | .hbm, ⟨17, _⟩ => ⟨S1x4x2048, .f32⟩
  | .local _ .vmem, ⟨0, _⟩ => ⟨S1088x2048, .f32⟩
  | .local _ .vmem, ⟨1, _⟩ => ⟨S1x2048x1024, .bf16⟩
  | .local _ .vmem, ⟨2, _⟩ => ⟨S1x2048x1024, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x2048, .f32⟩
  | .local _ .vmem, ⟨6, _⟩ => ⟨S1x2048, .f32⟩
  | .local _ .vmem, ⟨7, _⟩ => ⟨S1088x2048, .f32⟩
  | .local _ .vmem, ⟨8, _⟩ => ⟨S1088x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1088x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1088x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference9Ideal.lean ====
abbrev S8704x2048 : Shape := ⟨2, ![8704, 2048]⟩
abbrev S2x2048x8192 : Shape := ⟨3, ![2, 2048, 8192]⟩
abbrev S2x8192x2048 : Shape := ⟨3, ![2, 8192, 2048]⟩
abbrev S2x2048 : Shape := ⟨2, ![2, 2048]⟩
abbrev S1x2048x8192 : Shape := ⟨3, ![1, 2048, 8192]⟩
abbrev S2048x8192 : Shape := ⟨2, ![2048, 8192]⟩
abbrev S8704x8192 : Shape := ⟨2, ![8704, 8192]⟩
abbrev S_ : Shape := ⟨0, ![]⟩
abbrev S1x8192x2048 : Shape := ⟨3, ![1, 8192, 2048]⟩
abbrev S8192x2048 : Shape := ⟨2, ![8192, 2048]⟩
abbrev S8704 : Shape := ⟨1, ![8704]⟩
abbrev S8704x1 : Shape := ⟨2, ![8704, 1]⟩
abbrev S1x2048 : Shape := ⟨2, ![1, 2048]⟩
abbrev S2048 : Shape := ⟨1, ![2048]⟩
abbrev S4x2176x2048 : Shape := ⟨3, ![4, 2176, 2048]⟩
abbrev S4x2064x2048 : Shape := ⟨3, ![4, 2064, 2048]⟩
abbrev S4x1x2048 : Shape := ⟨3, ![4, 1, 2048]⟩
abbrev S4x2048 : Shape := ⟨2, ![4, 2048]⟩
abbrev S1x4x2048 : Shape := ⟨3, ![1, 4, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2x2048x8192, .f32⟩
  | .hbm, ⟨2, _⟩ => ⟨S2x8192x2048, .f32⟩
  | .hbm, ⟨3, _⟩ => ⟨S2x2048, .f32⟩
  | .hbm, ⟨4, _⟩ => ⟨S2x2048, .f32⟩
  | .hbm, ⟨5, _⟩ => ⟨S1x2048x8192, .f32⟩
  | .hbm, ⟨6, _⟩ => ⟨S2048x8192, .f32⟩
  | .hbm, ⟨7, _⟩ => ⟨S8704x8192, .f32⟩
  | .hbm, ⟨8, _⟩ => ⟨S_, .f32⟩
  | .hbm, ⟨9, _⟩ => ⟨S8704x8192, .f32⟩
  | .hbm, ⟨10, _⟩ => ⟨S8704x8192, .f32⟩
  | .hbm, ⟨11, _⟩ => ⟨S8704x8192, .f32⟩
  | .hbm, ⟨12, _⟩ => ⟨S1x8192x2048, .f32⟩
  | .hbm, ⟨13, _⟩ => ⟨S8192x2048, .f32⟩
  | .hbm, ⟨14, _⟩ => ⟨S8704x2048, .f32⟩
  | .hbm, ⟨15, _⟩ => ⟨S_, .f32⟩
  | .hbm, ⟨16, _⟩ => ⟨S8704x2048, .f32⟩
  | .hbm, ⟨17, _⟩ => ⟨S8704x2048, .f32⟩
  | .hbm, ⟨18, _⟩ => ⟨S8704x2048, .f32⟩
  | .hbm, ⟨19, _⟩ => ⟨S_, .f32⟩
  | .hbm, ⟨20, _⟩ => ⟨S8704, .f32⟩
  | .hbm, ⟨21, _⟩ => ⟨S8704x1, .f32⟩
  | .hbm, ⟨22, _⟩ => ⟨S_, .f32⟩
  | .hbm, ⟨23, _⟩ => ⟨S8704x1, .f32⟩
  | .hbm, ⟨24, _⟩ => ⟨S8704x1, .f32⟩
  | .hbm, ⟨25, _⟩ => ⟨S8704x2048, .f32⟩
  | .hbm, ⟨26, _⟩ => ⟨S8704x2048, .f32⟩
  | .hbm, ⟨27, _⟩ => ⟨S8704x2048, .f32⟩
  | .hbm, ⟨28, _⟩ => ⟨S_, .f32⟩
  | .hbm, ⟨29, _⟩ => ⟨S8704, .f32⟩
  | .hbm, ⟨30, _⟩ => ⟨S8704x1, .f32⟩
  | .hbm, ⟨31, _⟩ => ⟨S_, .f32⟩
  | .hbm, ⟨32, _⟩ => ⟨S8704x1, .f32⟩
  | .hbm, ⟨33, _⟩ => ⟨S8704x1, .f32⟩
  | .hbm, ⟨34, _⟩ => ⟨S8704x2048, .f32⟩
  | .hbm, ⟨35, _⟩ => ⟨S8704x2048, .f32⟩
  | .hbm, ⟨36, _⟩ => ⟨S_, .f32⟩
  | .hbm, ⟨37, _⟩ => ⟨S8704x1, .f32⟩
  | .hbm, ⟨38, _⟩ => ⟨S8704x1, .f32⟩
  | .hbm, ⟨39, _⟩ => ⟨S8704x1, .f32⟩
  | .hbm, ⟨40, _⟩ => ⟨S8704x2048, .f32⟩
  | .hbm, ⟨41, _⟩ => ⟨S8704x2048, .f32⟩
  | .hbm, ⟨42, _⟩ => ⟨S1x2048, .f32⟩
  | .hbm, ⟨43, _⟩ => ⟨S2048, .f32⟩
  | .hbm, ⟨44, _⟩ => ⟨S1x2048, .f32⟩
  | .hbm, ⟨45, _⟩ => ⟨S8704x2048, .f32⟩
  | .hbm, ⟨46, _⟩ => ⟨S8704x2048, .f32⟩
  | .hbm, ⟨47, _⟩ => ⟨S1x2048, .f32⟩
  | .hbm, ⟨48, _⟩ => ⟨S2048, .f32⟩
  | .hbm, ⟨49, _⟩ => ⟨S1x2048, .f32⟩
  | .hbm, ⟨50, _⟩ => ⟨S8704x2048, .f32⟩
  | .hbm, ⟨51, _⟩ => ⟨S8704x2048, .f32⟩
  | .hbm, ⟨52, _⟩ => ⟨S4x2176x2048, .f32⟩
  | .hbm, ⟨53, _⟩ => ⟨S4x2064x2048, .f32⟩
  | .hbm, ⟨54, _⟩ => ⟨S4x1x2048, .f32⟩
  | .hbm, ⟨55, _⟩ => ⟨S4x2048, .f32⟩
  | .hbm, ⟨56, _⟩ => ⟨S1x4x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Kernel10.lean ====
abbrev S8704x2048 : Shape := ⟨2, ![8704, 2048]⟩
abbrev S1x2048x2048 : Shape := ⟨3, ![1, 2048, 2048]⟩
abbrev S2x2048 : Shape := ⟨2, ![2, 2048]⟩
abbrev S2048x2048 : Shape := ⟨2, ![2048, 2048]⟩
abbrev S1x2048 : Shape := ⟨2, ![1, 2048]⟩
abbrev S2048 : Shape := ⟨1, ![2048]⟩
abbrev S272x2048 : Shape := ⟨2, ![272, 2048]⟩
abbrev S272 : Shape := ⟨1, ![272]⟩
abbrev S272x1 : Shape := ⟨2, ![272, 1]⟩

abbrev nBuf : Space → Nat
  | .hbm => 14
  | .vmem => 9
  | .smem => 0
  | _ => 0

abbrev bufTy : (tb : Table) → Fin (tcTables nBuf tb) → BufTy
  | .hbm, ⟨0, _⟩ => ⟨S8704x2048, .bf16⟩
  | .hbm, ⟨1, _⟩ => ⟨S1x2048x2048, .f32⟩
  | .hbm, ⟨2, _⟩ => ⟨S8704x2048, .f32⟩
  | .hbm, ⟨3, _⟩ => ⟨S2x2048, .f32⟩
  | .hbm, ⟨4, _⟩ => ⟨S2x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S8704x2048, .f32⟩
  | .local _ .vmem, ⟨0, _⟩ => ⟨S272x2048, .bf16⟩
  | .local _ .vmem, ⟨1, _⟩ => ⟨S272x2048, .bf16⟩
  | .local _ .vmem, ⟨2, _⟩ => ⟨S2048x2048, .bf16⟩
  | .local _ .vmem, ⟨3, _⟩ => ⟨S272x2048, .f32⟩
  | .local _ .vmem, ⟨4, _⟩ => ⟨S272x2048, .f32⟩
  | .local _ .vmem, ⟨5, _⟩ => ⟨S1x2048, .f32⟩
  | .local _ .vmem, ⟨6, _⟩ => ⟨S1x2048, .f32⟩
  | .local _ .vmem, ⟨7, _⟩ => ⟨S272x2048, .f32⟩
  | .local _ .vmem, ⟨8, _⟩ => ⟨S272x2048, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S272x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S272x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S8704x2048 : Shape := ⟨2, ![8704, 2048]⟩
abbrev S1x2048x2048 : Shape := ⟨3, ![1, 2048, 2048]⟩
abbrev S2x2048 : Shape := ⟨2, ![2, 2048]⟩
abbrev S_ : Shape := ⟨0, ![]⟩
abbrev S2048x2048 : Shape := ⟨2, ![2048, 2048]⟩
abbrev S8704 : Shape := ⟨1, ![8704]⟩
abbrev S8704x1 : Shape := ⟨2, ![8704, 1]⟩
abbrev S1x2048 : Shape := ⟨2, ![1, 2048]⟩
abbrev S2048 : Shape := ⟨1, ![2048]⟩

abbrev nBuf : Space → Nat
  | .hbm => 45
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S1x2048x2048, .f32⟩
  | .hbm, ⟨2, _⟩ => ⟨S8704x2048, .f32⟩
  | .hbm, ⟨3, _⟩ => ⟨S2x2048, .f32⟩
  | .hbm, ⟨4, _⟩ => ⟨S2x2048, .f32⟩
  | .hbm, ⟨5, _⟩ => ⟨S_, .f32⟩
  | .hbm, ⟨6, _⟩ => ⟨S8704x2048, .f32⟩
  | .hbm, ⟨7, _⟩ => ⟨S8704x2048, .f32⟩
  | .hbm, ⟨8, _⟩ => ⟨S8704x2048, .f32⟩
  | .hbm, ⟨9, _⟩ => ⟨S2048x2048, .f32⟩
  | .hbm, ⟨10, _⟩ => ⟨S8704x2048, .f32⟩
  | .hbm, ⟨11, _⟩ => ⟨S8704x2048, .f32⟩
  | .hbm, ⟨12, _⟩ => ⟨S_, .f32⟩
  | .hbm, ⟨13, _⟩ => ⟨S8704, .f32⟩
  | .hbm, ⟨14, _⟩ => ⟨S8704x1, .f32⟩
  | .hbm, ⟨15, _⟩ => ⟨S_, .f32⟩
  | .hbm, ⟨16, _⟩ => ⟨S8704x1, .f32⟩
  | .hbm, ⟨17, _⟩ => ⟨S8704x1, .f32⟩
  | .hbm, ⟨18, _⟩ => ⟨S8704x2048, .f32⟩
  | .hbm, ⟨19, _⟩ => ⟨S8704x2048, .f32⟩
  | .hbm, ⟨20, _⟩ => ⟨S8704x2048, .f32⟩
  | .hbm, ⟨21, _⟩ => ⟨S_, .f32⟩
  | .hbm, ⟨22, _⟩ => ⟨S8704, .f32⟩
  | .hbm, ⟨23, _⟩ => ⟨S8704x1, .f32⟩
  | .hbm, ⟨24, _⟩ => ⟨S_, .f32⟩
  | .hbm, ⟨25, _⟩ => ⟨S8704x1, .f32⟩
  | .hbm, ⟨26, _⟩ => ⟨S8704x1, .f32⟩
  | .hbm, ⟨27, _⟩ => ⟨S8704x2048, .f32⟩
  | .hbm, ⟨28, _⟩ => ⟨S8704x2048, .f32⟩
  | .hbm, ⟨29, _⟩ => ⟨S_, .f32⟩
  | .hbm, ⟨30, _⟩ => ⟨S8704x1, .f32⟩
  | .hbm, ⟨31, _⟩ => ⟨S8704x1, .f32⟩
  | .hbm, ⟨32, _⟩ => ⟨S8704x1, .f32⟩
  | .hbm, ⟨33, _⟩ => ⟨S8704x2048, .f32⟩
  | .hbm, ⟨34, _⟩ => ⟨S8704x2048, .f32⟩
  | .hbm, ⟨35, _⟩ => ⟨S1x2048, .f32⟩
  | .hbm, ⟨36, _⟩ => ⟨S2048, .f32⟩
  | .hbm, ⟨37, _⟩ => ⟨S1x2048, .f32⟩
  | .hbm, ⟨38, _⟩ => ⟨S8704x2048, .f32⟩
  | .hbm, ⟨39, _⟩ => ⟨S8704x2048, .f32⟩
  | .hbm, ⟨40, _⟩ => ⟨S1x2048, .f32⟩
  | .hbm, ⟨41, _⟩ => ⟨S2048, .f32⟩
  | .hbm, ⟨42, _⟩ => ⟨S1x2048, .f32⟩
  | .hbm, ⟨43, _⟩ => ⟨S8704x2048, .f32⟩
  | .hbm, ⟨44, _⟩ => ⟨S8704x2048, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel11.lean ====
abbrev S128x8x2048 : Shape := ⟨3, ![128, 8, 2048]⟩
abbrev S1x128x2048 : Shape := ⟨3, ![1, 128, 2048]⟩
abbrev S1x6x2048 : Shape := ⟨3, ![1, 6, 2048]⟩
abbrev S3x2048x2048 : Shape := ⟨3, ![3, 2048, 2048]⟩
abbrev S6x2048 : Shape := ⟨2, ![6, 2048]⟩
abbrev S128x2048 : Shape := ⟨2, ![128, 2048]⟩
abbrev S128x1x2048 : Shape := ⟨3, ![128, 1, 2048]⟩
abbrev S1x2048 : Shape := ⟨2, ![1, 2048]⟩
abbrev S2048 : Shape := ⟨1, ![2048]⟩
abbrev S3x2048 : Shape := ⟨2, ![3, 2048]⟩
abbrev S3x1x2048 : Shape := ⟨3, ![3, 1, 2048]⟩
abbrev S3x1024x2048 : Shape := ⟨3, ![3, 1024, 2048]⟩
abbrev S64x8x2048 : Shape := ⟨3, ![64, 8, 2048]⟩
abbrev S64x1x2048 : Shape := ⟨3, ![64, 1, 2048]⟩
abbrev S1x2048x2048 : Shape := ⟨3, ![1, 2048, 2048]⟩
abbrev S1x512x2048 : Shape := ⟨3, ![1, 512, 2048]⟩
abbrev S3x512x2048 : Shape := ⟨3, ![3, 512, 2048]⟩
abbrev S64x16x2048 : Shape := ⟨3, ![64, 16, 2048]⟩
abbrev S1x1x2048 : Shape := ⟨3, ![1, 1, 2048]⟩
abbrev S512x2048 : Shape := ⟨2, ![512, 2048]⟩
abbrev S2048x2048 : Shape := ⟨2, ![2048, 2048]⟩

abbrev nBuf : Space → Nat
  | .hbm => 19
  | .vmem => 10
  | .smem => 0
  | _ => 0

abbrev bufTy : (tb : Table) → Fin (tcTables nBuf tb) → BufTy
  | .hbm, ⟨0, _⟩ => ⟨S128x8x2048, .f32⟩
  | .hbm, ⟨1, _⟩ => ⟨S1x128x2048, .f32⟩
  | .hbm, ⟨2, _⟩ => ⟨S1x6x2048, .f32⟩
  | .hbm, ⟨3, _⟩ => ⟨S3x2048x2048, .bf16⟩
  | .hbm, ⟨4, _⟩ => ⟨S6x2048, .f32⟩
  | .hbm, ⟨5, _⟩ => ⟨S128x2048, .f32⟩
  | .hbm, ⟨6, _⟩ => ⟨S128x1x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S3x2048, .f32⟩
  | .hbm, ⟨17, _⟩ => ⟨S3x1x2048, .f32⟩
  | .hbm, ⟨18, _⟩ => ⟨S3x1024x2048, .f32⟩
  | .local _ .vmem, ⟨0, _⟩ => ⟨S64x8x2048, .f32⟩
  | .local _ .vmem, ⟨1, _⟩ => ⟨S64x1x2048, .f32⟩
  | .local _ .vmem, ⟨2, _⟩ => ⟨S64x1x2048, .f32⟩
  | .local _ .vmem, ⟨3, _⟩ => ⟨S3x1x2048, .f32⟩
  | .local _ .vmem, ⟨4, _⟩ => ⟨S1x2048x2048, .bf16⟩
  | .local _ .vmem, ⟨5, _⟩ => ⟨S1x2048x2048, .bf16⟩
  | .local _ .vmem, ⟨6, _⟩ => ⟨S1x512x2048, .f32⟩
  | .local _ .vmem, ⟨7, _⟩ => ⟨S1x512x2048, .f32⟩
  | .local _ .vmem, ⟨8, _⟩ => ⟨S3x512x2048, .bf16⟩
  | .local _ .vmem, ⟨9, _⟩ => ⟨S64x16x2048, .f32⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨4, ![2, 1, 3, 1], ![false, false, false, false]⟩

def k0_off1 (i : grid0.Coords) : Fin 3 → Nat :=
  let arg2 : BitVec 32 := BitVec.ofNat 32 (i 2).val
  let v5 : Index := Scalar.indexCast arg2
  let c0 : Index := 0#32
  let c0_2 : Index := 0#32
  ![v5.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg1
  let c0_i32 : BitVec 32 := 0#32
  ![arg2.toNat, v1.toNat, arg3.toNat]

abbrev stage0_0 : Fin 1 → Memref sig .tc .vmem S64x8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false, false]

abbrev stage0_1 : Fin 2 → Memref sig .tc .vmem S64x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false, false]

abbrev stage0_2 : Fin 1 → Memref sig .tc .vmem S3x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false, false]

abbrev stage0_3 : Fin 2 → Memref sig .tc .vmem S1x2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]
-- ==== Reference11Ideal.lean ====
abbrev S128x8x2048 : Shape := ⟨3, ![128, 8, 2048]⟩
abbrev S1x128x2048 : Shape := ⟨3, ![1, 128, 2048]⟩
abbrev S1x6x2048 : Shape := ⟨3, ![1, 6, 2048]⟩
abbrev S3x2048x2048 : Shape := ⟨3, ![3, 2048, 2048]⟩
abbrev S128x2048 : Shape := ⟨2, ![128, 2048]⟩
abbrev S128x1x2048 : Shape := ⟨3, ![128, 1, 2048]⟩
abbrev S128x7x2048 : Shape := ⟨3, ![128, 7, 2048]⟩
abbrev S1x1x2048 : Shape := ⟨3, ![1, 1, 2048]⟩
abbrev S2048 : Shape := ⟨1, ![2048]⟩
abbrev S1x2048x2048 : Shape := ⟨3, ![1, 2048, 2048]⟩
abbrev S2048x2048 : Shape := ⟨2, ![2048, 2048]⟩
abbrev S1x128x8x2048 : Shape := ⟨4, ![1, 128, 8, 2048]⟩
abbrev S3x128x8x2048 : Shape := ⟨4, ![3, 128, 8, 2048]⟩
abbrev S3x1024x2048 : Shape := ⟨3, ![3, 1024, 2048]⟩

abbrev nBuf : Space → Nat
  | .hbm => 44
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S1x128x2048, .f32⟩
  | .hbm, ⟨2, _⟩ => ⟨S1x6x2048, .f32⟩
  | .hbm, ⟨3, _⟩ => ⟨S3x2048x2048, .bf16⟩
  | .hbm, ⟨4, _⟩ => ⟨S128x2048, .f32⟩
  | .hbm, ⟨5, _⟩ => ⟨S128x1x2048, .f32⟩
  | .hbm, ⟨6, _⟩ => ⟨S128x7x2048, .f32⟩
  | .hbm, ⟨7, _⟩ => ⟨S128x8x2048, .f32⟩
  | .hbm, ⟨8, _⟩ => ⟨S128x8x2048, .f32⟩
  | .hbm, ⟨9, _⟩ => ⟨S1x1x2048, .f32⟩
  | .hbm, ⟨10, _⟩ => ⟨S2048, .f32⟩
  | .hbm, ⟨11, _⟩ => ⟨S1x1x2048, .f32⟩
  | .hbm, ⟨12, _⟩ => ⟨S128x8x2048, .f32⟩
  | .hbm, ⟨13, _⟩ => ⟨S128x8x2048, .f32⟩
  | .hbm, ⟨14, _⟩ => ⟨S128x8x2048, .f32⟩
  | .hbm, ⟨15, _⟩ => ⟨S128x8x2048, .f32⟩
  | .hbm, ⟨16, _⟩ => ⟨S1x1x2048, .f32⟩
  | .hbm, ⟨17, _⟩ => ⟨S2048, .f32⟩
  | .hbm, ⟨18, _⟩ => ⟨S1x1x2048, .f32⟩
  | .hbm, ⟨19, _⟩ => ⟨S128x8x2048, .f32⟩
  | .hbm, ⟨20, _⟩ => ⟨S128x8x2048, .f32⟩
  | .hbm, ⟨21, _⟩ => ⟨S128x8x2048, .f32⟩
  | .hbm, ⟨22, _⟩ => ⟨S128x8x2048, .f32⟩
  | .hbm, ⟨23, _⟩ => ⟨S1x1x2048, .f32⟩
  | .hbm, ⟨24, _⟩ => ⟨S2048, .f32⟩
  | .hbm, ⟨25, _⟩ => ⟨S1x1x2048, .f32⟩
  | .hbm, ⟨26, _⟩ => ⟨S128x8x2048, .f32⟩
  | .hbm, ⟨27, _⟩ => ⟨S128x8x2048, .f32⟩
  | .hbm, ⟨28, _⟩ => ⟨S128x8x2048, .f32⟩
  | .hbm, ⟨29, _⟩ => ⟨S3x2048x2048, .f32⟩
  | .hbm, ⟨30, _⟩ => ⟨S1x2048x2048, .f32⟩
  | .hbm, ⟨31, _⟩ => ⟨S2048x2048, .f32⟩
  | .hbm, ⟨32, _⟩ => ⟨S128x8x2048, .f32⟩
  | .hbm, ⟨33, _⟩ => ⟨S1x2048x2048, .f32⟩
  | .hbm, ⟨34, _⟩ => ⟨S2048x2048, .f32⟩
  | .hbm, ⟨35, _⟩ => ⟨S128x8x2048, .f32⟩
  | .hbm, ⟨36, _⟩ => ⟨S1x2048x2048, .f32⟩
  | .hbm, ⟨37, _⟩ => ⟨S2048x2048, .f32⟩
  | .hbm, ⟨38, _⟩ => ⟨S128x8x2048, .f32⟩
  | .hbm, ⟨39, _⟩ => ⟨S1x128x8x2048, .f32⟩
  | .hbm, ⟨40, _⟩ => ⟨S1x128x8x2048, .f32⟩
  | .hbm, ⟨41, _⟩ => ⟨S1x128x8x2048, .f32⟩
  | .hbm, ⟨42, _⟩ => ⟨S3x128x8x2048, .f32⟩
  | .hbm, ⟨43, _⟩ => ⟨S3x1024x2048, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩

abbrev nD : Nat := 1
abbrev τ : Topo := Topo.v7x

variable {F : FTy → Type} [FloatOps F]
-- ==== Kernel2.lean ====
abbrev S4x2048x2048 : Shape := ⟨3, ![4, 2048, 2048]⟩
abbrev S16x2048 : Shape := ⟨2, ![16, 2048]⟩
abbrev S6144x2048 : Shape := ⟨2, ![6144, 2048]⟩
abbrev S1x2048x6152 : Shape := ⟨3, ![1, 2048, 6152]⟩
abbrev S1x8 : Shape := ⟨2, ![1, 8]⟩
abbrev S2048x6152 : Shape := ⟨2, ![2048, 6152]⟩
abbrev S6152x2048 : Shape := ⟨2, ![6152, 2048]⟩
abbrev S8x2048 : Shape := ⟨2, ![8, 2048]⟩
abbrev S_ : Shape := ⟨0, ![]⟩
abbrev S128x2048 : Shape := ⟨2, ![128, 2048]⟩
abbrev S1x128x2048 : Shape := ⟨3, ![1, 128, 2048]⟩
abbrev S2x128x2048 : Shape := ⟨3, ![2, 128, 2048]⟩
abbrev S8 : Shape := ⟨1, ![8]⟩
abbrev S128 : Shape := ⟨1, ![128]⟩
abbrev S1x128 : Shape := ⟨2, ![1, 128]⟩
abbrev S8192x2048 : Shape := ⟨2, ![8192, 2048]⟩
abbrev S8704x3072 : Shape := ⟨2, ![8704, 3072]⟩
abbrev S8704x128 : Shape := ⟨2, ![8704, 128]⟩
abbrev S1088x2048 : Shape := ⟨2, ![1088, 2048]⟩
abbrev S1024x2048 : Shape := ⟨2, ![1024, 2048]⟩
abbrev S1088x1024 : Shape := ⟨2, ![1088, 1024]⟩
abbrev S1088x128 : Shape := ⟨2, ![1088, 128]⟩
abbrev S1072x2048 : Shape := ⟨2, ![1072, 2048]⟩
abbrev S976x2048 : Shape := ⟨2, ![976, 2048]⟩
abbrev S112x2048 : Shape := ⟨2, ![112, 2048]⟩
abbrev S4x2176x3072 : Shape := ⟨3, ![4, 2176, 3072]⟩
abbrev S4x3x1024 : Shape := ⟨3, ![4, 3, 1024]⟩
abbrev S1x4x3x1024 : Shape := ⟨4, ![1, 4, 3, 1024]⟩

abbrev nBuf : Space → Nat
  | .hbm => 30
  | .vmem => 14
  | .smem => 0
  | _ => 0

abbrev bufTy : (tb : Table) → Fin (tcTables nBuf tb) → BufTy
  | .hbm, ⟨0, _⟩ => ⟨S4x2048x2048, .f32⟩
  | .hbm, ⟨1, _⟩ => ⟨S16x2048, .f32⟩
  | .hbm, ⟨2, _⟩ => ⟨S6144x2048, .bf16⟩
  | .hbm, ⟨3, _⟩ => ⟨S1x2048x6152, .f32⟩
  | .hbm, ⟨4, _⟩ => ⟨S1x8, .f32⟩
  | .hbm, ⟨5, _⟩ => ⟨S2048x6152, .f32⟩
  | .hbm, ⟨6, _⟩ => ⟨S6152x2048, .f32⟩
  | .hbm, ⟨7, _⟩ => ⟨S8x2048, .f32⟩
  | .hbm, ⟨8, _⟩ => ⟨S_, .i32⟩
  | .hbm, ⟨9, _⟩ => ⟨S_, .f32⟩
  | .hbm, ⟨10, _⟩ => ⟨S128x2048, .f32⟩
  | .hbm, ⟨11, _⟩ => ⟨S128x2048, .bf16⟩
  | .hbm, ⟨12, _⟩ => ⟨S128x2048, .f32⟩
  | .hbm, ⟨13, _⟩ => ⟨S128x2048, .f32⟩
  | .hbm, ⟨14, _⟩ => ⟨S128x2048, .bf16⟩
  | .hbm, ⟨15, _⟩ => ⟨S1x128x2048, .bf16⟩
  | .hbm, ⟨16, _⟩ => ⟨S1x128x2048, .bf16⟩
  | .hbm, ⟨17, _⟩ => ⟨S2x128x2048, .bf16⟩
  | .hbm, ⟨18, _⟩ => ⟨S8, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S8192x2048, .f32⟩
  | .hbm, ⟨24, _⟩ => ⟨S8704x3072, .bf16⟩
  | .hbm, ⟨25, _⟩ => ⟨S8704x3072, .f32⟩
  | .hbm, ⟨26, _⟩ => ⟨S8704x128, .f32⟩
  | .hbm, ⟨27, _⟩ => ⟨S4x2176x3072, .f32⟩
  | .hbm, ⟨28, _⟩ => ⟨S4x3x1024, .f32⟩
  | .hbm, ⟨29, _⟩ => ⟨S1x4x3x1024, .f32⟩
  | .local _ .vmem, ⟨0, _⟩ => ⟨S1088x2048, .f32⟩
  | .local _ .vmem, ⟨1, _⟩ => ⟨S1088x2048, .f32⟩
  | .local _ .vmem, ⟨2, _⟩ => ⟨S1024x2048, .bf16⟩
  | .local _ .vmem, ⟨3, _⟩ => ⟨S1024x2048, .bf16⟩
  | .local _ .vmem, ⟨4, _⟩ => ⟨S2x128x2048, .bf16⟩
  | .local _ .vmem, ⟨5, _⟩ => ⟨S1x128, .f32⟩
  | .local _ .vmem, ⟨6, _⟩ => ⟨S16x2048, .f32⟩
  | .local _ .vmem, ⟨7, _⟩ => ⟨S1088x1024, .bf16⟩
  | .local _ .vmem, ⟨8, _⟩ => ⟨S1088x1024, .bf16⟩
  | .local _ .vmem, ⟨9, _⟩ => ⟨S1088x1024, .f32⟩
  | .local _ .vmem, ⟨10, _⟩ => ⟨S1088x1024, .f32⟩
  | .local _ .vmem, ⟨11, _⟩ => ⟨S1088x128, .f32⟩
  | .local _ .vmem, ⟨12, _⟩ => ⟨S1088x128, .f32⟩
  | .local _ .vmem, ⟨13, _⟩ => ⟨S1088x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 6], ![false, false]⟩

def k0_mult1 (i : grid0.Coords) : BitVec 32 :=
  let arg0 : BitVec 32 := BitVec.ofNat 32 (i 0).val
  let c0_i32_5 : BitVec 32 := 0#32
  let v15 : BitVec 1 := Scalar.cmpi .sgt arg0 c0_i32_5
  let v16 : BitVec 32 := Scalar.extui v15
  let c0_i32_6 : BitVec 32 := 0#32
  let v17 : BitVec 1 := Scalar.cmpi .slt arg0 c0_i32_6
  let v18 : BitVec 32 := Scalar.extui v17
  let v19 : BitVec 32 := Scalar.subi v16 v18
  let c2_i32_4 : BitVec 32 := 2#32
  let c0_i32_7 : BitVec 32 := 0#32
  let v20 : BitVec 1 := Scalar.cmpi .sgt c2_i32_4 c0_i32_7
  let v21 : BitVec 32 := Scalar.extui v20
  let c0_i32_8 : BitVec 32 := 0#32
  let v22 : BitVec 1 := Scalar.cmpi .slt c2_i32_4 c0_i32_8
  let v23 : BitVec 32 := Scalar.extui v22
  let v24 : BitVec 32 := Scalar.subi v21 v23
  let v25 : BitVec 1 := Scalar.cmpi .ne v19 v24
  let v26 : BitVec 32 := Scalar.remsi arg0 c2_i32_4
  let c0_i32_9 : BitVec 32 := 0#32
  let v27 : BitVec 1 := Scalar.cmpi .ne v26 c0_i32_9
  let v28 : BitVec 1 := Scalar.andi v25 v27
  let v14 : BitVec 32 := Scalar.divsi arg0 c2_i32_4
  let c1_i32_10 : BitVec 32 := 1#32
  let v29 : BitVec 32 := Scalar.subi v14 c1_i32_10
  let v30 : BitVec 32 := Scalar.select v28 v29 v14
  let c2048_i32 : BitVec 32 := 2048#32
  let v31 : BitVec 32 := Scalar.muli v30 c2048_i32
  let c960_i32 : BitVec 32 := 960#32
  let c0_i32_3 : BitVec 32 := 0#32
  let c1088_i32 : BitVec 32 := 1088#32
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.muli c1088_i32 v9
  let c16_i32 : BitVec 32 := 16#32
  let v11 : BitVec 32 := Scalar.subi v10 c16_i32
  let v12 : BitVec 32 := Scalar.maxsi c0_i32_3 v11
  let v13 : BitVec 32 := Scalar.minsi c960_i32 v12
  let v32 : BitVec 32 := Scalar.addi v31 v13
  v32
def k0_cond2 (i : grid0.Coords) : BitVec 1 :=
  let arg1 : BitVec 32 := BitVec.ofNat 32 (i 1).val
  let c3_i32 : BitVec 32 := 3#32
  let v6 : BitVec 1 := Scalar.cmpi .slt arg1 c3_i32
  let v7 : BitVec 32 := Scalar.extui v6
  let c0_i32_4 : BitVec 32 := 0#32
  let v8 : BitVec 1 := Scalar.cmpi .ne v7 c0_i32_4
  v8

def k0_cond3 (i : grid0.Coords) : BitVec 1 :=
  let arg1 : BitVec 32 := BitVec.ofNat 32 (i 1).val
  let c3_i32_5 : BitVec 32 := 3#32
  let v9 : BitVec 1 := Scalar.cmpi .sge arg1 c3_i32_5
  let v10 : BitVec 32 := Scalar.extui v9
  let c0_i32_6 : BitVec 32 := 0#32
  let v11 : BitVec 1 := Scalar.cmpi .ne v10 c0_i32_6
  v11

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1088_i32 : BitVec 32 := 1088#32
  let v10 : BitVec 32 := Scalar.muli c1088_i32 v9
  let c16_i32 : BitVec 32 := 16#32
  let v11 : BitVec 32 := Scalar.subi v10 c16_i32
  let c0_i32_3 : BitVec 32 := 0#32
  let c960_i32 : BitVec 32 := 960#32
  let v12 : BitVec 32 := Scalar.maxsi c0_i32_3 v11
  let v13 : BitVec 32 := Scalar.minsi c960_i32 v12
  let c2_i32_4 : BitVec 32 := 2#32
  let v14 : BitVec 32 := Scalar.divsi arg0 c2_i32_4
  let c0_i32_5 : BitVec 32 := 0#32
  let v15 : BitVec 1 := Scalar.cmpi .sgt arg0 c0_i32_5
  let v16 : BitVec 32 := Scalar.extui v15
  let c0_i32_6 : BitVec 32 := 0#32
  let v17 : BitVec 1 := Scalar.cmpi .slt arg0 c0_i32_6
  let v18 : BitVec 32 := Scalar.extui v17
  let v19 : BitVec 32 := Scalar.subi v16 v18
  let c0_i32_7 : BitVec 32 := 0#32
  let v20 : BitVec 1 := Scalar.cmpi .sgt c2_i32_4 c0_i32_7
  let v21 : BitVec 32 := Scalar.extui v20
  let c0_i32_8 : BitVec 32 := 0#32
  let v22 : BitVec 1 := Scalar.cmpi .slt c2_i32_4 c0_i32_8
  let v23 : BitVec 32 := Scalar.extui v22
  let v24 : BitVec 32 := Scalar.subi v21 v23
  let v25 : BitVec 1 := Scalar.cmpi .ne v19 v24
  let v26 : BitVec 32 := Scalar.remsi arg0 c2_i32_4
  let c0_i32_9 : BitVec 32 := 0#32
  let v27 : BitVec 1 := Scalar.cmpi .ne v26 c0_i32_9
  let v28 : BitVec 1 := Scalar.andi v25 v27
  let c1_i32_10 : BitVec 32 := 1#32
  let v29 : BitVec 32 := Scalar.subi v14 c1_i32_10
  let v30 : BitVec 32 := Scalar.select v28 v29 v14
  let c2048_i32 : BitVec 32 := 2048#32
  let v31 : BitVec 32 := Scalar.muli v30 c2048_i32
  let v32 : BitVec 32 := Scalar.addi v31 v13
  let v33 : BitVec 32 := v32
  let c0_i32_11 : BitVec 32 := 0#32
  let c0_i32_12 : BitVec 32 := 0#32
  ![v33.toNat, c0_i32_11.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  ![arg0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2x128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1088x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1088x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1088x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S4x2048x2048 : Shape := ⟨3, ![4, 2048, 2048]⟩
abbrev S16x2048 : Shape := ⟨2, ![16, 2048]⟩
abbrev S6144x2048 : Shape := ⟨2, ![6144, 2048]⟩
abbrev S1x2048x6152 : Shape := ⟨3, ![1, 2048, 6152]⟩
abbrev S1x8 : Shape := ⟨2, ![1, 8]⟩
abbrev S1x16x2048 : Shape := ⟨3, ![1, 16, 2048]⟩
abbrev S4x16x2048 : Shape := ⟨3, ![4, 16, 2048]⟩
abbrev S_ : Shape := ⟨0, ![]⟩
abbrev S4x112x2048 : Shape := ⟨3, ![4, 112, 2048]⟩
abbrev S4x2176x2048 : Shape := ⟨3, ![4, 2176, 2048]⟩
abbrev S2048x6144 : Shape := ⟨2, ![2048, 6144]⟩
abbrev S4x2176x6144 : Shape := ⟨3, ![4, 2176, 6144]⟩
abbrev S4x2176x3072 : Shape := ⟨3, ![4, 2176, 3072]⟩
abbrev S8704x3072 : Shape := ⟨2, ![8704, 3072]⟩
abbrev S4x3x1024 : Shape := ⟨3, ![4, 3, 1024]⟩
abbrev S1x4x3x1024 : Shape := ⟨4, ![1, 4, 3, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S16x2048, .f32⟩
  | .hbm, ⟨2, _⟩ => ⟨S6144x2048, .bf16⟩
  | .hbm, ⟨3, _⟩ => ⟨S1x2048x6152, .f32⟩
  | .hbm, ⟨4, _⟩ => ⟨S1x8, .f32⟩
  | .hbm, ⟨5, _⟩ => ⟨S1x16x2048, .f32⟩
  | .hbm, ⟨6, _⟩ => ⟨S4x16x2048, .f32⟩
  | .hbm, ⟨7, _⟩ => ⟨S_, .f32⟩
  | .hbm, ⟨8, _⟩ => ⟨S4x112x2048, .f32⟩
  | .hbm, ⟨9, _⟩ => ⟨S4x2176x2048, .f32⟩
  | .hbm, ⟨10, _⟩ => ⟨S6144x2048, .f32⟩
  | .hbm, ⟨11, _⟩ => ⟨S2048x6144, .f32⟩
  | .hbm, ⟨12, _⟩ => ⟨S4x2176x6144, .f32⟩
  | .hbm, ⟨13, _⟩ => ⟨S4x2176x3072, .f32⟩
  | .hbm, ⟨14, _⟩ => ⟨S4x2176x3072, .bf16⟩
  | .hbm, ⟨15, _⟩ => ⟨S8704x3072, .bf16⟩
  | .hbm, ⟨16, _⟩ => ⟨S4x2176x3072, .f32⟩
  | .hbm, ⟨17, _⟩ => ⟨S8704x3072, .f32⟩
  | .hbm, ⟨18, _⟩ => ⟨S4x3x1024, .f32⟩
  | .hbm, ⟨19, _⟩ => ⟨S1x4x3x1024, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel13.lean ====
abbrev S128x8x2048 : Shape := ⟨3, ![128, 8, 2048]⟩
abbrev S6144x2048 : Shape := ⟨2, ![6144, 2048]⟩
abbrev S1x2048x6152 : Shape := ⟨3, ![1, 2048, 6152]⟩
abbrev S1x8 : Shape := ⟨2, ![1, 8]⟩
abbrev S2048x6152 : Shape := ⟨2, ![2048, 6152]⟩
abbrev S6152x2048 : Shape := ⟨2, ![6152, 2048]⟩
abbrev S8x2048 : Shape := ⟨2, ![8, 2048]⟩
abbrev S_ : Shape := ⟨0, ![]⟩
abbrev S128x2048 : Shape := ⟨2, ![128, 2048]⟩
abbrev S1x128x2048 : Shape := ⟨3, ![1, 128, 2048]⟩
abbrev S2x128x2048 : Shape := ⟨3, ![2, 128, 2048]⟩
abbrev S8 : Shape := ⟨1, ![8]⟩
abbrev S128 : Shape := ⟨1, ![128]⟩
abbrev S1x128 : Shape := ⟨2, ![1, 128]⟩
abbrev S1024x2048 : Shape := ⟨2, ![1024, 2048]⟩
abbrev S1024x3072 : Shape := ⟨2, ![1024, 3072]⟩
abbrev S1024x128 : Shape := ⟨2, ![1024, 128]⟩
abbrev S1024x1024 : Shape := ⟨2, ![1024, 1024]⟩
abbrev S128x8x3072 : Shape := ⟨3, ![128, 8, 3072]⟩
abbrev S128x3x1024 : Shape := ⟨3, ![128, 3, 1024]⟩
abbrev S1x128x3x1024 : Shape := ⟨4, ![1, 128, 3, 1024]⟩

abbrev nBuf : Space → Nat
  | .hbm => 29
  | .vmem => 11
  | .smem => 0
  | _ => 0

abbrev bufTy : (tb : Table) → Fin (tcTables nBuf tb) → BufTy
  | .hbm, ⟨0, _⟩ => ⟨S128x8x2048, .f32⟩
  | .hbm, ⟨1, _⟩ => ⟨S6144x2048, .bf16⟩
  | .hbm, ⟨2, _⟩ => ⟨S1x2048x6152, .f32⟩
  | .hbm, ⟨3, _⟩ => ⟨S1x8, .f32⟩
  | .hbm, ⟨4, _⟩ => ⟨S2048x6152, .f32⟩
  | .hbm, ⟨5, _⟩ => ⟨S6152x2048, .f32⟩
  | .hbm, ⟨6, _⟩ => ⟨S8x2048, .f32⟩
  | .hbm, ⟨7, _⟩ => ⟨S_, .i32⟩
  | .hbm, ⟨8, _⟩ => ⟨S_, .f32⟩
  | .hbm, ⟨9, _⟩ => ⟨S128x2048, .f32⟩
  | .hbm, ⟨10, _⟩ => ⟨S128x2048, .bf16⟩
  | .hbm, ⟨11, _⟩ => ⟨S128x2048, .f32⟩
  | .hbm, ⟨12, _⟩ => ⟨S128x2048, .f32⟩
  | .hbm, ⟨13, _⟩ => ⟨S128x2048, .bf16⟩
  | .hbm, ⟨14, _⟩ => ⟨S1x128x2048, .bf16⟩
  | .hbm, ⟨15, _⟩ => ⟨S1x128x2048, .bf16⟩
  | .hbm, ⟨16, _⟩ => ⟨S2x128x2048, .bf16⟩
  | .hbm, ⟨17, _⟩ => ⟨S8, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S1024x2048, .f32⟩
  | .hbm, ⟨23, _⟩ => ⟨S1024x3072, .f32⟩
  | .hbm, ⟨24, _⟩ => ⟨S1024x3072, .f32⟩
  | .hbm, ⟨25, _⟩ => ⟨S1024x128, .f32⟩
  | .hbm, ⟨26, _⟩ => ⟨S128x8x3072, .f32⟩
  | .hbm, ⟨27, _⟩ => ⟨S128x3x1024, .f32⟩
  | .hbm, ⟨28, _⟩ => ⟨S1x128x3x1024, .f32⟩
  | .local _ .vmem, ⟨0, _⟩ => ⟨S1024x2048, .f32⟩
  | .local _ .vmem, ⟨1, _⟩ => ⟨S1024x2048, .bf16⟩
  | .local _ .vmem, ⟨2, _⟩ => ⟨S1024x2048, .bf16⟩
  | .local _ .vmem, ⟨3, _⟩ => ⟨S2x128x2048, .bf16⟩
  | .local _ .vmem, ⟨4, _⟩ => ⟨S1x128, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x128, .f32⟩
  | .local _ .vmem, ⟨10, _⟩ => ⟨S1024x2048, .bf16⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_call1_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨2, ![1, 6], ![false, false]⟩

def k0_cond2 (i : grid0.Coords) : BitVec 1 :=
  let arg1 : BitVec 32 := BitVec.ofNat 32 (i 1).val
  let c3_i32 : BitVec 32 := 3#32
  let v6 : BitVec 1 := Scalar.cmpi .slt arg1 c3_i32
  let v7 : BitVec 32 := Scalar.extui v6
  let c0_i32_4 : BitVec 32 := 0#32
  let v8 : BitVec 1 := Scalar.cmpi .ne v7 c0_i32_4
  v8

def k0_cond3 (i : grid0.Coords) : BitVec 1 :=
  let arg1 : BitVec 32 := BitVec.ofNat 32 (i 1).val
  let c3_i32_5 : BitVec 32 := 3#32
  let v9 : BitVec 1 := Scalar.cmpi .sge arg1 c3_i32_5
  let v10 : BitVec 32 := Scalar.extui v9
  let c0_i32_6 : BitVec 32 := 0#32
  let v11 : BitVec 1 := Scalar.cmpi .ne v10 c0_i32_6
  v11

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  ![arg0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2x128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference13Ideal.lean ====
abbrev S128x8x2048 : Shape := ⟨3, ![128, 8, 2048]⟩
abbrev S6144x2048 : Shape := ⟨2, ![6144, 2048]⟩
abbrev S1x2048x6152 : Shape := ⟨3, ![1, 2048, 6152]⟩
abbrev S1x8 : Shape := ⟨2, ![1, 8]⟩
abbrev S2048x6144 : Shape := ⟨2, ![2048, 6144]⟩
abbrev S128x8x6144 : Shape := ⟨3, ![128, 8, 6144]⟩
abbrev S128x8x3072 : Shape := ⟨3, ![128, 8, 3072]⟩
abbrev S1024x3072 : Shape := ⟨2, ![1024, 3072]⟩
abbrev S128x3x1024 : Shape := ⟨3, ![128, 3, 1024]⟩
abbrev S1x128x3x1024 : Shape := ⟨4, ![1, 128, 3, 1024]⟩

abbrev nBuf : Space → Nat
  | .hbm => 13
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S6144x2048, .bf16⟩
  | .hbm, ⟨2, _⟩ => ⟨S1x2048x6152, .f32⟩
  | .hbm, ⟨3, _⟩ => ⟨S1x8, .f32⟩
  | .hbm, ⟨4, _⟩ => ⟨S6144x2048, .f32⟩
  | .hbm, ⟨5, _⟩ => ⟨S2048x6144, .f32⟩
  | .hbm, ⟨6, _⟩ => ⟨S128x8x6144, .f32⟩
  | .hbm, ⟨7, _⟩ => ⟨S128x8x3072, .f32⟩
  | .hbm, ⟨8, _⟩ => ⟨S1024x3072, .f32⟩
  | .hbm, ⟨9, _⟩ => ⟨S128x8x3072, .f32⟩
  | .hbm, ⟨10, _⟩ => ⟨S1024x3072, .f32⟩
  | .hbm, ⟨11, _⟩ => ⟨S128x3x1024, .f32⟩
  | .hbm, ⟨12, _⟩ => ⟨S1x128x3x1024, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel12.lean ====
abbrev S128x8x2048 : Shape := ⟨3, ![128, 8, 2048]⟩
abbrev S1x128x2048 : Shape := ⟨3, ![1, 128, 2048]⟩
abbrev S1x6x2048 : Shape := ⟨3, ![1, 6, 2048]⟩
abbrev S1x2048 : Shape := ⟨2, ![1, 2048]⟩
abbrev S1x2048x96 : Shape := ⟨3, ![1, 2048, 96]⟩
abbrev S1x96x2048 : Shape := ⟨3, ![1, 96, 2048]⟩
abbrev S1x2048x256 : Shape := ⟨3, ![1, 2048, 256]⟩
abbrev S1x256x2048 : Shape := ⟨3, ![1, 256, 2048]⟩
abbrev S6x2048 : Shape := ⟨2, ![6, 2048]⟩
abbrev S2048x96 : Shape := ⟨2, ![2048, 96]⟩
abbrev S96x2048 : Shape := ⟨2, ![96, 2048]⟩
abbrev S_ : Shape := ⟨0, ![]⟩
abbrev S2048x128 : Shape := ⟨2, ![2048, 128]⟩
abbrev S128x2048 : Shape := ⟨2, ![128, 2048]⟩
abbrev S128x1x2048 : Shape := ⟨3, ![128, 1, 2048]⟩
abbrev S2048 : Shape := ⟨1, ![2048]⟩
abbrev S3x2048 : Shape := ⟨2, ![3, 2048]⟩
abbrev S3x1x2048 : Shape := ⟨3, ![3, 1, 2048]⟩
abbrev S2048x256 : Shape := ⟨2, ![2048, 256]⟩
abbrev S2048x512 : Shape := ⟨2, ![2048, 512]⟩
abbrev S256x2048 : Shape := ⟨2, ![256, 2048]⟩
abbrev S1024x2048 : Shape := ⟨2, ![1024, 2048]⟩
abbrev S32x8x2048 : Shape := ⟨3, ![32, 8, 2048]⟩
abbrev S32x1x2048 : Shape := ⟨3, ![32, 1, 2048]⟩
abbrev S32x16x2048 : Shape := ⟨3, ![32, 16, 2048]⟩
abbrev S1x1x2048 : Shape := ⟨3, ![1, 1, 2048]⟩
abbrev S256x128 : Shape := ⟨2, ![256, 128]⟩
abbrev S256x256 : Shape := ⟨2, ![256, 256]⟩

abbrev nBuf : Space → Nat
  | .hbm => 55
  | .vmem => 18
  | .smem => 0
  | _ => 0

abbrev bufTy : (tb : Table) → Fin (tcTables nBuf tb) → BufTy
  | .hbm, ⟨0, _⟩ => ⟨S128x8x2048, .f32⟩
  | .hbm, ⟨1, _⟩ => ⟨S1x128x2048, .f32⟩
  | .hbm, ⟨2, _⟩ => ⟨S1x6x2048, .f32⟩
  | .hbm, ⟨3, _⟩ => ⟨S1x2048, .f32⟩
  | .hbm, ⟨4, _⟩ => ⟨S1x2048x96, .f32⟩
  | .hbm, ⟨5, _⟩ => ⟨S1x96x2048, .f32⟩
  | .hbm, ⟨6, _⟩ => ⟨S1x2048, .f32⟩
  | .hbm, ⟨7, _⟩ => ⟨S1x2048x96, .f32⟩
  | .hbm, ⟨8, _⟩ => ⟨S1x96x2048, .f32⟩
  | .hbm, ⟨9, _⟩ => ⟨S1x2048x256, .f32⟩
  | .hbm, ⟨10, _⟩ => ⟨S1x256x2048, .f32⟩
  | .hbm, ⟨11, _⟩ => ⟨S6x2048, .f32⟩
  | .hbm, ⟨12, _⟩ => ⟨S2048x96, .f32⟩
  | .hbm, ⟨13, _⟩ => ⟨S96x2048, .f32⟩
  | .hbm, ⟨14, _⟩ => ⟨S_, .i32⟩
  | .hbm, ⟨15, _⟩ => ⟨S_, .f32⟩
  | .hbm, ⟨16, _⟩ => ⟨S2048x128, .f32⟩
  | .hbm, ⟨17, _⟩ => ⟨S_, .i32⟩
  | .hbm, ⟨18, _⟩ => ⟨S_, .f32⟩
  | .hbm, ⟨19, _⟩ => ⟨S128x2048, .f32⟩
  | .hbm, ⟨20, _⟩ => ⟨S2048x96, .f32⟩
  | .hbm, ⟨21, _⟩ => ⟨S96x2048, .f32⟩
  | .hbm, ⟨22, _⟩ => ⟨S_, .i32⟩
  | .hbm, ⟨23, _⟩ => ⟨S_, .f32⟩
  | .hbm, ⟨24, _⟩ => ⟨S2048x128, .f32⟩
  | .hbm, ⟨25, _⟩ => ⟨S_, .i32⟩
  | .hbm, ⟨26, _⟩ => ⟨S_, .f32⟩
  | .hbm, ⟨27, _⟩ => ⟨S128x2048, .f32⟩
  | .hbm, ⟨28, _⟩ => ⟨S128x2048, .f32⟩
  | .hbm, ⟨29, _⟩ => ⟨S128x1x2048, .f32⟩
  | .hbm, ⟨30, _⟩ => ⟨S1x2048, .f32⟩
  | .hbm, ⟨31, _⟩ => ⟨S2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S2048, .f32⟩
  | .hbm, ⟨36, _⟩ => ⟨S1x2048, .f32⟩
  | .hbm, ⟨37, _⟩ => ⟨S1x2048, .f32⟩
  | .hbm, ⟨38, _⟩ => ⟨S1x2048, .f32⟩
  | .hbm, ⟨39, _⟩ => ⟨S3x2048, .f32⟩
  | .hbm, ⟨40, _⟩ => ⟨S3x1x2048, .f32⟩
  | .hbm, ⟨41, _⟩ => ⟨S2048x256, .f32⟩
  | .hbm, ⟨42, _⟩ => ⟨S2048x512, .f32⟩
  | .hbm, ⟨43, _⟩ => ⟨S2048x512, .bf16⟩
  | .hbm, ⟨44, _⟩ => ⟨S128x2048, .bf16⟩
  | .hbm, ⟨45, _⟩ => ⟨S128x2048, .bf16⟩
  | .hbm, ⟨46, _⟩ => ⟨S256x2048, .f32⟩
  | .hbm, ⟨47, _⟩ => ⟨S256x2048, .bf16⟩
  | .hbm, ⟨48, _⟩ => ⟨S2048, .f32⟩
  | .hbm, ⟨49, _⟩ => ⟨S1x2048, .f32⟩
  | .hbm, ⟨50, _⟩ => ⟨S2048, .f32⟩
  | .hbm, ⟨51, _⟩ => ⟨S1x2048, .f32⟩
  | .hbm, ⟨52, _⟩ => ⟨S1024x2048, .f32⟩
  | .hbm, ⟨53, _⟩ => ⟨S1024x2048, .f32⟩
  | .hbm, ⟨54, _⟩ => ⟨S1024x2048, .f32⟩
  | .local _ .vmem, ⟨0, _⟩ => ⟨S32x8x2048, .f32⟩
  | .local _ .vmem, ⟨1, _⟩ => ⟨S32x8x2048, .f32⟩
  | .local _ .vmem, ⟨2, _⟩ => ⟨S32x1x2048, .f32⟩
  | .local _ .vmem, ⟨3, _⟩ => ⟨S32x1x2048, .f32⟩
  | .local _ .vmem, ⟨4, _⟩ => ⟨S3x1x2048, .f32⟩
  | .local _ .vmem, ⟨5, _⟩ => ⟨S2048x512, .bf16⟩
  | .local _ .vmem, ⟨6, _⟩ => ⟨S128x2048, .bf16⟩
  | .local _ .vmem, ⟨7, _⟩ => ⟨S128x2048, .bf16⟩
  | .local _ .vmem, ⟨8, _⟩ => ⟨S256x2048, .bf16⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S32x16x2048, .f32⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_c_0 : Ref sig .tc := ⟨.hbm, 17, rfl⟩
abbrev main_call1_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_call2_v0 : Ref sig .tc := ⟨.hbm, 23, rfl⟩
abbrev main_v7 : Ref sig .tc := ⟨.hbm, 24, rfl⟩
abbrev main_c_2 : Ref sig .tc := ⟨.hbm, 25, rfl⟩
abbrev main_call3_v0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33_0 : Ref sig .tc := ⟨.hbm, 52, rfl⟩
abbrev main_v33_1 : Ref sig .tc := ⟨.hbm, 53, rfl⟩
abbrev main_v33_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S32x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference12Ideal.lean ====
abbrev S128x8x2048 : Shape := ⟨3, ![128, 8, 2048]⟩
abbrev S1x128x2048 : Shape := ⟨3, ![1, 128, 2048]⟩
abbrev S1x6x2048 : Shape := ⟨3, ![1, 6, 2048]⟩
abbrev S1x2048 : Shape := ⟨2, ![1, 2048]⟩
abbrev S1x2048x96 : Shape := ⟨3, ![1, 2048, 96]⟩
abbrev S1x96x2048 : Shape := ⟨3, ![1, 96, 2048]⟩
abbrev S1x2048x256 : Shape := ⟨3, ![1, 2048, 256]⟩
abbrev S1x256x2048 : Shape := ⟨3, ![1, 256, 2048]⟩
abbrev S128x2048 : Shape := ⟨2, ![128, 2048]⟩
abbrev S128x1x2048 : Shape := ⟨3, ![128, 1, 2048]⟩
abbrev S128x7x2048 : Shape := ⟨3, ![128, 7, 2048]⟩
abbrev S1x1x2048 : Shape := ⟨3, ![1, 1, 2048]⟩
abbrev S2048 : Shape := ⟨1, ![2048]⟩
abbrev S1024x2048 : Shape := ⟨2, ![1024, 2048]⟩
abbrev S2048x96 : Shape := ⟨2, ![2048, 96]⟩
abbrev S1024x96 : Shape := ⟨2, ![1024, 96]⟩
abbrev S96x2048 : Shape := ⟨2, ![96, 2048]⟩
abbrev S_ : Shape := ⟨0, ![]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 97
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S1x128x2048, .f32⟩
  | .hbm, ⟨2, _⟩ => ⟨S1x6x2048, .f32⟩
  | .hbm, ⟨3, _⟩ => ⟨S1x2048, .f32⟩
  | .hbm, ⟨4, _⟩ => ⟨S1x2048x96, .f32⟩
  | .hbm, ⟨5, _⟩ => ⟨S1x96x2048, .f32⟩
  | .hbm, ⟨6, _⟩ => ⟨S1x2048, .f32⟩
  | .hbm, ⟨7, _⟩ => ⟨S1x2048x96, .f32⟩
  | .hbm, ⟨8, _⟩ => ⟨S1x96x2048, .f32⟩
  | .hbm, ⟨9, _⟩ => ⟨S1x2048x256, .f32⟩
  | .hbm, ⟨10, _⟩ => ⟨S1x256x2048, .f32⟩
  | .hbm, ⟨11, _⟩ => ⟨S128x2048, .f32⟩
  | .hbm, ⟨12, _⟩ => ⟨S128x1x2048, .f32⟩
  | .hbm, ⟨13, _⟩ => ⟨S128x7x2048, .f32⟩
  | .hbm, ⟨14, _⟩ => ⟨S128x8x2048, .f32⟩
  | .hbm, ⟨15, _⟩ => ⟨S128x8x2048, .f32⟩
  | .hbm, ⟨16, _⟩ => ⟨S1x1x2048, .f32⟩
  | .hbm, ⟨17, _⟩ => ⟨S2048, .f32⟩
  | .hbm, ⟨18, _⟩ => ⟨S1x1x2048, .f32⟩
  | .hbm, ⟨19, _⟩ => ⟨S128x8x2048, .f32⟩
  | .hbm, ⟨20, _⟩ => ⟨S128x8x2048, .f32⟩
  | .hbm, ⟨21, _⟩ => ⟨S128x8x2048, .f32⟩
  | .hbm, ⟨22, _⟩ => ⟨S1024x2048, .f32⟩
  | .hbm, ⟨23, _⟩ => ⟨S128x8x2048, .f32⟩
  | .hbm, ⟨24, _⟩ => ⟨S1x1x2048, .f32⟩
  | .hbm, ⟨25, _⟩ => ⟨S2048, .f32⟩
  | .hbm, ⟨26, _⟩ => ⟨S1x1x2048, .f32⟩
  | .hbm, ⟨27, _⟩ => ⟨S128x8x2048, .f32⟩
  | .hbm, ⟨28, _⟩ => ⟨S128x8x2048, .f32⟩
  | .hbm, ⟨29, _⟩ => ⟨S128x8x2048, .f32⟩
  | .hbm, ⟨30, _⟩ => ⟨S1024x2048, .f32⟩
  | .hbm, ⟨31, _⟩ => ⟨S128x8x2048, .f32⟩
  | .hbm, ⟨32, _⟩ => ⟨S1x1x2048, .f32⟩
  | .hbm, ⟨33, _⟩ => ⟨S2048, .f32⟩
  | .hbm, ⟨34, _⟩ => ⟨S1x1x2048, .f32⟩
  | .hbm, ⟨35, _⟩ => ⟨S128x8x2048, .f32⟩
  | .hbm, ⟨36, _⟩ => ⟨S128x8x2048, .f32⟩
  | .hbm, ⟨37, _⟩ => ⟨S128x8x2048, .f32⟩
  | .hbm, ⟨38, _⟩ => ⟨S1024x2048, .f32⟩
  | .hbm, ⟨39, _⟩ => ⟨S2048, .f32⟩
  | .hbm, ⟨40, _⟩ => ⟨S2048x96, .f32⟩
  | .hbm, ⟨41, _⟩ => ⟨S1024x96, .f32⟩
  | .hbm, ⟨42, _⟩ => ⟨S1024x96, .f32⟩
  | .hbm, ⟨43, _⟩ => ⟨S96x2048, .f32⟩
  | .hbm, ⟨44, _⟩ => ⟨S1024x2048, .f32⟩
  | .hbm, ⟨45, _⟩ => ⟨S1x2048, .f32⟩
  | .hbm, ⟨46, _⟩ => ⟨S1024x2048, .f32⟩
  | .hbm, ⟨47, _⟩ => ⟨S1024x2048, .f32⟩
  | .hbm, ⟨48, _⟩ => ⟨S1024x2048, .f32⟩
  | .hbm, ⟨49, _⟩ => ⟨S_, .f32⟩
  | .hbm, ⟨50, _⟩ => ⟨S1024x2048, .f32⟩
  | .hbm, ⟨51, _⟩ => ⟨S1024x2048, .f32⟩
  | .hbm, ⟨52, _⟩ => ⟨S1024x2048, .f32⟩
  | .hbm, ⟨53, _⟩ => ⟨S1024x2048, .f32⟩
  | .hbm, ⟨54, _⟩ => ⟨S1024x2048, .i1⟩
  | .hbm, ⟨55, _⟩ => ⟨S1024x2048, .f32⟩
  | .hbm, ⟨56, _⟩ => ⟨S1024x2048, .f32⟩
  | .hbm, ⟨57, _⟩ => ⟨S1024x2048, .f32⟩
  | .hbm, ⟨58, _⟩ => ⟨S1024x2048, .f32⟩
  | .hbm, ⟨59, _⟩ => ⟨S1024x2048, .f32⟩
  | .hbm, ⟨60, _⟩ => ⟨S1024x2048, .f32⟩
  | .hbm, ⟨61, _⟩ => ⟨S1024x2048, .f32⟩
  | .hbm, ⟨62, _⟩ => ⟨S1024x2048, .f32⟩
  | .hbm, ⟨63, _⟩ => ⟨S1024x2048, .f32⟩
  | .hbm, ⟨64, _⟩ => ⟨S_, .f32⟩
  | .hbm, ⟨65, _⟩ => ⟨S1024x2048, .f32⟩
  | .hbm, ⟨66, _⟩ => ⟨S1024x2048, .f32⟩
  | .hbm, ⟨67, _⟩ => ⟨S2048, .f32⟩
  | .hbm, ⟨68, _⟩ => ⟨S2048x96, .f32⟩
  | .hbm, ⟨69, _⟩ => ⟨S1024x96, .f32⟩
  | .hbm, ⟨70, _⟩ => ⟨S96x2048, .f32⟩
  | .hbm, ⟨71, _⟩ => ⟨S1024x2048, .f32⟩
  | .hbm, ⟨72, _⟩ => ⟨S1x2048, .f32⟩
  | .hbm, ⟨73, _⟩ => ⟨S1024x2048, .f32⟩
  | .hbm, ⟨74, _⟩ => ⟨S1024x2048, .f32⟩
  | .hbm, ⟨75, _⟩ => ⟨S1024x2048, .f32⟩
  | .hbm, ⟨76, _⟩ => ⟨S1024x2048, .f32⟩
  | .hbm, ⟨77, _⟩ => ⟨S_, .f32⟩
  | .hbm, ⟨78, _⟩ => ⟨S1024x2048, .f32⟩
  | .hbm, ⟨79, _⟩ => ⟨S1024x2048, .f32⟩
  | .hbm, ⟨80, _⟩ => ⟨S_, .f32⟩
  | .hbm, ⟨81, _⟩ => ⟨S1024x2048, .f32⟩
  | .hbm, ⟨82, _⟩ => ⟨S1024x2048, .f32⟩
  | .hbm, ⟨83, _⟩ => ⟨S2048x256, .f32⟩
  | .hbm, ⟨84, _⟩ => ⟨S1024x256, .f32⟩
  | .hbm, ⟨85, _⟩ => ⟨S1024x256, .f32⟩
  | .hbm, ⟨86, _⟩ => ⟨S1024x256, .f32⟩
  | .hbm, ⟨87, _⟩ => ⟨S_, .f32⟩
  | .hbm, ⟨88, _⟩ => ⟨S1024x256, .f32⟩
  | .hbm, ⟨89, _⟩ => ⟨S1024x256, .f32⟩
  | .hbm, ⟨90, _⟩ => ⟨S_, .f32⟩
  | .hbm, ⟨91, _⟩ => ⟨S1024x256, .f32⟩
  | .hbm, ⟨92, _⟩ => ⟨S1024x256, .f32⟩
  | .hbm, ⟨93, _⟩ => ⟨S256x2048, .f32⟩
  | .hbm, ⟨94, _⟩ => ⟨S1024x2048, .f32⟩
  | .hbm, ⟨95, _⟩ => ⟨S1024x2048, .f32⟩
  | .hbm, ⟨96, _⟩ => ⟨S1024x2048, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_v38 : Ref sig .tc := ⟨.hbm, 62, rfl⟩
abbrev main_v39 : Ref sig .tc := ⟨.hbm, 63, rfl⟩
abbrev main_cst : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_0 : Ref sig .tc := ⟨.hbm, 77, rfl⟩
abbrev main_v52 : Ref sig .tc := ⟨.hbm, 78, rfl⟩
abbrev main_v53 : Ref sig .tc := ⟨.hbm, 79, rfl⟩
abbrev main_cst_1 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_2 : Ref sig .tc := ⟨.hbm, 87, rfl⟩
abbrev main_v60 : Ref sig .tc := ⟨.hbm, 88, rfl⟩
abbrev main_v61 : Ref sig .tc := ⟨.hbm, 89, rfl⟩
abbrev main_cst_3 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩

abbrev nD : Nat := 1
abbrev τ : Topo := Topo.v7x

variable {F : FTy → Type} [FloatOps F]
-- ==== Proof.Norm.lean ====
/- The row-wise arithmetic that the calls of this layer share, over the extended reals: the squared rectified
   projection of a row, and the normalisation of a row with a gain and a bias. -/
module

public import Idealize.ShloMosaic.Lib.Pointwise

@[expose] public section

noncomputable section

namespace Cert.Layer

open Idealize.ShloMosaic

/-- The number of features, as the programs spell it. -/
def cnt : EReal := Ideal.ofBits .f32 0x45000000#32

/-- The small number added to the variance. -/
def eps : EReal := Ideal.ofBits .f32 0x3727C5AC#32

/-- The weight of the residual. -/
def alpha : EReal := Ideal.ofBits .f32 0x3FB504F3#32

/-- The mean of a row. -/
def mean (t : Fin 2048 → EReal) : EReal := Ideal.div (∑ k, t k) cnt

/-- The variance of a row. -/
def vari (t : Fin 2048 → EReal) : EReal := Ideal.div (∑ k, (t k - mean t) * (t k - mean t)) cnt

/-- The normalised row with gain `g` and bias `b`, at feature `d`. -/
def lnorm (t g b : Fin 2048 → EReal) (d : Fin 2048) : EReal :=
  (t d - mean t) * Ideal.rsqrt (vari t + eps) * g d + b d

/-- One hidden unit: the rectified product of a row with a column of the first weight, squared. -/
def feed (x w : Fin 2048 → EReal) : EReal := max (∑ k, x k * w k) 0 * max (∑ k, x k * w k) 0

/-- One feature of row `q` of the padded prompts: 2176 rows each, the meta rows, the prompt's, and rows of zeros. -/
def tok (x : Fin 4 → Fin 2048 → EReal) (mt : Fin 16 → EReal) (q : ℕ) : EReal :=
  if h : q % 2176 < 16 then mt ⟨q % 2176, h⟩
  else if h : q / 2176 < 4 ∧ q % 2176 - 16 < 2048 then x ⟨q / 2176, h.1⟩ ⟨q % 2176 - 16, h.2⟩ else 0

end Cert.Layer

end
-- ==== Proof.MlpPrompt.lean ====
/- The feed-forward part with its norm, for the prompts: what the kernel leaves in its result array. The input rows are
   read through a window that skips the meta rows and the padding of each prompt. -/
module

public import proofs.«01_k».proof.Proof.Gen.KernelIdeal.Value
public import proofs.«01_k».proof.Proof.Norm
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Mlp

open Cert.KernelIdeal Cert.KernelIdeal.Gen Cert.Layer

variable (m : (ℓ : Loc nD τ sig) → Buf (Elt Ideal) ℓ)

/-- The staged copy of the rows, read at an index. -/
theorem pay1_at (x : FVec Ideal S1024x2048 .f32) (r : Fin 1024) (d : Fin 2048) :
    k0_pay1 (F := Ideal) x (ix2 r d) = x (ix2 r d) := by
  pointwise [k0_pay1]

/-- The cleared accumulator, read at an index. -/
theorem pay2_at (r : Fin 1024) (d : Fin 2048) : k0_pay2 (F := Ideal) (ix2 r d) = (0 : EReal) := by
  pointwise [k0_pay2]

/-- One accumulation step, read at an index: the block of hidden units `f` is added to what is there. -/
theorem pay3_at (s : FVec Ideal S1024x2048 .bf16) (wu : FVec Ideal S1x2048x1024 .bf16) (o : FVec Ideal S1024x2048 .f32)
    (wd : FVec Ideal S1x1024x2048 .bf16) (r : Fin 1024) (d : Fin 2048) :
    k0_pay3 (F := Ideal) s wu o wd (ix2 r d)
      = o (ix2 r d) + ∑ f : Fin 1024, feed (fun k => s (ix2 r k)) (fun k => wu (ix3 0 k f)) * wd (ix3 0 f d) := by
  pointwise [k0_pay3, feed]

/-- The last step, read at an index: the norm of the weighted residual and the accumulated rows. -/
theorem pay4_at (x o : FVec Ideal S1024x2048 .f32) (g b : FVec Ideal S1x2048 .f32) (r : Fin 1024) (d : Fin 2048) :
    k0_pay4 (F := Ideal) x o g b (ix2 r d)
      = lnorm (fun k => alpha * x (ix2 r k) + o (ix2 r k)) (fun k => g (ix2 0 k)) (fun k => b (ix2 0 k)) d := by
  pointwise [k0_pay4, lnorm, mean, vari, cnt, eps, alpha]

/-- Where each operand's block starts at a point of the grid; the input's, in elements. -/
theorem idx : ∀ t : Fin cfg0.N, win0_0.index t = ![t.val / 16 * 2176 + 16 + t.val / 8 % 2 * 1024, 0]
    ∧ win0_1.index t = ![1, 0, t.val % 8] ∧ win0_2.index t = ![1, t.val % 8, 0] ∧ win0_3.index t = ![0, 0]
    ∧ win0_4.index t = ![0, 0] ∧ win0_5.index t = ![t.val / 8, 0] :=
  (by decide +kernel : ∀ t : Fin grid0.N, _)

/-- The staged input block, read from the input array: its row block starts after the meta rows of its prompt. -/
theorem blk0 (c : Dev nD) (t : Fin cfg0.N) (r : Fin 1024) (d : Fin 2048) (h) :
    (iblk m c 0 t : FVec Ideal S1024x2048 .f32) (ix2 r d)
      = (m ((c : Thread nD τ).loc main_arg0) : FVec Ideal S8704x2048 .f32)
          (ix2 ⟨t.val / 16 * 2176 + 16 + t.val / 8 % 2 * 1024 + r.val, h⟩ d) := by
  blk_point [iblk, V, idx t]
  · show win0_0.index t (0 : Fin 2) + 1 * r.val = _
    rw [(idx t).1]
    show t.val / 16 * 2176 + 16 + t.val / 8 % 2 * 1024 + 1 * r.val = _
    omega
  · show win0_0.index t (1 : Fin 2) + 1 * d.val = _
    rw [(idx t).1]
    show 0 + 1 * d.val = _
    omega

/-- The staged block of the first weight, read from the weights: the second layer's. -/
theorem blk1 (c : Dev nD) (t : Fin cfg0.N) (k : Fin 2048) (f : Fin 1024) (h) :
    (iblk m c 1 t : FVec Ideal S1x2048x1024 .bf16) (ix3 0 k f)
      = (m ((c : Thread nD τ).loc main_arg1) : FVec Ideal S2x2048x8192 .f32) (ix3 1 k ⟨t.val % 8 * 1024 + f.val, h⟩) := by
  blk_point [iblk, V, idx t]

/-- The staged block of the second weight, read from the weights: the second layer's. -/
theorem blk2 (c : Dev nD) (t : Fin cfg0.N) (f : Fin 1024) (d : Fin 2048) (h) :
    (iblk m c 2 t : FVec Ideal S1x1024x2048 .bf16) (ix3 0 f d)
      = (m ((c : Thread nD τ).loc main_arg2) : FVec Ideal S2x8192x2048 .f32) (ix3 1 ⟨t.val % 8 * 1024 + f.val, h⟩ d) := by
  blk_point [iblk, V, idx t]

/-- The staged gain, read from the gains: the second layer's. -/
theorem blk3 (c : Dev nD) (t : Fin cfg0.N) (d : Fin 2048) :
    (iblk m c 3 t : FVec Ideal S1x2048 .f32) (ix2 0 d)
      = (m ((c : Thread nD τ).loc main_arg3) : FVec Ideal S2x2048 .f32) (ix2 1 d) := by
  blk_point [iblk, V, idx t]

/-- The staged bias, read from the biases: the second layer's. -/
theorem blk4 (c : Dev nD) (t : Fin cfg0.N) (d : Fin 2048) :
    (iblk m c 4 t : FVec Ideal S1x2048 .f32) (ix2 0 d)
      = (m ((c : Thread nD τ).loc main_arg4) : FVec Ideal S2x2048 .f32) (ix2 1 d) := by
  blk_point [iblk, V, idx t]

/-- Row `q` of the input. -/
def X (c : Dev nD) (q : ℕ) (k : Fin 2048) : EReal :=
  if h : q < 8704 then (m ((c : Thread nD τ).loc main_arg0) : FVec Ideal S8704x2048 .f32) (ix2 ⟨q, h⟩ k) else 0

/-- Column `f` of the second layer's first weight. -/
def WU (c : Dev nD) (f : ℕ) (k : Fin 2048) : EReal :=
  if h : f < 8192 then (m ((c : Thread nD τ).loc main_arg1) : FVec Ideal S2x2048x8192 .f32) (ix3 1 k ⟨f, h⟩) else 0

/-- Row `f` of the second layer's second weight. -/
def WD (c : Dev nD) (f : ℕ) (d : Fin 2048) : EReal :=
  if h : f < 8192 then (m ((c : Thread nD τ).loc main_arg2) : FVec Ideal S2x8192x2048 .f32) (ix3 1 ⟨f, h⟩ d) else 0

/-- The second layer's gain. -/
def G (c : Dev nD) (d : Fin 2048) : EReal := (m ((c : Thread nD τ).loc main_arg3) : FVec Ideal S2x2048 .f32) (ix2 1 d)

/-- The second layer's bias. -/
def B (c : Dev nD) (d : Fin 2048) : EReal := (m ((c : Thread nD τ).loc main_arg4) : FVec Ideal S2x2048 .f32) (ix2 1 d)

/-- What block `j` of the hidden units adds to feature `d` of row `q`. -/
def term (c : Dev nD) (q : ℕ) (d : Fin 2048) (j : ℕ) : EReal :=
  ∑ f : Fin 1024, feed (X m c q) (WU m c (j * 1024 + f.val)) * WD m c (j * 1024 + f.val) d

/-- The sum of the first `n` blocks of hidden units. -/
def part (c : Dev nD) (q n : ℕ) (d : Fin 2048) : EReal := ∑ j ∈ Finset.range n, term m c q d j

/-- The row of the input that row `r` of output block `i` is computed from. -/
def rowOf (i r : ℕ) : ℕ := i / 2 * 2176 + 16 + i % 2 * 1024 + r

/-- The row an output block's row is computed from, at a point. -/
theorem rowOf_eq (t : Fin cfg0.N) (r : ℕ) : rowOf (t.val / 8) r = t.val / 16 * 2176 + 16 + t.val / 8 % 2 * 1024 + r := by
  unfold rowOf; omega

/-- The staged input block at a point. -/
theorem x_at (c : Dev nD) (t : Fin cfg0.N) (r : Fin 1024) (d : Fin 2048) :
    (iblk m c 0 t : FVec Ideal S1024x2048 .f32) (ix2 r d) = X m c (rowOf (t.val / 8) r.val) d := by
  have ht : t.val < 64 := lt_of_lt_of_eq t.isLt N_0
  have hr := r.isLt
  have h : t.val / 16 * 2176 + 16 + t.val / 8 % 2 * 1024 + r.val < 8704 := by omega
  unfold X
  rw [rowOf_eq, dif_pos h, blk0 m c t r d h]

/-- The staged block of the first weight at a point. -/
theorem wu_at (c : Dev nD) (t : Fin cfg0.N) (k : Fin 2048) (f : Fin 1024) :
    (iblk m c 1 t : FVec Ideal S1x2048x1024 .bf16) (ix3 0 k f) = WU m c (t.val % 8 * 1024 + f.val) k := by
  have hf := f.isLt
  have h : t.val % 8 * 1024 + f.val < 8192 := by omega
  unfold WU
  rw [dif_pos h, blk1 m c t k f h]

/-- The staged block of the second weight at a point. -/
theorem wd_at (c : Dev nD) (t : Fin cfg0.N) (f : Fin 1024) (d : Fin 2048) :
    (iblk m c 2 t : FVec Ideal S1x1024x2048 .bf16) (ix3 0 f d) = WD m c (t.val % 8 * 1024 + f.val) d := by
  have hf := f.isLt
  have h : t.val % 8 * 1024 + f.val < 8192 := by omega
  unfold WD
  rw [dif_pos h, blk2 m c t f d h]

/-- One accumulation step: with the input rows in the scratch and `o` accumulated so far, a point adds its own block. -/
theorem step_at (c : Dev nD) (t : Fin cfg0.N) (s : FVec Ideal S1024x2048 .bf16) (o : FVec Ideal S1024x2048 .f32)
    (r : Fin 1024) (d : Fin 2048) (hs : ∀ k, s (ix2 r k) = X m c (rowOf (t.val / 8) r.val) k)
    (ho : o (ix2 r d) = part m c (rowOf (t.val / 8) r.val) (t.val % 8) d) :
    k0_pay3 (F := Ideal) s (iblk m c 1 t) o (iblk m c 2 t) (ix2 r d)
      = part m c (rowOf (t.val / 8) r.val) (t.val % 8 + 1) d := by
  rw [pay3_at, ho]
  unfold part
  rw [Finset.sum_range_succ]
  congr 1
  unfold term
  refine Finset.sum_congr rfl fun f _ => ?_
  refine Ideal.mul_congr ?_ (wd_at m c t f d)
  congr 1
  · exact funext hs
  · exact funext fun k => wu_at m c t k f

/-- Before the first block the sum is nothing. -/
theorem part_zero (c : Dev nD) (q : ℕ) (d : Fin 2048) : part m c q 0 d = 0 := by
  unfold part; simp

/-- What the scratch and the output block `w` hold after point `n`, at row `r` and feature `d`. -/
def Holds (c : Dev nD) (n : ℕ) (w : Vec Ideal S1024x2048 .f32 × Vec Ideal S1024x2048 .bf16) : Prop :=
  ∀ (r : Fin 1024) (d : Fin 2048),
    w.2 (ix2 r d) = X m c (rowOf (n / 8) r.val) d
    ∧ (n % 8 ≠ 7 → w.1 (ix2 r d) = part m c (rowOf (n / 8) r.val) (n % 8 + 1) d)
    ∧ (n % 8 = 7 → w.1 (ix2 r d)
        = lnorm (fun k => alpha * X m c (rowOf (n / 8) r.val) k + part m c (rowOf (n / 8) r.val) 8 k) (G m c) (B m c) d)

/-- At the first point of a row block the rows are staged and the first block of hidden units is summed. -/
theorem holds_A (c : Dev nD) (t : Fin cfg0.N) (h0 : t.val % 8 = 0) : Holds m c t.val (outsAt0 m c t.val t.isLt) := by
  intro r d
  have h1 : ¬t.val % 8 = 7 := by omega
  rw [outsAt0_A m c t h0 h1]
  dsimp only
  frame_out
  have hx : ∀ k, k0_pay1 (F := Ideal) (iblk m c 0 t) (ix2 r k) = X m c (rowOf (t.val / 8) r.val) k := fun k =>
    (pay1_at _ r k).trans (x_at m c t r k)
  refine ⟨hx d, fun _ => ?_, fun h => absurd h h1⟩
  refine step_at m c t _ _ r d hx ?_
  rw [h0, part_zero]
  exact pay2_at r d

/-- At a later point but the last the next block of hidden units is added. -/
theorem holds_B (c : Dev nD) (t : Fin cfg0.N) (h0 : ¬t.val % 8 = 0) (h1 : ¬t.val % 8 = 7)
    (ih : Holds m c (t.val - 1) (outsAt0 m c (t.val - 1) (Nat.lt_of_le_of_lt (Nat.sub_le _ _) t.isLt))) :
    Holds m c t.val (outsAt0 m c t.val t.isLt) := by
  have e1 : (t.val - 1) / 8 = t.val / 8 := by omega
  have e2 : (t.val - 1) % 8 + 1 = t.val % 8 := by omega
  have e3 : (t.val - 1) % 8 ≠ 7 := by omega
  intro r d
  rw [outsAt0_B m c t h0 h1]
  dsimp only
  unfold sout0_B_0
  frame_out
  simp only [read_unread_whole]
  have hs : ∀ k, (outsAt0 m c (t.val - 1) (Nat.lt_of_le_of_lt (Nat.sub_le _ _) t.isLt)).2 (ix2 r k)
      = X m c (rowOf (t.val / 8) r.val) k := fun k => by rw [(ih r k).1, e1]
  refine ⟨hs d, fun _ => ?_, fun h => absurd h h1⟩
  refine step_at m c t _ _ r d hs ?_
  rw [(ih r d).2.1 e3, e1, e2]

/-- At the last point of a row block the last block of hidden units is added and the row is normalised. -/
theorem holds_C (c : Dev nD) (t : Fin cfg0.N) (h0 : ¬t.val % 8 = 0) (h1 : t.val % 8 = 7)
    (ih : Holds m c (t.val - 1) (outsAt0 m c (t.val - 1) (Nat.lt_of_le_of_lt (Nat.sub_le _ _) t.isLt))) :
    Holds m c t.val (outsAt0 m c t.val t.isLt) := by
  have e1 : (t.val - 1) / 8 = t.val / 8 := by omega
  have e2 : (t.val - 1) % 8 + 1 = t.val % 8 := by omega
  have e3 : (t.val - 1) % 8 ≠ 7 := by omega
  intro r d
  rw [outsAt0_C m c t h0 h1]
  dsimp only
  unfold sout0_C_0
  frame_out
  simp only [read_unread_whole]
  have hs : ∀ k, (outsAt0 m c (t.val - 1) (Nat.lt_of_le_of_lt (Nat.sub_le _ _) t.isLt)).2 (ix2 r k)
      = X m c (rowOf (t.val / 8) r.val) k := fun k => by rw [(ih r k).1, e1]
  refine ⟨hs d, fun h => absurd h1 h, fun _ => ?_⟩
  have hy : ∀ k, k0_pay3 (F := Ideal) (outsAt0 m c (t.val - 1) (Nat.lt_of_le_of_lt (Nat.sub_le _ _) t.isLt)).2 (iblk m c 1 t)
      (outsAt0 m c (t.val - 1) (Nat.lt_of_le_of_lt (Nat.sub_le _ _) t.isLt)).1 (iblk m c 2 t) (ix2 r k)
      = part m c (rowOf (t.val / 8) r.val) 8 k := fun k => by
    rw [step_at m c t _ _ r k hs (by rw [(ih r k).2.1 e3, e1, e2]), h1]
  refine (pay4_at _ _ _ _ r d).trans ?_
  congr 1
  · exact funext fun k => Ideal.add_congr (congrArg (alpha * ·) (x_at m c t r k)) (hy k)
  · exact funext fun k => blk3 m c t k
  · exact funext fun k => blk4 m c t k

/-- What the scratch and the output block hold after each point. -/
theorem holds (c : Dev nD) : ∀ (n : ℕ) (h : n < cfg0.N), Holds m c n (outsAt0 m c n h) := by
  intro n
  induction n with
  | zero => exact fun h => holds_A m c ⟨0, h⟩ rfl
  | succ n ih =>
    intro h
    by_cases h0 : (n + 1) % 8 = 0
    · exact holds_A m c ⟨n + 1, h⟩ h0
    · by_cases h1 : (n + 1) % 8 = 7
      · exact holds_C m c ⟨n + 1, h⟩ h0 h1 (ih _)
      · exact holds_B m c ⟨n + 1, h⟩ h0 h1 (ih _)

/-- The rows of the result as one function of the arguments. -/
def res (c : Dev nD) : FVec Ideal S8192x2048 .f32 := fun i =>
  lnorm (fun k => alpha * X m c (rowOf ((i 0).val / 1024) ((i 0).val % 1024)) k
    + part m c (rowOf ((i 0).val / 1024) ((i 0).val % 1024)) 8 k) (G m c) (B m c) (i 1)

/-- The result array after the run. -/
theorem final (c : Dev nD) : (dats m 0 c).arrAt 5 (cfgs 0).N = res m c := by
  refine (dats m 0 c).arrAt_eq_of_covers 5 _ (by decide +kernel) fun t hf y => ?_
  blk_simp
  rw [after0_5]
  have ht : t.val < 64 := lt_of_lt_of_eq t.isLt N_0
  have h7 := (flush0_5 t).mp hf
  obtain ⟨r, d, rfl⟩ : ∃ (r : Fin 1024) (d : Fin 2048), y = ix2 r d := ⟨y 0, y 1, eq_ix2 y⟩
  have e0 : (((((cfg0.win 5).blk t).view.emb (ix2 r d)) 0 : Fin 8192) : ℕ) = t.val / 8 * 1024 + r.val := by
    blk_simp [idx t]
  have e1 : ((((cfg0.win 5).blk t).view.emb (ix2 r d)) 1 : Fin 2048) = d := by
    apply Fin.ext
    blk_simp [idx t]
  have hr := r.isLt
  refine ((holds m c t.val t.isLt r d).2.2 h7).trans ?_
  unfold res
  rw [e0, e1, show (t.val / 8 * 1024 + r.val) / 1024 = t.val / 8 by omega,
    show (t.val / 8 * 1024 + r.val) % 1024 = r.val by omega]

end Cert.KernelIdeal.Mlp

end
-- ==== Proof.MlpPromptRef.lean ====
/- The reference of the feed-forward part, read at an index. -/
module

public import proofs.«01_k».proof.Proof.Gen.ReferenceIdeal.Run
public import proofs.«01_k».proof.Proof.Norm
public import Idealize.ShloMosaic.Lib.Pointwise

@[expose] public section

set_option maxRecDepth 16384

noncomputable section

open Idealize.ShloMosaic Idealize.ShloMosaic.TcCoe Idealize.SL.Sem

namespace Cert.ReferenceIdeal.Mlp

open Cert.ReferenceIdeal Cert.ReferenceIdeal.Gen Cert.Layer

/-- The residual and the feed-forward part, before the norm. -/
def pre (arg0 : FVec Ideal S8704x2048 .f32) (arg1 : FVec Ideal S2x2048x8192 .f32) (arg2 : FVec Ideal S2x8192x2048 .f32) : FVec Ideal S4x2064x2048 .f32 :=
  addf (mulf (broadcastInDim S4x2064x2048 ![] bcast_S_S4x2064x2048 (constant S_ .f32 0x3FB504F3#32)) (extractStridedSlice S4x2064x2048 ![0, 0, 0] (shapeCast _ arg0 shapeCasts_S8704x2048_S4x2176x2048) slices_S4x2176x2048_S4x2064x2048_0_0_0)) (Host.dotGeneral dot_S4x2064x8192_S8192x2048_S4x2064x2048_2_0_01_1_n_n none (mulf (maximumf (Host.dotGeneral dot_S4x2064x2048_S2048x8192_S4x2064x8192_2_0_01_1_n_n none (extractStridedSlice S4x2064x2048 ![0, 0, 0] (shapeCast _ arg0 shapeCasts_S8704x2048_S4x2176x2048) slices_S4x2176x2048_S4x2064x2048_0_0_0) (shapeCast _ (extractStridedSlice S1x2048x8192 ![1, 0, 0] arg1 slices_S2x2048x8192_S1x2048x8192_1_0_0) shapeCasts_S1x2048x8192_S2048x8192)) (broadcastInDim S4x2064x8192 ![] bcast_S_S4x2064x8192 (constant S_ .f32 0x00000000#32))) (maximumf (Host.dotGeneral dot_S4x2064x2048_S2048x8192_S4x2064x8192_2_0_01_1_n_n none (extractStridedSlice S4x2064x2048 ![0, 0, 0] (shapeCast _ arg0 shapeCasts_S8704x2048_S4x2176x2048) slices_S4x2176x2048_S4x2064x2048_0_0_0) (shapeCast _ (extractStridedSlice S1x2048x8192 ![1, 0, 0] arg1 slices_S2x2048x8192_S1x2048x8192_1_0_0) shapeCasts_S1x2048x8192_S2048x8192)) (broadcastInDim S4x2064x8192 ![] bcast_S_S4x2064x8192 (constant S_ .f32 0x00000000#32)))) (shapeCast _ (extractStridedSlice S1x8192x2048 ![1, 0, 0] arg2 slices_S2x8192x2048_S1x8192x2048_1_0_0) shapeCasts_S1x8192x2048_S8192x2048))

/-- The norm of `T` without the meta rows, as one array of rows. -/
def post (T : FVec Ideal S4x2064x2048 .f32) (arg3 arg4 : FVec Ideal S2x2048 .f32) : FVec Ideal S8192x2048 .f32 :=
  shapeCast _ (extractStridedSlice S4x2048x2048 ![0, 16, 0] (addf (mulf (mulf (subf T (broadcastInDim S4x2064x2048 ![0, 1, 2] bcast_S4x2064x1_S4x2064x2048_0_1_2 (Host.divf (broadcastInDim S4x2064x1 ![0, 1] bcast_S4x2064_S4x2064x1_0_1 (Host.reduceAdd T (constant S_ .f32 0x00000000#32) reducesTo_S4x2064x2048_S4x2064_d2 h_S_)) (broadcastInDim S4x2064x1 ![] bcast_S_S4x2064x1 (constant S_ .f32 0x45000000#32))))) (broadcastInDim S4x2064x2048 ![0, 1, 2] bcast_S4x2064x1_S4x2064x2048_0_1_2 (Host.rsqrt (addf (Host.divf (broadcastInDim S4x2064x1 ![0, 1] bcast_S4x2064_S4x2064x1_0_1 (Host.reduceAdd (mulf (subf T (broadcastInDim S4x2064x2048 ![0, 1, 2] bcast_S4x2064x1_S4x2064x2048_0_1_2 (Host.divf (broadcastInDim S4x2064x1 ![0, 1] bcast_S4x2064_S4x2064x1_0_1 (Host.reduceAdd T (constant S_ .f32 0x00000000#32) reducesTo_S4x2064x2048_S4x2064_d2 h_S_)) (broadcastInDim S4x2064x1 ![] bcast_S_S4x2064x1 (constant S_ .f32 0x45000000#32))))) (subf T (broadcastInDim S4x2064x2048 ![0, 1, 2] bcast_S4x2064x1_S4x2064x2048_0_1_2 (Host.divf (broadcastInDim S4x2064x1 ![0, 1] bcast_S4x2064_S4x2064x1_0_1 (Host.reduceAdd T (constant S_ .f32 0x00000000#32) reducesTo_S4x2064x2048_S4x2064_d2 h_S_)) (broadcastInDim S4x2064x1 ![] bcast_S_S4x2064x1 (constant S_ .f32 0x45000000#32)))))) (constant S_ .f32 0x00000000#32) reducesTo_S4x2064x2048_S4x2064_d2 h_S_)) (broadcastInDim S4x2064x1 ![] bcast_S_S4x2064x1 (constant S_ .f32 0x45000000#32))) (broadcastInDim S4x2064x1 ![] bcast_S_S4x2064x1 (constant S_ .f32 0x3727C5AC#32)))))) (broadcastInDim S4x2064x2048 ![0, 1, 2] bcast_S1x1x2048_S4x2064x2048_0_1_2 (broadcastInDim S1x1x2048 ![2] bcast_S2048_S1x1x2048_2 (shapeCast _ (extractStridedSlice S1x2048 ![1, 0] arg3 slices_S2x2048_S1x2048_1_0) shapeCasts_S1x2048_S2048)))) (broadcastInDim S4x2064x2048 ![0, 1, 2] bcast_S1x1x2048_S4x2064x2048_0_1_2 (broadcastInDim S1x1x2048 ![2] bcast_S2048_S1x1x2048_2 (shapeCast _ (extractStridedSlice S1x2048 ![1, 0] arg4 slices_S2x2048_S1x2048_1_0) shapeCasts_S1x2048_S2048)))) slices_S4x2064x2048_S4x2048x2048_0_16_0) shapeCasts_S4x2048x2048_S8192x2048

/-- The reference's result is the norm of the residual and the feed-forward part. -/
theorem res_eq (m : (ℓ : Loc nD τ sig) → Buf (Elt Ideal) ℓ) (c : Dev nD) :
    Value.res_main_v42 (F := Ideal) m c
      = post (pre (m ((c : Thread nD τ).loc main_arg0)) (m ((c : Thread nD τ).loc main_arg1)) (m ((c : Thread nD τ).loc main_arg2)))
          (m ((c : Thread nD τ).loc main_arg3)) (m ((c : Thread nD τ).loc main_arg4)) := rfl

/-- The feed-forward part of row `s` of prompt `p`, at feature `d`. -/
theorem pre_at (x : FVec Ideal S8704x2048 .f32) (wu : FVec Ideal S2x2048x8192 .f32) (wd : FVec Ideal S2x8192x2048 .f32)
    (p : Fin 4) (s : Fin 2064) (d : Fin 2048) (h) :
    pre x wu wd (ix3 p s d)
      = alpha * x (ix2 ⟨p.val * 2176 + s.val, h⟩ d)
        + ∑ f : Fin 8192, feed (fun k => x (ix2 ⟨p.val * 2176 + s.val, h⟩ k)) (fun k => wu (ix3 1 k f)) * wd (ix3 1 f d) := by
  pointwise [pre, alpha, feed]

/-- The result at row `q` is the norm of the row it comes from. -/
theorem post_at (T : FVec Ideal S4x2064x2048 .f32) (g b : FVec Ideal S2x2048 .f32) (q : Fin 8192) (d : Fin 2048) (h h') :
    post T g b (ix2 q d)
      = lnorm (fun k => T (ix3 ⟨q.val / 2048, h⟩ ⟨16 + q.val % 2048, h'⟩ k)) (fun k => g (ix2 1 k)) (fun k => b (ix2 1 k)) d := by
  pointwise [post, lnorm, mean, vari, cnt, eps]

end Cert.ReferenceIdeal.Mlp

end
-- ==== Proof.MlpPromptTie.lean ====
/- The two programs of the prompts' feed-forward part leave the same result. -/
module

public import proofs.«01_k».proof.Proof.MlpPrompt
public import proofs.«01_k».proof.Proof.MlpPromptRef

@[expose] public section

set_option maxRecDepth 16384

noncomputable section

open Idealize.ShloMosaic Idealize.ShloMosaic.TcCoe Idealize.SL.Sem

namespace Cert.KernelIdeal.Mlp

open Cert.KernelIdeal Cert.KernelIdeal.Gen Cert.Layer

variable (m : (ℓ : Loc nD τ sig) → Buf (Elt Ideal) ℓ)

/-- The sum over the eight blocks of hidden units is the sum over all hidden units. -/
theorem part_all (c : Dev nD) (q : ℕ) (d : Fin 2048) :
    part m c q 8 d = ∑ f : Fin 8192, feed (X m c q) (WU m c f.val) * WD m c f.val d := by
  refine Eq.trans ?_ (Fin.sum_univ_tiles 8 1024 rfl _).symm
  unfold part
  rw [Finset.sum_range]
  rfl

/-- The row of the input that row `q` of the result comes from. -/
theorem rowOf_row (q : Fin 8192) : rowOf (q.val / 1024) (q.val % 1024) = q.val / 2048 * 2176 + (16 + q.val % 2048) := by
  unfold rowOf; omega

/-- The kernel's result is the reference's, of the kernel's arguments. -/
theorem tie (c : Dev nD) : res m c
    = Cert.ReferenceIdeal.Mlp.post
        (Cert.ReferenceIdeal.Mlp.pre (m ((c : Thread nD τ).loc main_arg0)) (m ((c : Thread nD τ).loc main_arg1))
          (m ((c : Thread nD τ).loc main_arg2)))
        (m ((c : Thread nD τ).loc main_arg3)) (m ((c : Thread nD τ).loc main_arg4)) := by
  funext i
  obtain ⟨q, d, rfl⟩ : ∃ (q : Fin 8192) (d : Fin 2048), i = ix2 q d := ⟨i 0, i 1, eq_ix2 i⟩
  have hq := q.isLt
  have h1 : q.val / 2048 < 4 := by omega
  have h2 : 16 + q.val % 2048 < 2064 := by omega
  have h3 : q.val / 2048 * 2176 + (16 + q.val % 2048) < 8704 := by omega
  refine Eq.trans ?_ (Cert.ReferenceIdeal.Mlp.post_at _ _ _ q d h1 h2).symm
  show lnorm (fun k => alpha * X m c (rowOf (q.val / 1024) (q.val % 1024)) k
    + part m c (rowOf (q.val / 1024) (q.val % 1024)) 8 k) (G m c) (B m c) d = _
  rw [rowOf_row]
  have hX : X m c (q.val / 2048 * 2176 + (16 + q.val % 2048))
      = fun k => (m ((c : Thread nD τ).loc main_arg0) : FVec Ideal S8704x2048 .f32) (ix2 ⟨_, h3⟩ k) :=
    funext fun k => dif_pos h3
  have hU : ∀ f : Fin 8192, WU m c f.val
      = fun k => (m ((c : Thread nD τ).loc main_arg1) : FVec Ideal S2x2048x8192 .f32) (ix3 1 k f) :=
    fun f => funext fun k => dif_pos f.isLt
  have hD : ∀ (f : Fin 8192) (k : Fin 2048), WD m c f.val k
      = (m ((c : Thread nD τ).loc main_arg2) : FVec Ideal S2x8192x2048 .f32) (ix3 1 f k) :=
    fun f k => dif_pos f.isLt
  refine congrArg (fun T => lnorm T (G m c) (B m c) d) (funext fun k => ?_)
  refine Eq.trans ?_ (Cert.ReferenceIdeal.Mlp.pre_at _ _ _ ⟨q.val / 2048, h1⟩ ⟨16 + q.val % 2048, h2⟩ k h3).symm
  rw [part_all, hX]
  refine Ideal.add_congr rfl (Finset.sum_congr rfl fun f _ => ?_)
  rw [hU f, hD f k]

end Cert.KernelIdeal.Mlp

end
-- ==== Proof.Proj.lean ====
/- The output projection with its residual and norm, for the prompts: what the kernel leaves in its result array. The
   residual's rows are read through a window counted in elements and shifted, within the block, to make room for the meta
   rows at the start of a prompt and for rows of zeros at its end. -/
module

public import proofs.«01_k».proof.Proof.Gen.Kernel3Ideal.Value
public import proofs.«01_k».proof.Proof.Norm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Proj

open Cert.Kernel3Ideal Cert.Kernel3Ideal.Gen Cert.Layer

variable (m : (ℓ : Loc nD τ sig) → Buf (Elt Ideal) ℓ)

/-- The number of the row block within its prompt. -/
def blkNo (i : grid0.Coords) : BitVec 32 :=
  let d : BitVec 32 := Scalar.select (Scalar.cmpi .eq 8#32 0#32) 1#32 8#32
  let r : BitVec 32 := Scalar.remsi (BitVec.ofNat 32 (i 0).val) d
  Scalar.select (Scalar.andi (Scalar.xori (Scalar.cmpi .slt r 0#32) (Scalar.cmpi .slt d 0#32)) (Scalar.cmpi .ne r 0#32))
    (Scalar.addi r d) r

/-- Whether the row block is the first of its prompt. -/
theorem first_iff : ∀ t : Fin cfg0.N, Scalar.cmpi .eq (blkNo (grid0.coords t)) 0#32
    = if t.val % 8 = 0 then 1#1 else 0#1 :=
  (by decide +kernel : ∀ t : Fin grid0.N, _)

/-- Whether the row block is the last of its prompt. -/
theorem last_iff : ∀ t : Fin cfg0.N, Scalar.cmpi .eq (blkNo (grid0.coords t)) 7#32
    = if t.val % 8 = 7 then 1#1 else 0#1 :=
  (by decide +kernel : ∀ t : Fin grid0.N, _)

/-- The rows of a prompt's first block: the meta rows, then the first rows staged. -/
def firstRows (v0 : FVec Ideal S272x2048 .f32) (v12 : FVec Ideal S16x2048 .f32) : FVec Ideal S272x2048 .f32 :=
  concatenate S272x2048 0 [⟨S16x2048, v12⟩, ⟨S256x2048, extractStridedSlice S256x2048 ![0, 0]
    (shapeCast S272x2048 v0 shapeCasts_S272x2048_S272x2048) slices_S272x2048_o0_0_S256x2048⟩]
    concatenates_S16x2048_S256x2048_S272x2048_d0

/-- The rows of a prompt's last block: the last rows staged, then zeros. -/
def lastRows (v0 : FVec Ideal S272x2048 .f32) : FVec Ideal S272x2048 .f32 :=
  concatenate S272x2048 0 [⟨S160x2048, extractStridedSlice S160x2048 ![112, 0]
    (shapeCast S272x2048 v0 shapeCasts_S272x2048_S272x2048) slices_S272x2048_o112_0_S160x2048⟩,
    ⟨S112x2048, broadcast S112x2048 (Scalar.ofBits (F := Ideal) .f32 0x00000000#32)⟩] concatenates_S160x2048_S112x2048_S272x2048_d0

/-- The weighted residual and the two products, from the rows of the residual. -/
def sum (x : FVec Ideal S272x2048 .f32) (v22 : FVec Ideal S272x1024 .bf16) (v23 : FVec Ideal S1024x2048 .bf16)
    (v26 : FVec Ideal S272x1024 .bf16) (v27 : FVec Ideal S1024x2048 .bf16) : FVec Ideal S272x2048 .f32 :=
  addf (mulf (broadcast S272x2048 (Scalar.ofBits (F := Ideal) .f32 0x3FB504F3#32)) x)
    (addf (matmul dot_S272x1024_S1024x2048_S272x2048_1_0_0_1_n_n none v22
        (shapeCast S1024x2048 v23 shapeCasts_S1024x2048_S1024x2048) (constant S272x2048 .f32 0x00000000#32))
      (matmul dot_S272x1024_S1024x2048_S272x2048_1_0_0_1_n_n none v26
        (shapeCast S1024x2048 v27 shapeCasts_S1024x2048_S1024x2048) (constant S272x2048 .f32 0x00000000#32)))

/-- The rows before the norm, with the residual's rows chosen by the row block. -/
theorem pay2_eq (i : grid0.Coords) (v0 : FVec Ideal S272x2048 .f32) (v12 : FVec Ideal S16x2048 .f32)
    (v22 : FVec Ideal S272x1024 .bf16) (v23 : FVec Ideal S1024x2048 .bf16) (v26 : FVec Ideal S272x1024 .bf16)
    (v27 : FVec Ideal S1024x2048 .bf16) :
    k0_pay2 (F := Ideal) i v0 v12 v22 v23 v26 v27
      = sum (Scalar.select (Scalar.cmpi .eq (blkNo i) 0#32) (firstRows v0 v12)
          (Scalar.select (Scalar.cmpi .eq (blkNo i) 7#32) (lastRows v0)
            (shapeCast S272x2048 v0 shapeCasts_S272x2048_S272x2048))) v22 v23 v26 v27 := rfl

/-- The first block's rows, read at an index. -/
theorem firstRows_at (v0 : FVec Ideal S272x2048 .f32) (v12 : FVec Ideal S16x2048 .f32) (r : Fin 272) (d : Fin 2048) :
    firstRows v0 v12 (ix2 r d) = if h : r.val < 16 then v12 (ix2 ⟨r.val, h⟩ d) else v0 (ix2 ⟨r.val - 16, by omega⟩ d) := by
  pointwise [firstRows]

/-- The last block's rows, read at an index. -/
theorem lastRows_at (v0 : FVec Ideal S272x2048 .f32) (r : Fin 272) (d : Fin 2048) :
    lastRows v0 (ix2 r d) = if h : r.val < 160 then v0 (ix2 ⟨112 + r.val, by omega⟩ d) else 0 := by
  pointwise [lastRows]

/-- The rows before the norm, read at an index. -/
theorem sum_at (x : FVec Ideal S272x2048 .f32) (v22 : FVec Ideal S272x1024 .bf16) (v23 : FVec Ideal S1024x2048 .bf16)
    (v26 : FVec Ideal S272x1024 .bf16) (v27 : FVec Ideal S1024x2048 .bf16) (r : Fin 272) (d : Fin 2048) :
    sum x v22 v23 v26 v27 (ix2 r d) = alpha * x (ix2 r d)
      + ((∑ k : Fin 1024, v22 (ix2 r k) * v23 (ix2 k d)) + ∑ k : Fin 1024, v26 (ix2 r k) * v27 (ix2 k d)) := by
  pointwise [sum, alpha]

/-- The stored rows, read at an index. -/
theorem pay1_at (T : FVec Ideal S272x2048 .f32) (g b : FVec Ideal S1x2048 .f32) (r : Fin 272) (d : Fin 2048) :
    k0_pay1 (F := Ideal) T g b (ix2 r d)
      = lnorm (fun k => T (ix2 r k)) (fun k => g (ix2 0 k)) (fun k => b (ix2 0 k)) d := by
  pointwise [k0_pay1, lnorm, mean, vari, cnt, eps]

/-- Where the window of the residual starts within its prompt, in rows. -/
def start (j : ℕ) : ℕ := min (272 * j - 16) 1776

/-- Where each operand's block starts at a point of the grid; the residual's, in elements. -/
theorem idx : ∀ t : Fin cfg0.N, win0_0.index t = ![t.val, 0] ∧ win0_1.index t = ![t.val, 0] ∧ win0_2.index t = ![0, 0]
    ∧ win0_3.index t = ![t.val / 8 * 2048 + start (t.val % 8), 0] ∧ win0_4.index t = ![0, 0] ∧ win0_5.index t = ![0, 0]
    ∧ win0_6.index t = ![0, 0] ∧ win0_7.index t = ![t.val, 0] :=
  (by decide +kernel : ∀ t : Fin grid0.N, _)

/-- The staged rows of the first half of the features. -/
theorem blk0 (c : Dev nD) (t : Fin cfg0.N) (r : Fin 272) (k : Fin 1024) (h) :
    (iblk m c 0 t : FVec Ideal S272x1024 .bf16) (ix2 r k)
      = (m ((c : Thread nD τ).loc main_arg0) : FVec Ideal S8704x1024 .bf16) (ix2 ⟨t.val * 272 + r.val, h⟩ k) := by
  blk_point [iblk, V, idx t]

/-- The staged rows of the second half of the features. -/
theorem blk1 (c : Dev nD) (t : Fin cfg0.N) (r : Fin 272) (k : Fin 1024) (h) :
    (iblk m c 1 t : FVec Ideal S272x1024 .bf16) (ix2 r k)
      = (m ((c : Thread nD τ).loc main_arg1) : FVec Ideal S8704x1024 .bf16) (ix2 ⟨t.val * 272 + r.val, h⟩ k) := by
  blk_point [iblk, V, idx t]

/-- The staged weight. -/
theorem blk2 (c : Dev nD) (t : Fin cfg0.N) (k d : Fin 2048) :
    (iblk m c 2 t : FVec Ideal S2048x2048 .bf16) (ix2 k d)
      = (m ((c : Thread nD τ).loc main_arg2) : FVec Ideal S1x2048x2048 .f32) (ix3 0 k d) := by
  blk_point [iblk, V, idx t]

/-- The staged rows of the residual, read from the prompts. -/
theorem blk3 (c : Dev nD) (t : Fin cfg0.N) (r : Fin 272) (d : Fin 2048) (h h') :
    (iblk m c 3 t : FVec Ideal S272x2048 .f32) (ix2 r d)
      = (m ((c : Thread nD τ).loc main_arg3) : FVec Ideal S4x2048x2048 .f32)
          (ix3 ⟨t.val / 8, h⟩ ⟨start (t.val % 8) + r.val, h'⟩ d) := by
  have h0 : ((((View.whole main_v8).slice (win0_3.rect t)).emb (ix2 r d) (0 : Fin 2) : Fin _) : ℕ)
      = t.val / 8 * 2048 + start (t.val % 8) + r.val := by
    show win0_3.index t (0 : Fin 2) + 1 * r.val = _
    rw [(idx t).2.2.2.1]
    show t.val / 8 * 2048 + start (t.val % 8) + 1 * r.val = _
    omega
  blk_point [iblk, V, idx t]
  · show win0_3.index t (1 : Fin 2) + 1 * d.val = _
    rw [(idx t).2.2.2.1]
    show 0 + 1 * d.val = _
    omega

/-- The staged gain. -/
theorem blk4 (c : Dev nD) (t : Fin cfg0.N) (d : Fin 2048) :
    (iblk m c 4 t : FVec Ideal S1x2048 .f32) (ix2 0 d)
      = (m ((c : Thread nD τ).loc main_arg5) : FVec Ideal S2x2048 .f32) (ix2 0 d) := by
  blk_point [iblk, V, idx t]

/-- The staged bias. -/
theorem blk5 (c : Dev nD) (t : Fin cfg0.N) (d : Fin 2048) :
    (iblk m c 5 t : FVec Ideal S1x2048 .f32) (ix2 0 d)
      = (m ((c : Thread nD τ).loc main_arg6) : FVec Ideal S2x2048 .f32) (ix2 0 d) := by
  blk_point [iblk, V, idx t]

/-- The staged meta rows. -/
theorem blk6 (c : Dev nD) (t : Fin cfg0.N) (r : Fin 16) (d : Fin 2048) :
    (iblk m c 6 t : FVec Ideal S16x2048 .f32) (ix2 r d)
      = (m ((c : Thread nD τ).loc main_arg4) : FVec Ideal S16x2048 .f32) (ix2 r d) := by
  blk_point [iblk, V, idx t]

/-- A choice whose condition holds takes the first. -/
theorem select_yes {α : Type} (a b : α) : Scalar.select 1#1 a b = a := rfl

/-- A choice whose condition fails takes the second. -/
theorem select_no {α : Type} (a b : α) : Scalar.select 0#1 a b = b := rfl

/-- The residual's rows, once shifted, are the rows of the prompts with the meta rows before each. -/
theorem resid (c : Dev nD) (t : Fin cfg0.N) (r : Fin 272) (d : Fin 2048) :
    (Scalar.select (Scalar.cmpi .eq (blkNo (grid0.coords t)) 0#32) (firstRows (iblk m c 3 t) (iblk m c 6 t))
      (Scalar.select (Scalar.cmpi .eq (blkNo (grid0.coords t)) 7#32) (lastRows (iblk m c 3 t))
        (shapeCast S272x2048 (iblk m c 3 t : FVec Ideal S272x2048 .f32) shapeCasts_S272x2048_S272x2048))
          : FVec Ideal S272x2048 .f32) (ix2 r d)
      = tok (fun p s => (m ((c : Thread nD τ).loc main_arg3) : FVec Ideal S4x2048x2048 .f32) (ix3 p s d))
          (fun s => (m ((c : Thread nD τ).loc main_arg4) : FVec Ideal S16x2048 .f32) (ix2 s d)) (t.val * 272 + r.val) := by
  have ht : t.val < 32 := lt_of_lt_of_eq t.isLt N_0
  have hr := r.isLt
  have hq : (t.val * 272 + r.val) / 2176 = t.val / 8 := by omega
  have hm : (t.val * 272 + r.val) % 2176 = t.val % 8 * 272 + r.val := by omega
  have h4 : t.val / 8 < 4 := by omega
  rw [first_iff t, last_iff t]
  unfold tok
  simp only [hq, hm]
  by_cases e0 : t.val % 8 = 0
  · rw [if_pos e0, select_yes]
    refine (firstRows_at _ _ r d).trans ?_
    by_cases hr16 : r.val < 16
    · rw [dif_pos hr16, dif_pos (by omega)]
      refine (blk6 m c t _ d).trans ?_
      refine congrArg (fun z => (m ((c : Thread nD τ).loc main_arg4) : FVec Ideal S16x2048 .f32) (ix2 z d)) (Fin.ext ?_)
      show r.val = t.val % 8 * 272 + r.val
      omega
    · have hs : start (t.val % 8) + (r.val - 16) < 2048 := by unfold start; omega
      rw [dif_neg hr16, dif_neg (by omega), dif_pos (by omega)]
      refine (blk3 m c t _ d h4 hs).trans ?_
      refine congrArg (fun z => (m ((c : Thread nD τ).loc main_arg3) : FVec Ideal S4x2048x2048 .f32) (ix3 ⟨t.val / 8, h4⟩ z d)) (Fin.ext ?_)
      show start (t.val % 8) + (r.val - 16) = t.val % 8 * 272 + r.val - 16
      unfold start; omega
  · rw [if_neg e0, select_no]
    by_cases e7 : t.val % 8 = 7
    · rw [if_pos e7, select_yes]
      refine (lastRows_at _ r d).trans ?_
      by_cases hr16 : r.val < 160
      · have hs : start (t.val % 8) + (112 + r.val) < 2048 := by unfold start; omega
        rw [dif_pos hr16, dif_neg (by omega), dif_pos (by omega)]
        refine (blk3 m c t _ d h4 hs).trans ?_
        refine congrArg (fun z => (m ((c : Thread nD τ).loc main_arg3) : FVec Ideal S4x2048x2048 .f32) (ix3 ⟨t.val / 8, h4⟩ z d)) (Fin.ext ?_)
        show start (t.val % 8) + (112 + r.val) = t.val % 8 * 272 + r.val - 16
        unfold start; omega
      · rw [dif_neg hr16, dif_neg (by omega), dif_neg (by omega)]
    · rw [if_neg e7, select_no]
      have hs : start (t.val % 8) + r.val < 2048 := by unfold start; omega
      rw [dif_neg (by omega), dif_pos (by omega)]
      refine Eq.trans ?_ ((blk3 m c t r d h4 hs).trans ?_)
      · exact congrFun (shapeCast_self _ _) _
      · refine congrArg (fun z => (m ((c : Thread nD τ).loc main_arg3) : FVec Ideal S4x2048x2048 .f32) (ix3 ⟨t.val / 8, h4⟩ z d)) (Fin.ext ?_)
        show start (t.val % 8) + r.val = t.val % 8 * 272 + r.val - 16
        unfold start; omega

end Cert.Kernel3Ideal.Proj

end
-- ==== Proof.ProjRef.lean ====
/- The reference of the output projection, read at an index. -/
module

public import proofs.«01_k».proof.Proof.Gen.Reference3Ideal.Run
public import proofs.«01_k».proof.Proof.Norm
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference3Ideal.Proj

open Cert.Reference3Ideal Cert.Reference3Ideal.Gen Cert.Layer

/-- The weighted residual and the projection, before the norm. -/
def pre (arg0 arg1 : FVec Ideal S8704x1024 .bf16) (arg2 : FVec Ideal S1x2048x2048 .f32) (arg3 : FVec Ideal S4x2048x2048 .f32)
    (arg4 : FVec Ideal S16x2048 .f32) : FVec Ideal S8704x2048 .f32 :=
  addf (mulf (broadcastInDim S8704x2048 ![] bcast_S_S8704x2048 (constant S_ .f32 0x3FB504F3#32)) (shapeCast _ ((concatenate S4x2176x2048 1 [⟨S4x16x2048, ((broadcastInDim S4x16x2048 ![0, 1, 2] bcast_S1x16x2048_S4x16x2048_0_1_2 (broadcastInDim S1x16x2048 ![1, 2] bcast_S16x2048_S1x16x2048_1_2 arg4)) : FVec Ideal S4x16x2048 .f32)⟩, ⟨S4x2048x2048, (arg3 : FVec Ideal S4x2048x2048 .f32)⟩, ⟨S4x112x2048, ((broadcastInDim S4x112x2048 ![] bcast_S_S4x112x2048 (constant S_ .f32 0x00000000#32)) : FVec Ideal S4x112x2048 .f32)⟩] concatenates_S4x16x2048_S4x2048x2048_S4x112x2048_S4x2176x2048_d1 : FVec Ideal S4x2176x2048 .f32)) shapeCasts_S4x2176x2048_S8704x2048)) (Host.dotGeneral dot_S8704x2048_S2048x2048_S8704x2048_1_0_0_1_n_n none (concatenate S8704x2048 1 [⟨S8704x1024, (extf .f32 arg0 bitsLt_bf16_f32)⟩, ⟨S8704x1024, (extf .f32 arg1 bitsLt_bf16_f32)⟩] concatenates_S8704x1024_S8704x1024_S8704x2048_d1) (shapeCast _ arg2 shapeCasts_S1x2048x2048_S2048x2048))

/-- The rows of `T` less their means. -/
def dev (T : FVec Ideal S8704x2048 .f32) : FVec Ideal S8704x2048 .f32 :=
  subf T (broadcastInDim S8704x2048 ![0, 1] bcast_S8704x1_S8704x2048_0_1 (Host.divf (broadcastInDim S8704x1 ![0] bcast_S8704_S8704x1_0 (Host.reduceAdd T (constant S_ .f32 0x00000000#32) reducesTo_S8704x2048_S8704_d1 h_S_)) (broadcastInDim S8704x1 ![] bcast_S_S8704x1 (constant S_ .f32 0x45000000#32))))

/-- The rows `V`, less their means, over their deviations, with a gain and a bias. -/
def scaled (V : FVec Ideal S8704x2048 .f32) (arg5 arg6 : FVec Ideal S2x2048 .f32) : FVec Ideal S8704x2048 .f32 :=
  addf (mulf (mulf V (broadcastInDim S8704x2048 ![0, 1] bcast_S8704x1_S8704x2048_0_1 (Host.rsqrt (addf (Host.divf (broadcastInDim S8704x1 ![0] bcast_S8704_S8704x1_0 (Host.reduceAdd (mulf V V) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x3727C5AC#32)))))) (broadcastInDim S8704x2048 ![0, 1] bcast_S1x2048_S8704x2048_0_1 (broadcastInDim S1x2048 ![1] bcast_S2048_S1x2048_1 (shapeCast _ (extractStridedSlice S1x2048 ![0, 0] arg5 slices_S2x2048_S1x2048_0_0) shapeCasts_S1x2048_S2048)))) (broadcastInDim S8704x2048 ![0, 1] bcast_S1x2048_S8704x2048_0_1 (broadcastInDim S1x2048 ![1] bcast_S2048_S1x2048_1 (shapeCast _ (extractStridedSlice S1x2048 ![0, 0] arg6 slices_S2x2048_S1x2048_0_0) shapeCasts_S1x2048_S2048)))

/-- The norm of `T`. -/
def post (T : FVec Ideal S8704x2048 .f32) (arg5 arg6 : FVec Ideal S2x2048 .f32) : FVec Ideal S8704x2048 .f32 :=
  scaled (dev T) arg5 arg6

/-- The reference's result is the norm of the residual and the projection. -/
theorem res_eq (m : (ℓ : Loc nD τ sig) → Buf (Elt Ideal) ℓ) (c : Dev nD) :
    Value.res_main_v40 (F := Ideal) m c
      = post (pre (m ((c : Thread nD τ).loc main_arg0)) (m ((c : Thread nD τ).loc main_arg1)) (m ((c : Thread nD τ).loc main_arg2))
          (m ((c : Thread nD τ).loc main_arg3)) (m ((c : Thread nD τ).loc main_arg4)))
          (m ((c : Thread nD τ).loc main_arg5)) (m ((c : Thread nD τ).loc main_arg6)) := rfl

/-- The residual and the projection of row `q`, at feature `d`. -/
theorem pre_at (hm yr : FVec Ideal S8704x1024 .bf16) (w : FVec Ideal S1x2048x2048 .f32) (x : FVec Ideal S4x2048x2048 .f32)
    (mt : FVec Ideal S16x2048 .f32) (q : Fin 8704) (d : Fin 2048) :
    pre hm yr w x mt (ix2 q d)
      = alpha * tok (fun p s => x (ix3 p s d)) (fun s => mt (ix2 s d)) q.val
        + ((∑ k : Fin 1024, hm (ix2 q k) * w (ix3 0 ⟨k.val, by omega⟩ d))
          + ∑ k : Fin 1024, yr (ix2 q k) * w (ix3 0 ⟨1024 + k.val, by omega⟩ d)) := by
  have h4 : q.val / 2176 < 4 := by omega
  pointwise [pre, alpha, tok]
  simp only [h4, true_and]

/-- The result at row `q` is the norm of that row. -/
theorem post_at (T : FVec Ideal S8704x2048 .f32) (g b : FVec Ideal S2x2048 .f32) (q : Fin 8704) (d : Fin 2048) :
    post T g b (ix2 q d) = lnorm (fun k => T (ix2 q k)) (fun k => g (ix2 0 k)) (fun k => b (ix2 0 k)) d := by
  pointwise [post, scaled, dev, lnorm, mean, vari, cnt, eps]

end Cert.Reference3Ideal.Proj

end
-- ==== Proof.ProjTie.lean ====
/- The output projection for the prompts: the array the kernel leaves is the reference of its arguments. -/
module

public import proofs.«01_k».proof.Proof.Proj
public import proofs.«01_k».proof.Proof.ProjRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Proj

open Cert.Kernel3Ideal Cert.Kernel3Ideal.Gen Cert.Layer

variable (m : (ℓ : Loc nD τ sig) → Buf (Elt Ideal) ℓ)

/-- The upper half of the weight's rows, read at an index. -/
theorem top_at (W : Vec Ideal S2048x2048 .bf16) (k : Fin 1024) (d : Fin 2048) :
    (View.ld W r0_3) (ix2 k d) = W (ix2 ⟨k.val, by omega⟩ d) := by
  refine congrArg W ((eq_ix2 _).trans (congrArg₂ ix2 (Fin.ext ?_) (Fin.ext ?_)))
  · show 0 + 1 * k.val = k.val
    omega
  · show 0 + 1 * d.val = d.val
    omega

/-- The lower half of the weight's rows, read at an index. -/
theorem bottom_at (W : Vec Ideal S2048x2048 .bf16) (k : Fin 1024) (d : Fin 2048) :
    (View.ld W r0_4) (ix2 k d) = W (ix2 ⟨1024 + k.val, by omega⟩ d) := by
  refine congrArg W ((eq_ix2 _).trans (congrArg₂ ix2 (Fin.ext ?_) (Fin.ext ?_)))
  · show 1024 + 1 * k.val = 1024 + k.val
    omega
  · show 0 + 1 * d.val = d.val
    omega

/-- The result as one function of the arguments: the reference's norm of the reference's rows. -/
def res (c : Dev nD) : FVec Ideal S8704x2048 .f32 :=
  Cert.Reference3Ideal.Proj.post
    (Cert.Reference3Ideal.Proj.pre (m ((c : Thread nD τ).loc main_arg0)) (m ((c : Thread nD τ).loc main_arg1))
      (m ((c : Thread nD τ).loc main_arg2)) (m ((c : Thread nD τ).loc main_arg3)) (m ((c : Thread nD τ).loc main_arg4)))
    (m ((c : Thread nD τ).loc main_arg5)) (m ((c : Thread nD τ).loc main_arg6))

/-- The result array after the run. -/
theorem final (c : Dev nD) : (dats m 0 c).arrAt 7 (cfgs 0).N = res m c := by
  refine (dats m 0 c).arrAt_eq_of_covers 7 _ (by decide +kernel) fun t hf y => ?_
  blk_simp
  rw [after0_7]
  frame_out
  have ht : t.val < 32 := lt_of_lt_of_eq t.isLt N_0
  obtain ⟨r, d, rfl⟩ : ∃ (r : Fin 272) (d : Fin 2048), y = ix2 r d := ⟨y 0, y 1, eq_ix2 y⟩
  have hr := r.isLt
  have h2 : t.val * 272 + r.val < 8704 := by omega
  have e : ((cfg0.win 7).blk t).view.emb (ix2 r d) = ix2 ⟨t.val * 272 + r.val, h2⟩ d := by
    refine (eq_ix2 _).trans (congrArg₂ ix2 (Fin.ext ?_) (Fin.ext ?_)) <;> blk_simp [idx t]
  rw [e]
  refine (pay1_at _ _ _ r d).trans ?_
  unfold res
  refine Eq.trans ?_ (Cert.Reference3Ideal.Proj.post_at _ _ _ ⟨t.val * 272 + r.val, h2⟩ d).symm
  have hg : (fun k : Fin 2048 => (iblk m c 4 t : FVec Ideal S1x2048 .f32) (ix2 0 k))
      = fun k => (m ((c : Thread nD τ).loc main_arg5) : FVec Ideal S2x2048 .f32) (ix2 0 k) := funext fun k => blk4 m c t k
  have hb : (fun k : Fin 2048 => (iblk m c 5 t : FVec Ideal S1x2048 .f32) (ix2 0 k))
      = fun k => (m ((c : Thread nD τ).loc main_arg6) : FVec Ideal S2x2048 .f32) (ix2 0 k) := funext fun k => blk5 m c t k
  rw [hg, hb]
  refine congrArg (fun T => lnorm T _ _ d) (funext fun k => ?_)
  rw [pay2_eq]
  refine (sum_at _ _ _ _ _ r k).trans ?_
  refine Eq.trans ?_ (Cert.Reference3Ideal.Proj.pre_at _ _ _ _ _ ⟨t.val * 272 + r.val, h2⟩ k).symm
  refine Ideal.add_congr (Ideal.mul_congr rfl (resid m c t r k)) (Ideal.add_congr ?_ ?_)
  · refine Finset.sum_congr rfl fun j _ => Ideal.mul_congr (blk0 m c t r j h2) ?_
    exact (top_at _ j k).trans (blk2 m c t _ k)
  · refine Finset.sum_congr rfl fun j _ => Ideal.mul_congr (blk1 m c t r j h2) ?_
    exact (bottom_at _ j k).trans (blk2 m c t _ k)

end Cert.Kernel3Ideal.Proj

end
-- ==== Proof.RowsRef.lean ====
/- The reference of the compacted weights, read at an index. -/
module

public import proofs.«01_k».proof.Proof.Gen.Reference4Ideal.Run
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference4Ideal.Rows

open Cert.Reference4Ideal Cert.Reference4Ideal.Gen

/-- The columns of the weight without those of the gates, as rows. -/
def out (w : FVec Ideal S1x2048x6152 .f32) : FVec Ideal S6144x2048 .bf16 :=
  truncf .bf16 (transpose S6144x2048 [1, 0] (concatenate S2048x6144 1 [⟨S2048x4096, (extractStridedSlice S2048x4096 ![0, 0] (shapeCast _ w shapeCasts_S1x2048x6152_S2048x6152) slices_S2048x6152_S2048x4096_0_0)⟩, ⟨S2048x2048, (extractStridedSlice S2048x2048 ![0, 4104] (shapeCast _ w shapeCasts_S1x2048x6152_S2048x6152) slices_S2048x6152_S2048x2048_0_4104)⟩] concatenates_S2048x4096_S2048x2048_S2048x6144_d1) transposes_S2048x6144_S6144x2048_1_0) bitsLt_bf16_f32

/-- Row `r` is column `r` of the weight, or column `r + 8` past the gates. -/
theorem out_at (w : FVec Ideal S1x2048x6152 .f32) (r : Fin 6144) (k : Fin 2048) (h) :
    out w (ix2 r k) = w (ix3 0 k ⟨r.val + (if 4096 ≤ r.val then 8 else 0), h⟩) := by
  pointwise [out]
  split
  · refine congrArg (fun z => w (ix3 0 k z)) (Fin.ext ?_)
    show r.val = r.val + (if 4096 ≤ r.val then 8 else 0)
    split <;> omega
  · refine congrArg (fun z => w (ix3 0 k z)) (Fin.ext ?_)
    show 4104 + (r.val - 4096) = r.val + (if 4096 ≤ r.val then 8 else 0)
    split <;> omega

end Cert.Reference4Ideal.Rows

end
-- ==== Proof.RowsTie.lean ====
/- The weights of the input projection with the rows of the gates left out: what the kernel leaves in its result array,
   beside the reference. Its row blocks are read through a window counted in elements, which skips the gates' rows. -/
module

public import proofs.«01_k».proof.Proof.Gen.Kernel4Ideal.Value
public import proofs.«01_k».proof.Proof.RowsRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Rows

open Cert.Kernel4Ideal Cert.Kernel4Ideal.Gen

variable (m : (ℓ : Loc nD τ sig) → Buf (Elt Ideal) ℓ)

/-- The stored block is the staged block. -/
theorem pay1_at (x : FVec Ideal S1024x2048 .f32) (r : Fin 1024) (k : Fin 2048) :
    k0_pay1 (F := Ideal) x (ix2 r k) = x (ix2 r k) := by
  pointwise [k0_pay1]

/-- Where the blocks start at a point of the grid; the input's, in elements. -/
theorem idx : ∀ t : Fin cfg0.N, win0_0.index t = ![t.val * 1024 + (if 4 ≤ t.val then 8 else 0), 0]
    ∧ win0_1.index t = ![t.val, 0] :=
  (by decide +kernel : ∀ t : Fin grid0.N, _)

/-- The staged block, read from the weight: its rows are columns of the weight, past the gates' from the fifth block on. -/
theorem blk0 (c : Dev nD) (t : Fin cfg0.N) (r : Fin 1024) (k : Fin 2048) (h) :
    (iblk m c 0 t : FVec Ideal S1024x2048 .f32) (ix2 r k)
      = (m ((c : Thread nD τ).loc main_arg0) : FVec Ideal S1x2048x6152 .f32)
          (ix3 0 k ⟨t.val * 1024 + (if 4 ≤ t.val then 8 else 0) + r.val, h⟩) := by
  blk_point [iblk, V, idx t]
  · show win0_0.index t (1 : Fin 2) + 1 * k.val = _
    rw [(idx t).1]
    show 0 + 1 * k.val = _
    omega
  · show win0_0.index t (0 : Fin 2) + 1 * r.val = _
    rw [(idx t).1]
    show t.val * 1024 + (if 4 ≤ t.val then 8 else 0) + 1 * r.val = _
    omega

/-- The result as one function of the weight. -/
def res (c : Dev nD) : FVec Ideal S6144x2048 .bf16 :=
  Cert.Reference4Ideal.Rows.out (m ((c : Thread nD τ).loc main_arg0))

/-- The result array after the run. -/
theorem final (c : Dev nD) : (dats m 0 c).arrAt 1 (cfgs 0).N = res m c := by
  refine (dats m 0 c).arrAt_eq_of_covers 1 _ (by decide +kernel) fun t hf y => ?_
  blk_simp
  rw [after0_1]
  frame_out
  have ht : t.val < 6 := lt_of_lt_of_eq t.isLt N_0
  obtain ⟨r, k, rfl⟩ : ∃ (r : Fin 1024) (k : Fin 2048), y = ix2 r k := ⟨y 0, y 1, eq_ix2 y⟩
  have hr := r.isLt
  have h1 : t.val * 1024 + (if 4 ≤ t.val then 8 else 0) + r.val < 6152 := by split <;> omega
  have h2 : t.val * 1024 + r.val < 6144 := by omega
  have h3 : t.val * 1024 + r.val + (if 4096 ≤ t.val * 1024 + r.val then 8 else 0) < 6152 := by split <;> omega
  have e : ((cfg0.win 1).blk t).view.emb (ix2 r k) = ix2 ⟨t.val * 1024 + r.val, h2⟩ k := by
    refine (eq_ix2 _).trans (congrArg₂ ix2 (Fin.ext ?_) (Fin.ext ?_)) <;> blk_simp [idx t]
  refine (pay1_at _ r k).trans ((blk0 m c t r k h1).trans ?_)
  unfold res
  rw [e]
  refine Eq.trans ?_ (Cert.Reference4Ideal.Rows.out_at _ ⟨t.val * 1024 + r.val, h2⟩ k h3).symm
  refine congrArg (fun z => (m ((c : Thread nD τ).loc main_arg0) : FVec Ideal S1x2048x6152 .f32) (ix3 0 k z)) (Fin.ext ?_)
  show t.val * 1024 + (if 4 ≤ t.val then 8 else 0) + r.val = t.val * 1024 + r.val + (if 4096 ≤ t.val * 1024 + r.val then 8 else 0)
  split <;> split <;> omega

end Cert.Kernel4Ideal.Rows

end
-- ==== Proof.MlpSample.lean ====
/- The feed-forward part with its norm, for the samples: what the kernel leaves in its result array. -/
module

public import proofs.«01_k».proof.Proof.Gen.Kernel5Ideal.Value
public import proofs.«01_k».proof.Proof.Norm
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel5Ideal.Mlp

open Cert.Kernel5Ideal Cert.Kernel5Ideal.Gen Cert.Layer

variable (m : (ℓ : Loc nD τ sig) → Buf (Elt Ideal) ℓ)

/-- The staged copy of the rows, read at an index. -/
theorem pay1_at (x : FVec Ideal S1024x2048 .f32) (r : Fin 1024) (d : Fin 2048) :
    k0_pay1 (F := Ideal) x (ix2 r d) = x (ix2 r d) := by
  pointwise [k0_pay1]

/-- The cleared accumulator, read at an index. -/
theorem pay2_at (r : Fin 1024) (d : Fin 2048) : k0_pay2 (F := Ideal) (ix2 r d) = (0 : EReal) := by
  pointwise [k0_pay2]

/-- One accumulation step, read at an index: the block of hidden units `f` is added to what is there. -/
theorem pay3_at (s : FVec Ideal S1024x2048 .bf16) (wu : FVec Ideal S1x2048x1024 .bf16) (o : FVec Ideal S1024x2048 .f32)
    (wd : FVec Ideal S1x1024x2048 .bf16) (r : Fin 1024) (d : Fin 2048) :
    k0_pay3 (F := Ideal) s wu o wd (ix2 r d)
      = o (ix2 r d) + ∑ f : Fin 1024, feed (fun k => s (ix2 r k)) (fun k => wu (ix3 0 k f)) * wd (ix3 0 f d) := by
  pointwise [k0_pay3, feed]

/-- The last step, read at an index: the norm of the weighted residual and the accumulated rows. -/
theorem pay4_at (x o : FVec Ideal S1024x2048 .f32) (g b : FVec Ideal S1x2048 .f32) (r : Fin 1024) (d : Fin 2048) :
    k0_pay4 (F := Ideal) x o g b (ix2 r d)
      = lnorm (fun k => alpha * x (ix2 r k) + o (ix2 r k)) (fun k => g (ix2 0 k)) (fun k => b (ix2 0 k)) d := by
  pointwise [k0_pay4, lnorm, mean, vari, cnt, eps, alpha]

/-- Where each operand's block starts at a point of the grid. -/
theorem idx : ∀ t : Fin cfg0.N, win0_0.index t = ![t.val / 8, 0]
    ∧ win0_1.index t = ![1, 0, t.val % 8] ∧ win0_2.index t = ![1, t.val % 8, 0] ∧ win0_3.index t = ![0, 0]
    ∧ win0_4.index t = ![0, 0] ∧ win0_5.index t = ![t.val / 8, 0] :=
  (by decide +kernel : ∀ t : Fin grid0.N, _)

/-- The staged input block, read from the input array. -/
theorem blk0 (c : Dev nD) (t : Fin cfg0.N) (r : Fin 1024) (d : Fin 2048) (h) :
    (iblk m c 0 t : FVec Ideal S1024x2048 .f32) (ix2 r d)
      = (m ((c : Thread nD τ).loc main_arg0) : FVec Ideal S1024x2048 .f32) (ix2 ⟨t.val / 8 * 1024 + r.val, h⟩ d) := by
  blk_point [iblk, V, idx t]

/-- The staged block of the first weight, read from the weights: the second layer's. -/
theorem blk1 (c : Dev nD) (t : Fin cfg0.N) (k : Fin 2048) (f : Fin 1024) (h) :
    (iblk m c 1 t : FVec Ideal S1x2048x1024 .bf16) (ix3 0 k f)
      = (m ((c : Thread nD τ).loc main_arg1) : FVec Ideal S2x2048x8192 .f32) (ix3 1 k ⟨t.val % 8 * 1024 + f.val, h⟩) := by
  blk_point [iblk, V, idx t]

/-- The staged block of the second weight, read from the weights: the second layer's. -/
theorem blk2 (c : Dev nD) (t : Fin cfg0.N) (f : Fin 1024) (d : Fin 2048) (h) :
    (iblk m c 2 t : FVec Ideal S1x1024x2048 .bf16) (ix3 0 f d)
      = (m ((c : Thread nD τ).loc main_arg2) : FVec Ideal S2x8192x2048 .f32) (ix3 1 ⟨t.val % 8 * 1024 + f.val, h⟩ d) := by
  blk_point [iblk, V, idx t]

/-- The staged gain, read from the gains: the second layer's. -/
theorem blk3 (c : Dev nD) (t : Fin cfg0.N) (d : Fin 2048) :
    (iblk m c 3 t : FVec Ideal S1x2048 .f32) (ix2 0 d)
      = (m ((c : Thread nD τ).loc main_arg3) : FVec Ideal S2x2048 .f32) (ix2 1 d) := by
  blk_point [iblk, V, idx t]

/-- The staged bias, read from the biases: the second layer's. -/
theorem blk4 (c : Dev nD) (t : Fin cfg0.N) (d : Fin 2048) :
    (iblk m c 4 t : FVec Ideal S1x2048 .f32) (ix2 0 d)
      = (m ((c : Thread nD τ).loc main_arg4) : FVec Ideal S2x2048 .f32) (ix2 1 d) := by
  blk_point [iblk, V, idx t]

/-- Row `q` of the input. -/
def X (c : Dev nD) (q : ℕ) (k : Fin 2048) : EReal :=
  if h : q < 1024 then (m ((c : Thread nD τ).loc main_arg0) : FVec Ideal S1024x2048 .f32) (ix2 ⟨q, h⟩ k) else 0

/-- Column `f` of the second layer's first weight. -/
def WU (c : Dev nD) (f : ℕ) (k : Fin 2048) : EReal :=
  if h : f < 8192 then (m ((c : Thread nD τ).loc main_arg1) : FVec Ideal S2x2048x8192 .f32) (ix3 1 k ⟨f, h⟩) else 0

/-- Row `f` of the second layer's second weight. -/
def WD (c : Dev nD) (f : ℕ) (d : Fin 2048) : EReal :=
  if h : f < 8192 then (m ((c : Thread nD τ).loc main_arg2) : FVec Ideal S2x8192x2048 .f32) (ix3 1 ⟨f, h⟩ d) else 0

/-- The second layer's gain. -/
def G (c : Dev nD) (d : Fin 2048) : EReal := (m ((c : Thread nD τ).loc main_arg3) : FVec Ideal S2x2048 .f32) (ix2 1 d)

/-- The second layer's bias. -/
def B (c : Dev nD) (d : Fin 2048) : EReal := (m ((c : Thread nD τ).loc main_arg4) : FVec Ideal S2x2048 .f32) (ix2 1 d)

/-- What block `j` of the hidden units adds to feature `d` of row `q`. -/
def term (c : Dev nD) (q : ℕ) (d : Fin 2048) (j : ℕ) : EReal :=
  ∑ f : Fin 1024, feed (X m c q) (WU m c (j * 1024 + f.val)) * WD m c (j * 1024 + f.val) d

/-- The sum of the first `n` blocks of hidden units. -/
def part (c : Dev nD) (q n : ℕ) (d : Fin 2048) : EReal := ∑ j ∈ Finset.range n, term m c q d j

/-- The row of the input that row `r` of output block `i` is computed from. -/
def rowOf (i r : ℕ) : ℕ := i * 1024 + r

/-- The row an output block's row is computed from, at a point. -/
theorem rowOf_eq (t : Fin cfg0.N) (r : ℕ) : rowOf (t.val / 8) r = t.val / 8 * 1024 + r := by
  unfold rowOf; omega

/-- The staged input block at a point. -/
theorem x_at (c : Dev nD) (t : Fin cfg0.N) (r : Fin 1024) (d : Fin 2048) :
    (iblk m c 0 t : FVec Ideal S1024x2048 .f32) (ix2 r d) = X m c (rowOf (t.val / 8) r.val) d := by
  have ht : t.val < 8 := lt_of_lt_of_eq t.isLt N_0
  have hr := r.isLt
  have h : t.val / 8 * 1024 + r.val < 1024 := by omega
  unfold X
  rw [rowOf_eq, dif_pos h, blk0 m c t r d h]

/-- The staged block of the first weight at a point. -/
theorem wu_at (c : Dev nD) (t : Fin cfg0.N) (k : Fin 2048) (f : Fin 1024) :
    (iblk m c 1 t : FVec Ideal S1x2048x1024 .bf16) (ix3 0 k f) = WU m c (t.val % 8 * 1024 + f.val) k := by
  have hf := f.isLt
  have h : t.val % 8 * 1024 + f.val < 8192 := by omega
  unfold WU
  rw [dif_pos h, blk1 m c t k f h]

/-- The staged block of the second weight at a point. -/
theorem wd_at (c : Dev nD) (t : Fin cfg0.N) (f : Fin 1024) (d : Fin 2048) :
    (iblk m c 2 t : FVec Ideal S1x1024x2048 .bf16) (ix3 0 f d) = WD m c (t.val % 8 * 1024 + f.val) d := by
  have hf := f.isLt
  have h : t.val % 8 * 1024 + f.val < 8192 := by omega
  unfold WD
  rw [dif_pos h, blk2 m c t f d h]

/-- One accumulation step: with the input rows in the scratch and `o` accumulated so far, a point adds its own block. -/
theorem step_at (c : Dev nD) (t : Fin cfg0.N) (s : FVec Ideal S1024x2048 .bf16) (o : FVec Ideal S1024x2048 .f32)
    (r : Fin 1024) (d : Fin 2048) (hs : ∀ k, s (ix2 r k) = X m c (rowOf (t.val / 8) r.val) k)
    (ho : o (ix2 r d) = part m c (rowOf (t.val / 8) r.val) (t.val % 8) d) :
    k0_pay3 (F := Ideal) s (iblk m c 1 t) o (iblk m c 2 t) (ix2 r d)
      = part m c (rowOf (t.val / 8) r.val) (t.val % 8 + 1) d := by
  rw [pay3_at, ho]
  unfold part
  rw [Finset.sum_range_succ]
  congr 1
  unfold term
  refine Finset.sum_congr rfl fun f _ => ?_
  refine Ideal.mul_congr ?_ (wd_at m c t f d)
  congr 1
  · exact funext hs
  · exact funext fun k => wu_at m c t k f

/-- Before the first block the sum is nothing. -/
theorem part_zero (c : Dev nD) (q : ℕ) (d : Fin 2048) : part m c q 0 d = 0 := by
  unfold part; simp

/-- What the scratch and the output block `w` hold after point `n`, at row `r` and feature `d`. -/
def Holds (c : Dev nD) (n : ℕ) (w : Vec Ideal S1024x2048 .f32 × Vec Ideal S1024x2048 .bf16) : Prop :=
  ∀ (r : Fin 1024) (d : Fin 2048),
    w.2 (ix2 r d) = X m c (rowOf (n / 8) r.val) d
    ∧ (n % 8 ≠ 7 → w.1 (ix2 r d) = part m c (rowOf (n / 8) r.val) (n % 8 + 1) d)
    ∧ (n % 8 = 7 → w.1 (ix2 r d)
        = lnorm (fun k => alpha * X m c (rowOf (n / 8) r.val) k + part m c (rowOf (n / 8) r.val) 8 k) (G m c) (B m c) d)

/-- At the first point of a row block the rows are staged and the first block of hidden units is summed. -/
theorem holds_A (c : Dev nD) (t : Fin cfg0.N) (h0 : t.val % 8 = 0) : Holds m c t.val (outsAt0 m c t.val t.isLt) := by
  intro r d
  have h1 : ¬t.val % 8 = 7 := by omega
  rw [outsAt0_A m c t h0 h1]
  dsimp only
  frame_out
  have hx : ∀ k, k0_pay1 (F := Ideal) (iblk m c 0 t) (ix2 r k) = X m c (rowOf (t.val / 8) r.val) k := fun k =>
    (pay1_at _ r k).trans (x_at m c t r k)
  refine ⟨hx d, fun _ => ?_, fun h => absurd h h1⟩
  refine step_at m c t _ _ r d hx ?_
  rw [h0, part_zero]
  exact pay2_at r d

/-- At a later point but the last the next block of hidden units is added. -/
theorem holds_B (c : Dev nD) (t : Fin cfg0.N) (h0 : ¬t.val % 8 = 0) (h1 : ¬t.val % 8 = 7)
    (ih : Holds m c (t.val - 1) (outsAt0 m c (t.val - 1) (Nat.lt_of_le_of_lt (Nat.sub_le _ _) t.isLt))) :
    Holds m c t.val (outsAt0 m c t.val t.isLt) := by
  have e1 : (t.val - 1) / 8 = t.val / 8 := by omega
  have e2 : (t.val - 1) % 8 + 1 = t.val % 8 := by omega
  have e3 : (t.val - 1) % 8 ≠ 7 := by omega
  intro r d
  rw [outsAt0_B m c t h0 h1]
  dsimp only
  unfold sout0_B_0
  frame_out
  simp only [read_unread_whole]
  have hs : ∀ k, (outsAt0 m c (t.val - 1) (Nat.lt_of_le_of_lt (Nat.sub_le _ _) t.isLt)).2 (ix2 r k)
      = X m c (rowOf (t.val / 8) r.val) k := fun k => by rw [(ih r k).1, e1]
  refine ⟨hs d, fun _ => ?_, fun h => absurd h h1⟩
  refine step_at m c t _ _ r d hs ?_
  rw [(ih r d).2.1 e3, e1, e2]

/-- At the last point of a row block the last block of hidden units is added and the row is normalised. -/
theorem holds_C (c : Dev nD) (t : Fin cfg0.N) (h0 : ¬t.val % 8 = 0) (h1 : t.val % 8 = 7)
    (ih : Holds m c (t.val - 1) (outsAt0 m c (t.val - 1) (Nat.lt_of_le_of_lt (Nat.sub_le _ _) t.isLt))) :
    Holds m c t.val (outsAt0 m c t.val t.isLt) := by
  have e1 : (t.val - 1) / 8 = t.val / 8 := by omega
  have e2 : (t.val - 1) % 8 + 1 = t.val % 8 := by omega
  have e3 : (t.val - 1) % 8 ≠ 7 := by omega
  intro r d
  rw [outsAt0_C m c t h0 h1]
  dsimp only
  unfold sout0_C_0
  frame_out
  simp only [read_unread_whole]
  have hs : ∀ k, (outsAt0 m c (t.val - 1) (Nat.lt_of_le_of_lt (Nat.sub_le _ _) t.isLt)).2 (ix2 r k)
      = X m c (rowOf (t.val / 8) r.val) k := fun k => by rw [(ih r k).1, e1]
  refine ⟨hs d, fun h => absurd h1 h, fun _ => ?_⟩
  have hy : ∀ k, k0_pay3 (F := Ideal) (outsAt0 m c (t.val - 1) (Nat.lt_of_le_of_lt (Nat.sub_le _ _) t.isLt)).2 (iblk m c 1 t)
      (outsAt0 m c (t.val - 1) (Nat.lt_of_le_of_lt (Nat.sub_le _ _) t.isLt)).1 (iblk m c 2 t) (ix2 r k)
      = part m c (rowOf (t.val / 8) r.val) 8 k := fun k => by
    rw [step_at m c t _ _ r k hs (by rw [(ih r k).2.1 e3, e1, e2]), h1]
  refine (pay4_at _ _ _ _ r d).trans ?_
  congr 1
  · exact funext fun k => Ideal.add_congr (congrArg (alpha * ·) (x_at m c t r k)) (hy k)
  · exact funext fun k => blk3 m c t k
  · exact funext fun k => blk4 m c t k

/-- What the scratch and the output block hold after each point. -/
theorem holds (c : Dev nD) : ∀ (n : ℕ) (h : n < cfg0.N), Holds m c n (outsAt0 m c n h) := by
  intro n
  induction n with
  | zero => exact fun h => holds_A m c ⟨0, h⟩ rfl
  | succ n ih =>
    intro h
    by_cases h0 : (n + 1) % 8 = 0
    · exact holds_A m c ⟨n + 1, h⟩ h0
    · by_cases h1 : (n + 1) % 8 = 7
      · exact holds_C m c ⟨n + 1, h⟩ h0 h1 (ih _)
      · exact holds_B m c ⟨n + 1, h⟩ h0 h1 (ih _)

/-- The rows of the result as one function of the arguments. -/
def res (c : Dev nD) : FVec Ideal S1024x2048 .f32 := fun i =>
  lnorm (fun k => alpha * X m c (rowOf ((i 0).val / 1024) ((i 0).val % 1024)) k
    + part m c (rowOf ((i 0).val / 1024) ((i 0).val % 1024)) 8 k) (G m c) (B m c) (i 1)

/-- The result array after the run. -/
theorem final (c : Dev nD) : (dats m 0 c).arrAt 5 (cfgs 0).N = res m c := by
  refine (dats m 0 c).arrAt_eq_of_covers 5 _ (by decide +kernel) fun t hf y => ?_
  blk_simp
  rw [after0_5]
  have ht : t.val < 8 := lt_of_lt_of_eq t.isLt N_0
  have h7 := (flush0_5 t).mp hf
  obtain ⟨r, d, rfl⟩ : ∃ (r : Fin 1024) (d : Fin 2048), y = ix2 r d := ⟨y 0, y 1, eq_ix2 y⟩
  have e0 : (((((cfg0.win 5).blk t).view.emb (ix2 r d)) 0 : Fin 1024) : ℕ) = t.val / 8 * 1024 + r.val := by
    blk_simp [idx t]
  have e1 : ((((cfg0.win 5).blk t).view.emb (ix2 r d)) 1 : Fin 2048) = d := by
    apply Fin.ext
    blk_simp [idx t]
  have hr := r.isLt
  refine ((holds m c t.val t.isLt r d).2.2 h7).trans ?_
  unfold res
  rw [e0, e1, show (t.val / 8 * 1024 + r.val) / 1024 = t.val / 8 by omega,
    show (t.val / 8 * 1024 + r.val) % 1024 = r.val by omega]

end Cert.Kernel5Ideal.Mlp

end
-- ==== Proof.MlpSampleRef.lean ====
/- The reference of the feed-forward part, read at an index. -/
module

public import proofs.«01_k».proof.Proof.Gen.Reference5Ideal.Run
public import proofs.«01_k».proof.Proof.Norm
public import Idealize.ShloMosaic.Lib.Pointwise

@[expose] public section

set_option maxRecDepth 16384

noncomputable section

open Idealize.ShloMosaic Idealize.ShloMosaic.TcCoe Idealize.SL.Sem

namespace Cert.Reference5Ideal.Mlp

open Cert.Reference5Ideal Cert.Reference5Ideal.Gen Cert.Layer

/-- The residual and the feed-forward part, before the norm. -/
def pre (arg0 : FVec Ideal S1024x2048 .f32) (arg1 : FVec Ideal S2x2048x8192 .f32) (arg2 : FVec Ideal S2x8192x2048 .f32) : FVec Ideal S1024x2048 .f32 :=
  addf (mulf (broadcastInDim S1024x2048 ![] bcast_S_S1024x2048 (constant S_ .f32 0x3FB504F3#32)) arg0) (Host.dotGeneral dot_S1024x8192_S8192x2048_S1024x2048_1_0_0_1_n_n none (mulf (maximumf (Host.dotGeneral dot_S1024x2048_S2048x8192_S1024x8192_1_0_0_1_n_n none arg0 (shapeCast _ (extractStridedSlice S1x2048x8192 ![1, 0, 0] arg1 slices_S2x2048x8192_S1x2048x8192_1_0_0) shapeCasts_S1x2048x8192_S2048x8192)) (broadcastInDim S1024x8192 ![] bcast_S_S1024x8192 (constant S_ .f32 0x00000000#32))) (maximumf (Host.dotGeneral dot_S1024x2048_S2048x8192_S1024x8192_1_0_0_1_n_n none arg0 (shapeCast _ (extractStridedSlice S1x2048x8192 ![1, 0, 0] arg1 slices_S2x2048x8192_S1x2048x8192_1_0_0) shapeCasts_S1x2048x8192_S2048x8192)) (broadcastInDim S1024x8192 ![] bcast_S_S1024x8192 (constant S_ .f32 0x00000000#32)))) (shapeCast _ (extractStridedSlice S1x8192x2048 ![1, 0, 0] arg2 slices_S2x8192x2048_S1x8192x2048_1_0_0) shapeCasts_S1x8192x2048_S8192x2048))

/-- The norm of `T`. -/
def post (T : FVec Ideal S1024x2048 .f32) (arg3 arg4 : FVec Ideal S2x2048 .f32) : FVec Ideal S1024x2048 .f32 :=
  addf (mulf (mulf (subf T (broadcastInDim S1024x2048 ![0, 1] bcast_S1024x1_S1024x2048_0_1 (Host.divf (broadcastInDim S1024x1 ![0] bcast_S1024_S1024x1_0 (Host.reduceAdd T (constant S_ .f32 0x00000000#32) reducesTo_S1024x2048_S1024_d1 h_S_)) (broadcastInDim S1024x1 ![] bcast_S_S1024x1 (constant S_ .f32 0x45000000#32))))) (broadcastInDim S1024x2048 ![0, 1] bcast_S1024x1_S1024x2048_0_1 (Host.rsqrt (addf (Host.divf (broadcastInDim S1024x1 ![0] bcast_S1024_S1024x1_0 (Host.reduceAdd (mulf (subf T (broadcastInDim S1024x2048 ![0, 1] bcast_S1024x1_S1024x2048_0_1 (Host.divf (broadcastInDim S1024x1 ![0] bcast_S1024_S1024x1_0 (Host.reduceAdd T (constant S_ .f32 0x00000000#32) reducesTo_S1024x2048_S1024_d1 h_S_)) (broadcastInDim S1024x1 ![] bcast_S_S1024x1 (constant S_ .f32 0x45000000#32))))) (subf T (broadcastInDim S1024x2048 ![0, 1] bcast_S1024x1_S1024x2048_0_1 (Host.divf (broadcastInDim S1024x1 ![0] bcast_S1024_S1024x1_0 (Host.reduceAdd T (constant S_ .f32 0x00000000#32) reducesTo_S1024x2048_S1024_d1 h_S_)) (broadcastInDim S1024x1 ![] bcast_S_S1024x1 (constant S_ .f32 0x45000000#32)))))) (constant S_ .f32 0x00000000#32) reducesTo_S1024x2048_S1024_d1 h_S_)) (broadcastInDim S1024x1 ![] bcast_S_S1024x1 (constant S_ .f32 0x45000000#32))) (broadcastInDim S1024x1 ![] bcast_S_S1024x1 (constant S_ .f32 0x3727C5AC#32)))))) (broadcastInDim S1024x2048 ![0, 1] bcast_S1x2048_S1024x2048_0_1 (broadcastInDim S1x2048 ![1] bcast_S2048_S1x2048_1 (shapeCast _ (extractStridedSlice S1x2048 ![1, 0] arg3 slices_S2x2048_S1x2048_1_0) shapeCasts_S1x2048_S2048)))) (broadcastInDim S1024x2048 ![0, 1] bcast_S1x2048_S1024x2048_0_1 (broadcastInDim S1x2048 ![1] bcast_S2048_S1x2048_1 (shapeCast _ (extractStridedSlice S1x2048 ![1, 0] arg4 slices_S2x2048_S1x2048_1_0) shapeCasts_S1x2048_S2048)))

/-- The reference's result is the norm of the residual and the feed-forward part. -/
theorem res_eq (m : (ℓ : Loc nD τ sig) → Buf (Elt Ideal) ℓ) (c : Dev nD) :
    Value.res_main_v38 (F := Ideal) m c
      = post (pre (m ((c : Thread nD τ).loc main_arg0)) (m ((c : Thread nD τ).loc main_arg1)) (m ((c : Thread nD τ).loc main_arg2)))
          (m ((c : Thread nD τ).loc main_arg3)) (m ((c : Thread nD τ).loc main_arg4)) := rfl

/-- The feed-forward part of row `q`, at feature `d`. -/
theorem pre_at (x : FVec Ideal S1024x2048 .f32) (wu : FVec Ideal S2x2048x8192 .f32) (wd : FVec Ideal S2x8192x2048 .f32)
    (q : Fin 1024) (d : Fin 2048) :
    pre x wu wd (ix2 q d)
      = alpha * x (ix2 q d) + ∑ f : Fin 8192, feed (fun k => x (ix2 q k)) (fun k => wu (ix3 1 k f)) * wd (ix3 1 f d) := by
  pointwise [pre, alpha, feed]

/-- The result at row `q` is the norm of that row. -/
theorem post_at (T : FVec Ideal S1024x2048 .f32) (g b : FVec Ideal S2x2048 .f32) (q : Fin 1024) (d : Fin 2048) :
    post T g b (ix2 q d) = lnorm (fun k => T (ix2 q k)) (fun k => g (ix2 1 k)) (fun k => b (ix2 1 k)) d := by
  pointwise [post, lnorm, mean, vari, cnt, eps]

end Cert.Reference5Ideal.Mlp

end
-- ==== Proof.MlpSampleTie.lean ====
/- The two programs of the samples' feed-forward part leave the same result. -/
module

public import proofs.«01_k».proof.Proof.MlpSample
public import proofs.«01_k».proof.Proof.MlpSampleRef

@[expose] public section

set_option maxRecDepth 16384

noncomputable section

open Idealize.ShloMosaic Idealize.ShloMosaic.TcCoe Idealize.SL.Sem

namespace Cert.Kernel5Ideal.Mlp

open Cert.Kernel5Ideal Cert.Kernel5Ideal.Gen Cert.Layer

variable (m : (ℓ : Loc nD τ sig) → Buf (Elt Ideal) ℓ)

/-- The sum over the eight blocks of hidden units is the sum over all hidden units. -/
theorem part_all (c : Dev nD) (q : ℕ) (d : Fin 2048) :
    part m c q 8 d = ∑ f : Fin 8192, feed (X m c q) (WU m c f.val) * WD m c f.val d := by
  refine Eq.trans ?_ (Fin.sum_univ_tiles 8 1024 rfl _).symm
  unfold part
  rw [Finset.sum_range]
  rfl

/-- The row of the input that row `q` of the result comes from. -/
theorem rowOf_row (q : Fin 1024) : rowOf (q.val / 1024) (q.val % 1024) = q.val := by
  unfold rowOf; omega

/-- The kernel's result is the reference's, of the kernel's arguments. -/
theorem tie (c : Dev nD) : res m c
    = Cert.Reference5Ideal.Mlp.post
        (Cert.Reference5Ideal.Mlp.pre (m ((c : Thread nD τ).loc main_arg0)) (m ((c : Thread nD τ).loc main_arg1))
          (m ((c : Thread nD τ).loc main_arg2)))
        (m ((c : Thread nD τ).loc main_arg3)) (m ((c : Thread nD τ).loc main_arg4)) := by
  funext i
  obtain ⟨q, d, rfl⟩ : ∃ (q : Fin 1024) (d : Fin 2048), i = ix2 q d := ⟨i 0, i 1, eq_ix2 i⟩
  have hq := q.isLt
  refine Eq.trans ?_ (Cert.Reference5Ideal.Mlp.post_at _ _ _ q d).symm
  show lnorm (fun k => alpha * X m c (rowOf (q.val / 1024) (q.val % 1024)) k
    + part m c (rowOf (q.val / 1024) (q.val % 1024)) 8 k) (G m c) (B m c) d = _
  rw [rowOf_row]
  have hX : X m c q.val
      = fun k => (m ((c : Thread nD τ).loc main_arg0) : FVec Ideal S1024x2048 .f32) (ix2 q k) :=
    funext fun k => dif_pos q.isLt
  have hU : ∀ f : Fin 8192, WU m c f.val
      = fun k => (m ((c : Thread nD τ).loc main_arg1) : FVec Ideal S2x2048x8192 .f32) (ix3 1 k f) :=
    fun f => funext fun k => dif_pos f.isLt
  have hD : ∀ (f : Fin 8192) (k : Fin 2048), WD m c f.val k
      = (m ((c : Thread nD τ).loc main_arg2) : FVec Ideal S2x8192x2048 .f32) (ix3 1 f k) :=
    fun f k => dif_pos f.isLt
  refine congrArg (fun T => lnorm T (G m c) (B m c) d) (funext fun k => ?_)
  refine Eq.trans ?_ (Cert.Reference5Ideal.Mlp.pre_at _ _ _ q k).symm
  rw [part_all, hX]
  refine Ideal.add_congr rfl (Finset.sum_congr rfl fun f _ => ?_)
  rw [hU f, hD f k]

end Cert.Kernel5Ideal.Mlp

end
-- ==== Proof.FirstSample.lean ====
/- The feed-forward part with its norm, of the first layer, for the samples: what the kernel leaves in its result array. -/
module

public import proofs.«01_k».proof.Proof.Gen.Kernel8Ideal.Frame
public import proofs.«01_k».proof.Proof.Norm
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel8Ideal.Mlp

open Cert.Kernel8Ideal Cert.Kernel8Ideal.Gen Cert.Layer

variable (m : (ℓ : Loc nD τ sig) → Buf (Elt Ideal) ℓ)

/-- The staged copy of the rows, read at an index. -/
theorem pay1_at (x : FVec Ideal S1024x2048 .f32) (r : Fin 1024) (d : Fin 2048) :
    k0_pay1 (F := Ideal) x (ix2 r d) = x (ix2 r d) := by
  pointwise [k0_pay1]

/-- The cleared accumulator, read at an index. -/
theorem pay2_at (r : Fin 1024) (d : Fin 2048) : k0_pay2 (F := Ideal) (ix2 r d) = (0 : EReal) := by
  pointwise [k0_pay2]

/-- One accumulation step, read at an index: the block of hidden units `f` is added to what is there. -/
theorem pay3_at (s : FVec Ideal S1024x2048 .bf16) (wu : FVec Ideal S1x2048x1024 .bf16) (o : FVec Ideal S1024x2048 .f32)
    (wd : FVec Ideal S1x1024x2048 .bf16) (r : Fin 1024) (d : Fin 2048) :
    k0_pay3 (F := Ideal) s wu o wd (ix2 r d)
      = o (ix2 r d) + ∑ f : Fin 1024, feed (fun k => s (ix2 r k)) (fun k => wu (ix3 0 k f)) * wd (ix3 0 f d) := by
  pointwise [k0_pay3, feed]

/-- The last step, read at an index: the norm of the weighted residual and the accumulated rows. -/
theorem pay4_at (x o : FVec Ideal S1024x2048 .f32) (g b : FVec Ideal S1x2048 .f32) (r : Fin 1024) (d : Fin 2048) :
    k0_pay4 (F := Ideal) x o g b (ix2 r d)
      = lnorm (fun k => alpha * x (ix2 r k) + o (ix2 r k)) (fun k => g (ix2 0 k)) (fun k => b (ix2 0 k)) d := by
  pointwise [k0_pay4, lnorm, mean, vari, cnt, eps, alpha]

/-- Where each operand's block starts at a point of the grid. -/
theorem idx : ∀ t : Fin cfg0.N, win0_0.index t = ![t.val / 8, 0]
    ∧ win0_1.index t = ![0, 0, t.val % 8] ∧ win0_2.index t = ![0, t.val % 8, 0] ∧ win0_3.index t = ![0, 0]
    ∧ win0_4.index t = ![0, 0] ∧ win0_5.index t = ![t.val / 8, 0] :=
  (by decide +kernel : ∀ t : Fin grid0.N, _)

/-- The staged input block, read from the input array. -/
theorem blk0 (c : Dev nD) (t : Fin cfg0.N) (r : Fin 1024) (d : Fin 2048) (h) :
    (iblk m c 0 t : FVec Ideal S1024x2048 .f32) (ix2 r d)
      = (m ((c : Thread nD τ).loc main_arg0) : FVec Ideal S1024x2048 .f32) (ix2 ⟨t.val / 8 * 1024 + r.val, h⟩ d) := by
  blk_point [iblk, V, idx t]

/-- The staged block of the first weight, read from the weights: the first layer's. -/
theorem blk1 (c : Dev nD) (t : Fin cfg0.N) (k : Fin 2048) (f : Fin 1024) (h) :
    (iblk m c 1 t : FVec Ideal S1x2048x1024 .bf16) (ix3 0 k f)
      = (m ((c : Thread nD τ).loc main_arg1) : FVec Ideal S2x2048x8192 .f32) (ix3 0 k ⟨t.val % 8 * 1024 + f.val, h⟩) := by
  blk_point [iblk, V, idx t]

/-- The staged block of the second weight, read from the weights: the first layer's. -/
theorem blk2 (c : Dev nD) (t : Fin cfg0.N) (f : Fin 1024) (d : Fin 2048) (h) :
    (iblk m c 2 t : FVec Ideal S1x1024x2048 .bf16) (ix3 0 f d)
      = (m ((c : Thread nD τ).loc main_arg2) : FVec Ideal S2x8192x2048 .f32) (ix3 0 ⟨t.val % 8 * 1024 + f.val, h⟩ d) := by
  blk_point [iblk, V, idx t]

/-- The staged gain, read from the gains: the first layer's. -/
theorem blk3 (c : Dev nD) (t : Fin cfg0.N) (d : Fin 2048) :
    (iblk m c 3 t : FVec Ideal S1x2048 .f32) (ix2 0 d)
      = (m ((c : Thread nD τ).loc main_arg3) : FVec Ideal S2x2048 .f32) (ix2 0 d) := by
  have e : V m c main_v4 = shapeCast S1x2048 (shapeCast S2048 (extractStridedSlice S1x2048 ![0, 0]
      (m ((c : Thread nD τ).loc main_arg3) : FVec Ideal S2x2048 .f32) slices_S2x2048_S1x2048_0_0) shapeCasts_S1x2048_S2048)
      shapeCasts_S2048_S1x2048 := by
    show StableHlo.after hostOps0 (fun b => m (c, b)) _ = _
    after_results <;> rfl
  have e' : (iblk m c 3 t : FVec Ideal S1x2048 .f32) (ix2 0 d) = (V m c main_v4 : FVec Ideal S1x2048 .f32) (ix2 0 d) := by
    blk_point [iblk, idx t]
  rw [e', e]
  pointwise

/-- The staged bias, read from the biases: the first layer's. -/
theorem blk4 (c : Dev nD) (t : Fin cfg0.N) (d : Fin 2048) :
    (iblk m c 4 t : FVec Ideal S1x2048 .f32) (ix2 0 d)
      = (m ((c : Thread nD τ).loc main_arg4) : FVec Ideal S2x2048 .f32) (ix2 0 d) := by
  have e : V m c main_v7 = shapeCast S1x2048 (shapeCast S2048 (extractStridedSlice S1x2048 ![0, 0]
      (m ((c : Thread nD τ).loc main_arg4) : FVec Ideal S2x2048 .f32) slices_S2x2048_S1x2048_0_0) shapeCasts_S1x2048_S2048)
      shapeCasts_S2048_S1x2048 := by
    show StableHlo.after hostOps0 (fun b => m (c, b)) _ = _
    after_results <;> rfl
  have e' : (iblk m c 4 t : FVec Ideal S1x2048 .f32) (ix2 0 d) = (V m c main_v7 : FVec Ideal S1x2048 .f32) (ix2 0 d) := by
    blk_point [iblk, idx t]
  rw [e', e]
  pointwise

/-- Row `q` of the input. -/
def X (c : Dev nD) (q : ℕ) (k : Fin 2048) : EReal :=
  if h : q < 1024 then (m ((c : Thread nD τ).loc main_arg0) : FVec Ideal S1024x2048 .f32) (ix2 ⟨q, h⟩ k) else 0

/-- Column `f` of the first layer's first weight. -/
def WU (c : Dev nD) (f : ℕ) (k : Fin 2048) : EReal :=
  if h : f < 8192 then (m ((c : Thread nD τ).loc main_arg1) : FVec Ideal S2x2048x8192 .f32) (ix3 0 k ⟨f, h⟩) else 0

/-- Row `f` of the first layer's second weight. -/
def WD (c : Dev nD) (f : ℕ) (d : Fin 2048) : EReal :=
  if h : f < 8192 then (m ((c : Thread nD τ).loc main_arg2) : FVec Ideal S2x8192x2048 .f32) (ix3 0 ⟨f, h⟩ d) else 0

/-- The first layer's gain. -/
def G (c : Dev nD) (d : Fin 2048) : EReal := (m ((c : Thread nD τ).loc main_arg3) : FVec Ideal S2x2048 .f32) (ix2 0 d)

/-- The first layer's bias. -/
def B (c : Dev nD) (d : Fin 2048) : EReal := (m ((c : Thread nD τ).loc main_arg4) : FVec Ideal S2x2048 .f32) (ix2 0 d)

/-- What block `j` of the hidden units adds to feature `d` of row `q`. -/
def term (c : Dev nD) (q : ℕ) (d : Fin 2048) (j : ℕ) : EReal :=
  ∑ f : Fin 1024, feed (X m c q) (WU m c (j * 1024 + f.val)) * WD m c (j * 1024 + f.val) d

/-- The sum of the first `n` blocks of hidden units. -/
def part (c : Dev nD) (q n : ℕ) (d : Fin 2048) : EReal := ∑ j ∈ Finset.range n, term m c q d j

/-- The row of the input that row `r` of output block `i` is computed from. -/
def rowOf (i r : ℕ) : ℕ := i * 1024 + r

/-- The row an output block's row is computed from, at a point. -/
theorem rowOf_eq (t : Fin cfg0.N) (r : ℕ) : rowOf (t.val / 8) r = t.val / 8 * 1024 + r := by
  unfold rowOf; omega

/-- The staged input block at a point. -/
theorem x_at (c : Dev nD) (t : Fin cfg0.N) (r : Fin 1024) (d : Fin 2048) :
    (iblk m c 0 t : FVec Ideal S1024x2048 .f32) (ix2 r d) = X m c (rowOf (t.val / 8) r.val) d := by
  have ht : t.val < 8 := lt_of_lt_of_eq t.isLt N_0
  have hr := r.isLt
  have h : t.val / 8 * 1024 + r.val < 1024 := by omega
  unfold X
  rw [rowOf_eq, dif_pos h, blk0 m c t r d h]

/-- The staged block of the first weight at a point. -/
theorem wu_at (c : Dev nD) (t : Fin cfg0.N) (k : Fin 2048) (f : Fin 1024) :
    (iblk m c 1 t : FVec Ideal S1x2048x1024 .bf16) (ix3 0 k f) = WU m c (t.val % 8 * 1024 + f.val) k := by
  have hf := f.isLt
  have h : t.val % 8 * 1024 + f.val < 8192 := by omega
  unfold WU
  rw [dif_pos h, blk1 m c t k f h]

/-- The staged block of the second weight at a point. -/
theorem wd_at (c : Dev nD) (t : Fin cfg0.N) (f : Fin 1024) (d : Fin 2048) :
    (iblk m c 2 t : FVec Ideal S1x1024x2048 .bf16) (ix3 0 f d) = WD m c (t.val % 8 * 1024 + f.val) d := by
  have hf := f.isLt
  have h : t.val % 8 * 1024 + f.val < 8192 := by omega
  unfold WD
  rw [dif_pos h, blk2 m c t f d h]

/-- One accumulation step: with the input rows in the scratch and `o` accumulated so far, a point adds its own block. -/
theorem step_at (c : Dev nD) (t : Fin cfg0.N) (s : FVec Ideal S1024x2048 .bf16) (o : FVec Ideal S1024x2048 .f32)
    (r : Fin 1024) (d : Fin 2048) (hs : ∀ k, s (ix2 r k) = X m c (rowOf (t.val / 8) r.val) k)
    (ho : o (ix2 r d) = part m c (rowOf (t.val / 8) r.val) (t.val % 8) d) :
    k0_pay3 (F := Ideal) s (iblk m c 1 t) o (iblk m c 2 t) (ix2 r d)
      = part m c (rowOf (t.val / 8) r.val) (t.val % 8 + 1) d := by
  rw [pay3_at, ho]
  unfold part
  rw [Finset.sum_range_succ]
  congr 1
  unfold term
  refine Finset.sum_congr rfl fun f _ => ?_
  refine Ideal.mul_congr ?_ (wd_at m c t f d)
  congr 1
  · exact funext hs
  · exact funext fun k => wu_at m c t k f

/-- Before the first block the sum is nothing. -/
theorem part_zero (c : Dev nD) (q : ℕ) (d : Fin 2048) : part m c q 0 d = 0 := by
  unfold part; simp

/-- What the scratch and the output block `w` hold after point `n`, at row `r` and feature `d`. -/
def Holds (c : Dev nD) (n : ℕ) (w : Vec Ideal S1024x2048 .f32 × Vec Ideal S1024x2048 .bf16) : Prop :=
  ∀ (r : Fin 1024) (d : Fin 2048),
    w.2 (ix2 r d) = X m c (rowOf (n / 8) r.val) d
    ∧ (n % 8 ≠ 7 → w.1 (ix2 r d) = part m c (rowOf (n / 8) r.val) (n % 8 + 1) d)
    ∧ (n % 8 = 7 → w.1 (ix2 r d)
        = lnorm (fun k => alpha * X m c (rowOf (n / 8) r.val) k + part m c (rowOf (n / 8) r.val) 8 k) (G m c) (B m c) d)

/-- At the first point of a row block the rows are staged and the first block of hidden units is summed. -/
theorem holds_A (c : Dev nD) (t : Fin cfg0.N) (h0 : t.val % 8 = 0) : Holds m c t.val (outsAt0 m c t.val t.isLt) := by
  intro r d
  have h1 : ¬t.val % 8 = 7 := by omega
  rw [outsAt0_A m c t h0 h1]
  dsimp only
  frame_out
  have hx : ∀ k, k0_pay1 (F := Ideal) (iblk m c 0 t) (ix2 r k) = X m c (rowOf (t.val / 8) r.val) k := fun k =>
    (pay1_at _ r k).trans (x_at m c t r k)
  refine ⟨hx d, fun _ => ?_, fun h => absurd h h1⟩
  refine step_at m c t _ _ r d hx ?_
  rw [h0, part_zero]
  exact pay2_at r d

/-- At a later point but the last the next block of hidden units is added. -/
theorem holds_B (c : Dev nD) (t : Fin cfg0.N) (h0 : ¬t.val % 8 = 0) (h1 : ¬t.val % 8 = 7)
    (ih : Holds m c (t.val - 1) (outsAt0 m c (t.val - 1) (Nat.lt_of_le_of_lt (Nat.sub_le _ _) t.isLt))) :
    Holds m c t.val (outsAt0 m c t.val t.isLt) := by
  have e1 : (t.val - 1) / 8 = t.val / 8 := by omega
  have e2 : (t.val - 1) % 8 + 1 = t.val % 8 := by omega
  have e3 : (t.val - 1) % 8 ≠ 7 := by omega
  intro r d
  rw [outsAt0_B m c t h0 h1]
  dsimp only
  unfold sout0_B_0
  frame_out
  simp only [read_unread_whole]
  have hs : ∀ k, (outsAt0 m c (t.val - 1) (Nat.lt_of_le_of_lt (Nat.sub_le _ _) t.isLt)).2 (ix2 r k)
      = X m c (rowOf (t.val / 8) r.val) k := fun k => by rw [(ih r k).1, e1]
  refine ⟨hs d, fun _ => ?_, fun h => absurd h h1⟩
  refine step_at m c t _ _ r d hs ?_
  rw [(ih r d).2.1 e3, e1, e2]

/-- At the last point of a row block the last block of hidden units is added and the row is normalised. -/
theorem holds_C (c : Dev nD) (t : Fin cfg0.N) (h0 : ¬t.val % 8 = 0) (h1 : t.val % 8 = 7)
    (ih : Holds m c (t.val - 1) (outsAt0 m c (t.val - 1) (Nat.lt_of_le_of_lt (Nat.sub_le _ _) t.isLt))) :
    Holds m c t.val (outsAt0 m c t.val t.isLt) := by
  have e1 : (t.val - 1) / 8 = t.val / 8 := by omega
  have e2 : (t.val - 1) % 8 + 1 = t.val % 8 := by omega
  have e3 : (t.val - 1) % 8 ≠ 7 := by omega
  intro r d
  rw [outsAt0_C m c t h0 h1]
  dsimp only
  unfold sout0_C_0
  frame_out
  simp only [read_unread_whole]
  have hs : ∀ k, (outsAt0 m c (t.val - 1) (Nat.lt_of_le_of_lt (Nat.sub_le _ _) t.isLt)).2 (ix2 r k)
      = X m c (rowOf (t.val / 8) r.val) k := fun k => by rw [(ih r k).1, e1]
  refine ⟨hs d, fun h => absurd h1 h, fun _ => ?_⟩
  have hy : ∀ k, k0_pay3 (F := Ideal) (outsAt0 m c (t.val - 1) (Nat.lt_of_le_of_lt (Nat.sub_le _ _) t.isLt)).2 (iblk m c 1 t)
      (outsAt0 m c (t.val - 1) (Nat.lt_of_le_of_lt (Nat.sub_le _ _) t.isLt)).1 (iblk m c 2 t) (ix2 r k)
      = part m c (rowOf (t.val / 8) r.val) 8 k := fun k => by
    rw [step_at m c t _ _ r k hs (by rw [(ih r k).2.1 e3, e1, e2]), h1]
  refine (pay4_at _ _ _ _ r d).trans ?_
  congr 1
  · exact funext fun k => Ideal.add_congr (congrArg (alpha * ·) (x_at m c t r k)) (hy k)
  · exact funext fun k => blk3 m c t k
  · exact funext fun k => blk4 m c t k

/-- What the scratch and the output block hold after each point. -/
theorem holds (c : Dev nD) : ∀ (n : ℕ) (h : n < cfg0.N), Holds m c n (outsAt0 m c n h) := by
  intro n
  induction n with
  | zero => exact fun h => holds_A m c ⟨0, h⟩ rfl
  | succ n ih =>
    intro h
    by_cases h0 : (n + 1) % 8 = 0
    · exact holds_A m c ⟨n + 1, h⟩ h0
    · by_cases h1 : (n + 1) % 8 = 7
      · exact holds_C m c ⟨n + 1, h⟩ h0 h1 (ih _)
      · exact holds_B m c ⟨n + 1, h⟩ h0 h1 (ih _)

/-- The rows of the result as one function of the arguments. -/
def res (c : Dev nD) : FVec Ideal S1024x2048 .f32 := fun i =>
  lnorm (fun k => alpha * X m c (rowOf ((i 0).val / 1024) ((i 0).val % 1024)) k
    + part m c (rowOf ((i 0).val / 1024) ((i 0).val % 1024)) 8 k) (G m c) (B m c) (i 1)

/-- The result array after the run. -/
theorem final (c : Dev nD) : (dats m 0 c).arrAt 5 (cfgs 0).N = res m c := by
  refine (dats m 0 c).arrAt_eq_of_covers 5 _ (by decide +kernel) fun t hf y => ?_
  blk_simp
  rw [after0_5]
  have ht : t.val < 8 := lt_of_lt_of_eq t.isLt N_0
  have h7 := (flush0_5 t).mp hf
  obtain ⟨r, d, rfl⟩ : ∃ (r : Fin 1024) (d : Fin 2048), y = ix2 r d := ⟨y 0, y 1, eq_ix2 y⟩
  have e0 : (((((cfg0.win 5).blk t).view.emb (ix2 r d)) 0 : Fin 1024) : ℕ) = t.val / 8 * 1024 + r.val := by
    blk_simp [idx t]
  have e1 : ((((cfg0.win 5).blk t).view.emb (ix2 r d)) 1 : Fin 2048) = d := by
    apply Fin.ext
    blk_simp [idx t]
  have hr := r.isLt
  refine ((holds m c t.val t.isLt r d).2.2 h7).trans ?_
  unfold res
  rw [e0, e1, show (t.val / 8 * 1024 + r.val) / 1024 = t.val / 8 by omega,
    show (t.val / 8 * 1024 + r.val) % 1024 = r.val by omega]

end Cert.Kernel8Ideal.Mlp

end
-- ==== Proof.FirstSampleRef.lean ====
/- The reference of the feed-forward part, read at an index. -/
module

public import proofs.«01_k».proof.Proof.Gen.Reference8Ideal.Run
public import proofs.«01_k».proof.Proof.Norm
public import Idealize.ShloMosaic.Lib.Pointwise

@[expose] public section

set_option maxRecDepth 16384

noncomputable section

open Idealize.ShloMosaic Idealize.ShloMosaic.TcCoe Idealize.SL.Sem

namespace Cert.Reference8Ideal.Mlp

open Cert.Reference8Ideal Cert.Reference8Ideal.Gen Cert.Layer

/-- The residual and the feed-forward part, before the norm. -/
def pre (arg0 : FVec Ideal S1024x2048 .f32) (arg1 : FVec Ideal S2x2048x8192 .f32) (arg2 : FVec Ideal S2x8192x2048 .f32) : FVec Ideal S1024x2048 .f32 :=
  addf (mulf (broadcastInDim S1024x2048 ![] bcast_S_S1024x2048 (constant S_ .f32 0x3FB504F3#32)) arg0) (Host.dotGeneral dot_S1024x8192_S8192x2048_S1024x2048_1_0_0_1_n_n none (mulf (maximumf (Host.dotGeneral dot_S1024x2048_S2048x8192_S1024x8192_1_0_0_1_n_n none arg0 (shapeCast _ (extractStridedSlice S1x2048x8192 ![0, 0, 0] arg1 slices_S2x2048x8192_S1x2048x8192_0_0_0) shapeCasts_S1x2048x8192_S2048x8192)) (broadcastInDim S1024x8192 ![] bcast_S_S1024x8192 (constant S_ .f32 0x00000000#32))) (maximumf (Host.dotGeneral dot_S1024x2048_S2048x8192_S1024x8192_1_0_0_1_n_n none arg0 (shapeCast _ (extractStridedSlice S1x2048x8192 ![0, 0, 0] arg1 slices_S2x2048x8192_S1x2048x8192_0_0_0) shapeCasts_S1x2048x8192_S2048x8192)) (broadcastInDim S1024x8192 ![] bcast_S_S1024x8192 (constant S_ .f32 0x00000000#32)))) (shapeCast _ (extractStridedSlice S1x8192x2048 ![0, 0, 0] arg2 slices_S2x8192x2048_S1x8192x2048_0_0_0) shapeCasts_S1x8192x2048_S8192x2048))

/-- The rows of `T` less their means. -/
def dev (T : FVec Ideal S1024x2048 .f32) : FVec Ideal S1024x2048 .f32 :=
  subf T (broadcastInDim S1024x2048 ![0, 1] bcast_S1024x1_S1024x2048_0_1 (Host.divf (broadcastInDim S1024x1 ![0] bcast_S1024_S1024x1_0 (Host.reduceAdd T (constant S_ .f32 0x00000000#32) reducesTo_S1024x2048_S1024_d1 h_S_)) (broadcastInDim S1024x1 ![] bcast_S_S1024x1 (constant S_ .f32 0x45000000#32))))

/-- The rows `V`, less their means, over their deviations, with a gain and a bias. -/
def scaled (V : FVec Ideal S1024x2048 .f32) (arg3 arg4 : FVec Ideal S2x2048 .f32) : FVec Ideal S1024x2048 .f32 :=
  addf (mulf (mulf V (broadcastInDim S1024x2048 ![0, 1] bcast_S1024x1_S1024x2048_0_1 (Host.rsqrt (addf (Host.divf (broadcastInDim S1024x1 ![0] bcast_S1024_S1024x1_0 (Host.reduceAdd (mulf V V) (constant S_ .f32 0x00000000#32) reducesTo_S1024x2048_S1024_d1 h_S_)) (broadcastInDim S1024x1 ![] bcast_S_S1024x1 (constant S_ .f32 0x45000000#32))) (broadcastInDim S1024x1 ![] bcast_S_S1024x1 (constant S_ .f32 0x3727C5AC#32)))))) (broadcastInDim S1024x2048 ![0, 1] bcast_S1x2048_S1024x2048_0_1 (broadcastInDim S1x2048 ![1] bcast_S2048_S1x2048_1 (shapeCast _ (extractStridedSlice S1x2048 ![0, 0] arg3 slices_S2x2048_S1x2048_0_0) shapeCasts_S1x2048_S2048)))) (broadcastInDim S1024x2048 ![0, 1] bcast_S1x2048_S1024x2048_0_1 (broadcastInDim S1x2048 ![1] bcast_S2048_S1x2048_1 (shapeCast _ (extractStridedSlice S1x2048 ![0, 0] arg4 slices_S2x2048_S1x2048_0_0) shapeCasts_S1x2048_S2048)))

/-- The norm of `T`. -/
def post (T : FVec Ideal S1024x2048 .f32) (arg3 arg4 : FVec Ideal S2x2048 .f32) : FVec Ideal S1024x2048 .f32 :=
  scaled (dev T) arg3 arg4

/-- The reference's result is the norm of the residual and the feed-forward part. -/
theorem res_eq (m : (ℓ : Loc nD τ sig) → Buf (Elt Ideal) ℓ) (c : Dev nD) :
    Value.res_main_v38 (F := Ideal) m c
      = post (pre (m ((c : Thread nD τ).loc main_arg0)) (m ((c : Thread nD τ).loc main_arg1)) (m ((c : Thread nD τ).loc main_arg2)))
          (m ((c : Thread nD τ).loc main_arg3)) (m ((c : Thread nD τ).loc main_arg4)) := rfl

/-- The last row of each of the samples, of all rows `T`. -/
def last (T : FVec Ideal S1024x2048 .f32) : FVec Ideal S1x128x2048 .f32 :=
  broadcastInDim S1x128x2048 ![1, 2] bcast_S128x2048_S1x128x2048_1_2 (shapeCast _ (extractStridedSlice S128x1x2048 ![0, 7, 0] (shapeCast _ T shapeCasts_S1024x2048_S128x8x2048) slices_S128x8x2048_S128x1x2048_0_7_0) shapeCasts_S128x1x2048_S128x2048)

/-- The reference's second result is the last rows of its first. -/
theorem last_eq (m : (ℓ : Loc nD τ sig) → Buf (Elt Ideal) ℓ) (c : Dev nD) :
    Value.res_main_v42 (F := Ideal) m c = last (Value.res_main_v38 (F := Ideal) m c) := rfl

/-- The last rows, read at an index. -/
theorem last_at (T : FVec Ideal S1024x2048 .f32) (p : Fin 128) (d : Fin 2048) :
    last T (ix3 0 p d) = T (ix2 ⟨p.val * 8 + 7, by omega⟩ d) := by
  pointwise [last]

/-- The feed-forward part of row `q`, at feature `d`. -/
theorem pre_at (x : FVec Ideal S1024x2048 .f32) (wu : FVec Ideal S2x2048x8192 .f32) (wd : FVec Ideal S2x8192x2048 .f32)
    (q : Fin 1024) (d : Fin 2048) :
    pre x wu wd (ix2 q d)
      = alpha * x (ix2 q d) + ∑ f : Fin 8192, feed (fun k => x (ix2 q k)) (fun k => wu (ix3 0 k f)) * wd (ix3 0 f d) := by
  pointwise [pre, alpha, feed]

/-- The result at row `q` is the norm of that row. -/
theorem post_at (T : FVec Ideal S1024x2048 .f32) (g b : FVec Ideal S2x2048 .f32) (q : Fin 1024) (d : Fin 2048) :
    post T g b (ix2 q d) = lnorm (fun k => T (ix2 q k)) (fun k => g (ix2 0 k)) (fun k => b (ix2 0 k)) d := by
  pointwise [post, scaled, dev, lnorm, mean, vari, cnt, eps]

end Cert.Reference8Ideal.Mlp

end
-- ==== Proof.FirstSampleTie.lean ====
/- The two programs of the samples' feed-forward part leave the same result. -/
module

public import proofs.«01_k».proof.Proof.FirstSample
public import proofs.«01_k».proof.Proof.FirstSampleRef

@[expose] public section

set_option maxRecDepth 16384

noncomputable section

open Idealize.ShloMosaic Idealize.ShloMosaic.TcCoe Idealize.SL.Sem

namespace Cert.Kernel8Ideal.Mlp

open Cert.Kernel8Ideal Cert.Kernel8Ideal.Gen Cert.Layer

variable (m : (ℓ : Loc nD τ sig) → Buf (Elt Ideal) ℓ)

/-- The sum over the eight blocks of hidden units is the sum over all hidden units. -/
theorem part_all (c : Dev nD) (q : ℕ) (d : Fin 2048) :
    part m c q 8 d = ∑ f : Fin 8192, feed (X m c q) (WU m c f.val) * WD m c f.val d := by
  refine Eq.trans ?_ (Fin.sum_univ_tiles 8 1024 rfl _).symm
  unfold part
  rw [Finset.sum_range]
  rfl

/-- The row of the input that row `q` of the result comes from. -/
theorem rowOf_row (q : Fin 1024) : rowOf (q.val / 1024) (q.val % 1024) = q.val := by
  unfold rowOf; omega

/-- The kernel's result is the reference's, of the kernel's arguments. -/
theorem tie (c : Dev nD) : res m c
    = Cert.Reference8Ideal.Mlp.post
        (Cert.Reference8Ideal.Mlp.pre (m ((c : Thread nD τ).loc main_arg0)) (m ((c : Thread nD τ).loc main_arg1))
          (m ((c : Thread nD τ).loc main_arg2)))
        (m ((c : Thread nD τ).loc main_arg3)) (m ((c : Thread nD τ).loc main_arg4)) := by
  funext i
  obtain ⟨q, d, rfl⟩ : ∃ (q : Fin 1024) (d : Fin 2048), i = ix2 q d := ⟨i 0, i 1, eq_ix2 i⟩
  have hq := q.isLt
  refine Eq.trans ?_ (Cert.Reference8Ideal.Mlp.post_at _ _ _ q d).symm
  show lnorm (fun k => alpha * X m c (rowOf (q.val / 1024) (q.val % 1024)) k
    + part m c (rowOf (q.val / 1024) (q.val % 1024)) 8 k) (G m c) (B m c) d = _
  rw [rowOf_row]
  have hX : X m c q.val
      = fun k => (m ((c : Thread nD τ).loc main_arg0) : FVec Ideal S1024x2048 .f32) (ix2 q k) :=
    funext fun k => dif_pos q.isLt
  have hU : ∀ f : Fin 8192, WU m c f.val
      = fun k => (m ((c : Thread nD τ).loc main_arg1) : FVec Ideal S2x2048x8192 .f32) (ix3 0 k f) :=
    fun f => funext fun k => dif_pos f.isLt
  have hD : ∀ (f : Fin 8192) (k : Fin 2048), WD m c f.val k
      = (m ((c : Thread nD τ).loc main_arg2) : FVec Ideal S2x8192x2048 .f32) (ix3 0 f k) :=
    fun f k => dif_pos f.isLt
  refine congrArg (fun T => lnorm T (G m c) (B m c) d) (funext fun k => ?_)
  refine Eq.trans ?_ (Cert.Reference8Ideal.Mlp.pre_at _ _ _ q k).symm
  rw [part_all, hX]
  refine Ideal.add_congr rfl (Finset.sum_congr rfl fun f _ => ?_)
  rw [hU f, hD f k]

/-- The last row of each of the samples, as the lines after the call compute it from all rows `T`. -/
def last (T : FVec Ideal S1024x2048 .f32) : FVec Ideal S1x128x2048 .f32 :=
  broadcastInDim S1x128x2048 ![1, 2] bcast_S128x2048_S1x128x2048_1_2 (shapeCast S128x2048 (extractStridedSlice S128x1x2048 ![0, 7, 0]
    (shapeCast S128x8x2048 T shapeCasts_S1024x2048_S128x8x2048) slices_S128x8x2048_S128x1x2048_0_7_0) shapeCasts_S128x1x2048_S128x2048)

/-- The last rows, read at an index. -/
theorem last_at (T : FVec Ideal S1024x2048 .f32) (p : Fin 128) (d : Fin 2048) :
    last T (ix3 0 p d) = T (ix2 ⟨p.val * 8 + 7, by omega⟩ d) := by
  pointwise [last]

/-- The kernel takes the rows the reference takes. -/
theorem last_tie (T : FVec Ideal S1024x2048 .f32) : last T = Cert.Reference8Ideal.Mlp.last T := by
  funext i
  obtain ⟨p, d, rfl⟩ : ∃ (p : Fin 128) (d : Fin 2048), i = ix3 0 p d :=
    ⟨i 1, i 2, (eq_ix3 i).trans (congrArg (fun z => ix3 z (i 1) (i 2)) (Subsingleton.elim (α := Fin 1) _ _))⟩
  exact (last_at T p d).trans (Cert.Reference8Ideal.Mlp.last_at T p d).symm

/-- The second result after the run: the last rows of the first. -/
theorem tail_last (c : Dev nD) : Pipeline.afterTail₀ cfgs (dats m) 0 (V0 m) [hostOps1] c main_v12 = last (res m c) := by
  have e : Pipeline.withArrays (cfgs 0).spec c (V0 m c) (fun w => (dats m 0 c).arrAt w (cfgs 0).N) (Proc.devRef .tc main_v8)
      = res m c := (Pipeline.withArrays_arr (cfgs 0).spec (by decide) c (V0 m c) _ 5).trans (final m c)
  unfold Pipeline.afterTail₀
  generalize Pipeline.withArrays (cfgs 0).spec c (V0 m c) (fun w => (dats m 0 c).arrAt w (cfgs 0).N) = W at e
  show StableHlo.after hostOps1 W (Proc.devRef .tc main_v12) = _
  have h : StableHlo.after hostOps1 W (Proc.devRef .tc main_v12) = last (W (Proc.devRef .tc main_v8)) := by
    after_results <;> rfl
  rw [h, e]

/-- The kernel's run: both results, and the arguments as launched. -/
theorem run (ρ : Dev nD → PrngReg) :
    θ_run defs (onTc (τ := τ) (main (F := Ideal))) ⟨m, fun _ => 0, ρ⟩ fun r => ∀ c : Dev nD,
      r.2.mem ((c.tc : Thread nD τ).loc main_v8) = res m c
      ∧ r.2.mem ((c.tc : Thread nD τ).loc main_v12) = last (res m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 5).trans (final m c),
      ((h c).2 main_v12 (Pipeline.mem_restRefs_of main_v12 (by decide) (by decide))).trans (tail_last m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main (F := Ideal) m ρ)

end Cert.Kernel8Ideal.Mlp

end
-- ==== Proof.FirstPrompt.lean ====
/- The feed-forward part with its norm, of the first layer, for the prompts: what the kernel leaves in its result array. -/
module

public import proofs.«01_k».proof.Proof.Gen.Kernel9Ideal.Frame
public import proofs.«01_k».proof.Proof.Norm
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel9Ideal.Mlp

open Cert.Kernel9Ideal Cert.Kernel9Ideal.Gen Cert.Layer

variable (m : (ℓ : Loc nD τ sig) → Buf (Elt Ideal) ℓ)

/-- The staged copy of the rows, read at an index. -/
theorem pay1_at (x : FVec Ideal S1088x2048 .f32) (r : Fin 1088) (d : Fin 2048) :
    k0_pay1 (F := Ideal) x (ix2 r d) = x (ix2 r d) := by
  pointwise [k0_pay1]

/-- The cleared accumulator, read at an index. -/
theorem pay2_at (r : Fin 1088) (d : Fin 2048) : k0_pay2 (F := Ideal) (ix2 r d) = (0 : EReal) := by
  pointwise [k0_pay2]

/-- One accumulation step, read at an index: the block of hidden units `f` is added to what is there. -/
theorem pay3_at (s : FVec Ideal S1088x2048 .bf16) (wu : FVec Ideal S1x2048x1024 .bf16) (o : FVec Ideal S1088x2048 .f32)
    (wd : FVec Ideal S1x1024x2048 .bf16) (r : Fin 1088) (d : Fin 2048) :
    k0_pay3 (F := Ideal) s wu o wd (ix2 r d)
      = o (ix2 r d) + ∑ f : Fin 1024, feed (fun k => s (ix2 r k)) (fun k => wu (ix3 0 k f)) * wd (ix3 0 f d) := by
  pointwise [k0_pay3, feed]

/-- The last step, read at an index: the norm of the weighted residual and the accumulated rows. -/
theorem pay4_at (x o : FVec Ideal S1088x2048 .f32) (g b : FVec Ideal S1x2048 .f32) (r : Fin 1088) (d : Fin 2048) :
    k0_pay4 (F := Ideal) x o g b (ix2 r d)
      = lnorm (fun k => alpha * x (ix2 r k) + o (ix2 r k)) (fun k => g (ix2 0 k)) (fun k => b (ix2 0 k)) d := by
  pointwise [k0_pay4, lnorm, mean, vari, cnt, eps, alpha]

/-- Where each operand's block starts at a point of the grid. -/
theorem idx : ∀ t : Fin cfg0.N, win0_0.index t = ![t.val / 8, 0]
    ∧ win0_1.index t = ![0, 0, t.val % 8] ∧ win0_2.index t = ![0, t.val % 8, 0] ∧ win0_3.index t = ![0, 0]
    ∧ win0_4.index t = ![0, 0] ∧ win0_5.index t = ![t.val / 8, 0] :=
  (by decide +kernel : ∀ t : Fin grid0.N, _)

/-- The staged input block, read from the input array. -/
theorem blk0 (c : Dev nD) (t : Fin cfg0.N) (r : Fin 1088) (d : Fin 2048) (h) :
    (iblk m c 0 t : FVec Ideal S1088x2048 .f32) (ix2 r d)
      = (m ((c : Thread nD τ).loc main_arg0) : FVec Ideal S8704x2048 .f32) (ix2 ⟨t.val / 8 * 1088 + r.val, h⟩ d) := by
  blk_point [iblk, V, idx t]

/-- The staged block of the first weight, read from the weights: the first layer's. -/
theorem blk1 (c : Dev nD) (t : Fin cfg0.N) (k : Fin 2048) (f : Fin 1024) (h) :
    (iblk m c 1 t : FVec Ideal S1x2048x1024 .bf16) (ix3 0 k f)
      = (m ((c : Thread nD τ).loc main_arg1) : FVec Ideal S2x2048x8192 .f32) (ix3 0 k ⟨t.val % 8 * 1024 + f.val, h⟩) := by
  blk_point [iblk, V, idx t]

/-- The staged block of the second weight, read from the weights: the first layer's. -/
theorem blk2 (c : Dev nD) (t : Fin cfg0.N) (f : Fin 1024) (d : Fin 2048) (h) :
    (iblk m c 2 t : FVec Ideal S1x1024x2048 .bf16) (ix3 0 f d)
      = (m ((c : Thread nD τ).loc main_arg2) : FVec Ideal S2x8192x2048 .f32) (ix3 0 ⟨t.val % 8 * 1024 + f.val, h⟩ d) := by
  blk_point [iblk, V, idx t]

/-- The staged gain, read from the gains: the first layer's. -/
theorem blk3 (c : Dev nD) (t : Fin cfg0.N) (d : Fin 2048) :
    (iblk m c 3 t : FVec Ideal S1x2048 .f32) (ix2 0 d)
      = (m ((c : Thread nD τ).loc main_arg3) : FVec Ideal S2x2048 .f32) (ix2 0 d) := by
  have e : V m c main_v4 = shapeCast S1x2048 (shapeCast S2048 (extractStridedSlice S1x2048 ![0, 0]
      (m ((c : Thread nD τ).loc main_arg3) : FVec Ideal S2x2048 .f32) slices_S2x2048_S1x2048_0_0) shapeCasts_S1x2048_S2048)
      shapeCasts_S2048_S1x2048 := by
    show StableHlo.after hostOps0 (fun b => m (c, b)) _ = _
    after_results <;> rfl
  have e' : (iblk m c 3 t : FVec Ideal S1x2048 .f32) (ix2 0 d) = (V m c main_v4 : FVec Ideal S1x2048 .f32) (ix2 0 d) := by
    blk_point [iblk, idx t]
  rw [e', e]
  pointwise

/-- The staged bias, read from the biases: the first layer's. -/
theorem blk4 (c : Dev nD) (t : Fin cfg0.N) (d : Fin 2048) :
    (iblk m c 4 t : FVec Ideal S1x2048 .f32) (ix2 0 d)
      = (m ((c : Thread nD τ).loc main_arg4) : FVec Ideal S2x2048 .f32) (ix2 0 d) := by
  have e : V m c main_v7 = shapeCast S1x2048 (shapeCast S2048 (extractStridedSlice S1x2048 ![0, 0]
      (m ((c : Thread nD τ).loc main_arg4) : FVec Ideal S2x2048 .f32) slices_S2x2048_S1x2048_0_0) shapeCasts_S1x2048_S2048)
      shapeCasts_S2048_S1x2048 := by
    show StableHlo.after hostOps0 (fun b => m (c, b)) _ = _
    after_results <;> rfl
  have e' : (iblk m c 4 t : FVec Ideal S1x2048 .f32) (ix2 0 d) = (V m c main_v7 : FVec Ideal S1x2048 .f32) (ix2 0 d) := by
    blk_point [iblk, idx t]
  rw [e', e]
  pointwise

/-- Row `q` of the input. -/
def X (c : Dev nD) (q : ℕ) (k : Fin 2048) : EReal :=
  if h : q < 8704 then (m ((c : Thread nD τ).loc main_arg0) : FVec Ideal S8704x2048 .f32) (ix2 ⟨q, h⟩ k) else 0

/-- Column `f` of the first layer's first weight. -/
def WU (c : Dev nD) (f : ℕ) (k : Fin 2048) : EReal :=
  if h : f < 8192 then (m ((c : Thread nD τ).loc main_arg1) : FVec Ideal S2x2048x8192 .f32) (ix3 0 k ⟨f, h⟩) else 0

/-- Row `f` of the first layer's second weight. -/
def WD (c : Dev nD) (f : ℕ) (d : Fin 2048) : EReal :=
  if h : f < 8192 then (m ((c : Thread nD τ).loc main_arg2) : FVec Ideal S2x8192x2048 .f32) (ix3 0 ⟨f, h⟩ d) else 0

/-- The first layer's gain. -/
def G (c : Dev nD) (d : Fin 2048) : EReal := (m ((c : Thread nD τ).loc main_arg3) : FVec Ideal S2x2048 .f32) (ix2 0 d)

/-- The first layer's bias. -/
def B (c : Dev nD) (d : Fin 2048) : EReal := (m ((c : Thread nD τ).loc main_arg4) : FVec Ideal S2x2048 .f32) (ix2 0 d)

/-- What block `j` of the hidden units adds to feature `d` of row `q`. -/
def term (c : Dev nD) (q : ℕ) (d : Fin 2048) (j : ℕ) : EReal :=
  ∑ f : Fin 1024, feed (X m c q) (WU m c (j * 1024 + f.val)) * WD m c (j * 1024 + f.val) d

/-- The sum of the first `n` blocks of hidden units. -/
def part (c : Dev nD) (q n : ℕ) (d : Fin 2048) : EReal := ∑ j ∈ Finset.range n, term m c q d j

/-- The row of the input that row `r` of output block `i` is computed from. -/
def rowOf (i r : ℕ) : ℕ := i * 1088 + r

/-- The row an output block's row is computed from, at a point. -/
theorem rowOf_eq (t : Fin cfg0.N) (r : ℕ) : rowOf (t.val / 8) r = t.val / 8 * 1088 + r := by
  unfold rowOf; omega

/-- The staged input block at a point. -/
theorem x_at (c : Dev nD) (t : Fin cfg0.N) (r : Fin 1088) (d : Fin 2048) :
    (iblk m c 0 t : FVec Ideal S1088x2048 .f32) (ix2 r d) = X m c (rowOf (t.val / 8) r.val) d := by
  have ht : t.val < 64 := lt_of_lt_of_eq t.isLt N_0
  have hr := r.isLt
  have h : t.val / 8 * 1088 + r.val < 8704 := by omega
  unfold X
  rw [rowOf_eq, dif_pos h, blk0 m c t r d h]

/-- The staged block of the first weight at a point. -/
theorem wu_at (c : Dev nD) (t : Fin cfg0.N) (k : Fin 2048) (f : Fin 1024) :
    (iblk m c 1 t : FVec Ideal S1x2048x1024 .bf16) (ix3 0 k f) = WU m c (t.val % 8 * 1024 + f.val) k := by
  have hf := f.isLt
  have h : t.val % 8 * 1024 + f.val < 8192 := by omega
  unfold WU
  rw [dif_pos h, blk1 m c t k f h]

/-- The staged block of the second weight at a point. -/
theorem wd_at (c : Dev nD) (t : Fin cfg0.N) (f : Fin 1024) (d : Fin 2048) :
    (iblk m c 2 t : FVec Ideal S1x1024x2048 .bf16) (ix3 0 f d) = WD m c (t.val % 8 * 1024 + f.val) d := by
  have hf := f.isLt
  have h : t.val % 8 * 1024 + f.val < 8192 := by omega
  unfold WD
  rw [dif_pos h, blk2 m c t f d h]

/-- One accumulation step: with the input rows in the scratch and `o` accumulated so far, a point adds its own block. -/
theorem step_at (c : Dev nD) (t : Fin cfg0.N) (s : FVec Ideal S1088x2048 .bf16) (o : FVec Ideal S1088x2048 .f32)
    (r : Fin 1088) (d : Fin 2048) (hs : ∀ k, s (ix2 r k) = X m c (rowOf (t.val / 8) r.val) k)
    (ho : o (ix2 r d) = part m c (rowOf (t.val / 8) r.val) (t.val % 8) d) :
    k0_pay3 (F := Ideal) s (iblk m c 1 t) o (iblk m c 2 t) (ix2 r d)
      = part m c (rowOf (t.val / 8) r.val) (t.val % 8 + 1) d := by
  rw [pay3_at, ho]
  unfold part
  rw [Finset.sum_range_succ]
  congr 1
  unfold term
  refine Finset.sum_congr rfl fun f _ => ?_
  refine Ideal.mul_congr ?_ (wd_at m c t f d)
  congr 1
  · exact funext hs
  · exact funext fun k => wu_at m c t k f

/-- Before the first block the sum is nothing. -/
theorem part_zero (c : Dev nD) (q : ℕ) (d : Fin 2048) : part m c q 0 d = 0 := by
  unfold part; simp

/-- What the scratch and the output block `w` hold after point `n`, at row `r` and feature `d`. -/
def Holds (c : Dev nD) (n : ℕ) (w : Vec Ideal S1088x2048 .f32 × Vec Ideal S1088x2048 .bf16) : Prop :=
  ∀ (r : Fin 1088) (d : Fin 2048),
    w.2 (ix2 r d) = X m c (rowOf (n / 8) r.val) d
    ∧ (n % 8 ≠ 7 → w.1 (ix2 r d) = part m c (rowOf (n / 8) r.val) (n % 8 + 1) d)
    ∧ (n % 8 = 7 → w.1 (ix2 r d)
        = lnorm (fun k => alpha * X m c (rowOf (n / 8) r.val) k + part m c (rowOf (n / 8) r.val) 8 k) (G m c) (B m c) d)

/-- At the first point of a row block the rows are staged and the first block of hidden units is summed. -/
theorem holds_A (c : Dev nD) (t : Fin cfg0.N) (h0 : t.val % 8 = 0) : Holds m c t.val (outsAt0 m c t.val t.isLt) := by
  intro r d
  have h1 : ¬t.val % 8 = 7 := by omega
  rw [outsAt0_A m c t h0 h1]
  dsimp only
  frame_out
  have hx : ∀ k, k0_pay1 (F := Ideal) (iblk m c 0 t) (ix2 r k) = X m c (rowOf (t.val / 8) r.val) k := fun k =>
    (pay1_at _ r k).trans (x_at m c t r k)
  refine ⟨hx d, fun _ => ?_, fun h => absurd h h1⟩
  refine step_at m c t _ _ r d hx ?_
  rw [h0, part_zero]
  exact pay2_at r d

/-- At a later point but the last the next block of hidden units is added. -/
theorem holds_B (c : Dev nD) (t : Fin cfg0.N) (h0 : ¬t.val % 8 = 0) (h1 : ¬t.val % 8 = 7)
    (ih : Holds m c (t.val - 1) (outsAt0 m c (t.val - 1) (Nat.lt_of_le_of_lt (Nat.sub_le _ _) t.isLt))) :
    Holds m c t.val (outsAt0 m c t.val t.isLt) := by
  have e1 : (t.val - 1) / 8 = t.val / 8 := by omega
  have e2 : (t.val - 1) % 8 + 1 = t.val % 8 := by omega
  have e3 : (t.val - 1) % 8 ≠ 7 := by omega
  intro r d
  rw [outsAt0_B m c t h0 h1]
  dsimp only
  unfold sout0_B_0
  frame_out
  simp only [read_unread_whole]
  have hs : ∀ k, (outsAt0 m c (t.val - 1) (Nat.lt_of_le_of_lt (Nat.sub_le _ _) t.isLt)).2 (ix2 r k)
      = X m c (rowOf (t.val / 8) r.val) k := fun k => by rw [(ih r k).1, e1]
  refine ⟨hs d, fun _ => ?_, fun h => absurd h h1⟩
  refine step_at m c t _ _ r d hs ?_
  rw [(ih r d).2.1 e3, e1, e2]

/-- At the last point of a row block the last block of hidden units is added and the row is normalised. -/
theorem holds_C (c : Dev nD) (t : Fin cfg0.N) (h0 : ¬t.val % 8 = 0) (h1 : t.val % 8 = 7)
    (ih : Holds m c (t.val - 1) (outsAt0 m c (t.val - 1) (Nat.lt_of_le_of_lt (Nat.sub_le _ _) t.isLt))) :
    Holds m c t.val (outsAt0 m c t.val t.isLt) := by
  have e1 : (t.val - 1) / 8 = t.val / 8 := by omega
  have e2 : (t.val - 1) % 8 + 1 = t.val % 8 := by omega
  have e3 : (t.val - 1) % 8 ≠ 7 := by omega
  intro r d
  rw [outsAt0_C m c t h0 h1]
  dsimp only
  unfold sout0_C_0
  frame_out
  simp only [read_unread_whole]
  have hs : ∀ k, (outsAt0 m c (t.val - 1) (Nat.lt_of_le_of_lt (Nat.sub_le _ _) t.isLt)).2 (ix2 r k)
      = X m c (rowOf (t.val / 8) r.val) k := fun k => by rw [(ih r k).1, e1]
  refine ⟨hs d, fun h => absurd h1 h, fun _ => ?_⟩
  have hy : ∀ k, k0_pay3 (F := Ideal) (outsAt0 m c (t.val - 1) (Nat.lt_of_le_of_lt (Nat.sub_le _ _) t.isLt)).2 (iblk m c 1 t)
      (outsAt0 m c (t.val - 1) (Nat.lt_of_le_of_lt (Nat.sub_le _ _) t.isLt)).1 (iblk m c 2 t) (ix2 r k)
      = part m c (rowOf (t.val / 8) r.val) 8 k := fun k => by
    rw [step_at m c t _ _ r k hs (by rw [(ih r k).2.1 e3, e1, e2]), h1]
  refine (pay4_at _ _ _ _ r d).trans ?_
  congr 1
  · exact funext fun k => Ideal.add_congr (congrArg (alpha * ·) (x_at m c t r k)) (hy k)
  · exact funext fun k => blk3 m c t k
  · exact funext fun k => blk4 m c t k

/-- What the scratch and the output block hold after each point. -/
theorem holds (c : Dev nD) : ∀ (n : ℕ) (h : n < cfg0.N), Holds m c n (outsAt0 m c n h) := by
  intro n
  induction n with
  | zero => exact fun h => holds_A m c ⟨0, h⟩ rfl
  | succ n ih =>
    intro h
    by_cases h0 : (n + 1) % 8 = 0
    · exact holds_A m c ⟨n + 1, h⟩ h0
    · by_cases h1 : (n + 1) % 8 = 7
      · exact holds_C m c ⟨n + 1, h⟩ h0 h1 (ih _)
      · exact holds_B m c ⟨n + 1, h⟩ h0 h1 (ih _)

/-- The rows of the result as one function of the arguments. -/
def res (c : Dev nD) : FVec Ideal S8704x2048 .f32 := fun i =>
  lnorm (fun k => alpha * X m c (rowOf ((i 0).val / 1088) ((i 0).val % 1088)) k
    + part m c (rowOf ((i 0).val / 1088) ((i 0).val % 1088)) 8 k) (G m c) (B m c) (i 1)

/-- The result array after the run. -/
theorem final (c : Dev nD) : (dats m 0 c).arrAt 5 (cfgs 0).N = res m c := by
  refine (dats m 0 c).arrAt_eq_of_covers 5 _ (by decide +kernel) fun t hf y => ?_
  blk_simp
  rw [after0_5]
  have ht : t.val < 64 := lt_of_lt_of_eq t.isLt N_0
  have h7 := (flush0_5 t).mp hf
  obtain ⟨r, d, rfl⟩ : ∃ (r : Fin 1088) (d : Fin 2048), y = ix2 r d := ⟨y 0, y 1, eq_ix2 y⟩
  have e0 : (((((cfg0.win 5).blk t).view.emb (ix2 r d)) 0 : Fin 8704) : ℕ) = t.val / 8 * 1088 + r.val := by
    blk_simp [idx t]
  have e1 : ((((cfg0.win 5).blk t).view.emb (ix2 r d)) 1 : Fin 2048) = d := by
    apply Fin.ext
    blk_simp [idx t]
  have hr := r.isLt
  refine ((holds m c t.val t.isLt r d).2.2 h7).trans ?_
  unfold res
  rw [e0, e1, show (t.val / 8 * 1088 + r.val) / 1088 = t.val / 8 by omega,
    show (t.val / 8 * 1088 + r.val) % 1088 = r.val by omega]

end Cert.Kernel9Ideal.Mlp

end
-- ==== Proof.FirstPromptRef.lean ====
/- The reference of the feed-forward part, read at an index. -/
module

public import proofs.«01_k».proof.Proof.Gen.Reference9Ideal.Run
public import proofs.«01_k».proof.Proof.Norm
public import Idealize.ShloMosaic.Lib.Pointwise

@[expose] public section

set_option maxRecDepth 16384

noncomputable section

open Idealize.ShloMosaic Idealize.ShloMosaic.TcCoe Idealize.SL.Sem

namespace Cert.Reference9Ideal.Mlp

open Cert.Reference9Ideal Cert.Reference9Ideal.Gen Cert.Layer

/-- The residual and the feed-forward part, before the norm. -/
def pre (arg0 : FVec Ideal S8704x2048 .f32) (arg1 : FVec Ideal S2x2048x8192 .f32) (arg2 : FVec Ideal S2x8192x2048 .f32) : FVec Ideal S8704x2048 .f32 :=
  addf (mulf (broadcastInDim S8704x2048 ![] bcast_S_S8704x2048 (constant S_ .f32 0x3FB504F3#32)) arg0) (Host.dotGeneral dot_S8704x8192_S8192x2048_S8704x2048_1_0_0_1_n_n none (mulf (maximumf (Host.dotGeneral dot_S8704x2048_S2048x8192_S8704x8192_1_0_0_1_n_n none arg0 (shapeCast _ (extractStridedSlice S1x2048x8192 ![0, 0, 0] arg1 slices_S2x2048x8192_S1x2048x8192_0_0_0) shapeCasts_S1x2048x8192_S2048x8192)) (broadcastInDim S8704x8192 ![] bcast_S_S8704x8192 (constant S_ .f32 0x00000000#32))) (maximumf (Host.dotGeneral dot_S8704x2048_S2048x8192_S8704x8192_1_0_0_1_n_n none arg0 (shapeCast _ (extractStridedSlice S1x2048x8192 ![0, 0, 0] arg1 slices_S2x2048x8192_S1x2048x8192_0_0_0) shapeCasts_S1x2048x8192_S2048x8192)) (broadcastInDim S8704x8192 ![] bcast_S_S8704x8192 (constant S_ .f32 0x00000000#32)))) (shapeCast _ (extractStridedSlice S1x8192x2048 ![0, 0, 0] arg2 slices_S2x8192x2048_S1x8192x2048_0_0_0) shapeCasts_S1x8192x2048_S8192x2048))

/-- The rows of `T` less their means. -/
def dev (T : FVec Ideal S8704x2048 .f32) : FVec Ideal S8704x2048 .f32 :=
  subf T (broadcastInDim S8704x2048 ![0, 1] bcast_S8704x1_S8704x2048_0_1 (Host.divf (broadcastInDim S8704x1 ![0] bcast_S8704_S8704x1_0 (Host.reduceAdd T (constant S_ .f32 0x00000000#32) reducesTo_S8704x2048_S8704_d1 h_S_)) (broadcastInDim S8704x1 ![] bcast_S_S8704x1 (constant S_ .f32 0x45000000#32))))

/-- The rows `V`, less their means, over their deviations, with a gain and a bias. -/
def scaled (V : FVec Ideal S8704x2048 .f32) (arg3 arg4 : FVec Ideal S2x2048 .f32) : FVec Ideal S8704x2048 .f32 :=
  addf (mulf (mulf V (broadcastInDim S8704x2048 ![0, 1] bcast_S8704x1_S8704x2048_0_1 (Host.rsqrt (addf (Host.divf (broadcastInDim S8704x1 ![0] bcast_S8704_S8704x1_0 (Host.reduceAdd (mulf V V) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x3727C5AC#32)))))) (broadcastInDim S8704x2048 ![0, 1] bcast_S1x2048_S8704x2048_0_1 (broadcastInDim S1x2048 ![1] bcast_S2048_S1x2048_1 (shapeCast _ (extractStridedSlice S1x2048 ![0, 0] arg3 slices_S2x2048_S1x2048_0_0) shapeCasts_S1x2048_S2048)))) (broadcastInDim S8704x2048 ![0, 1] bcast_S1x2048_S8704x2048_0_1 (broadcastInDim S1x2048 ![1] bcast_S2048_S1x2048_1 (shapeCast _ (extractStridedSlice S1x2048 ![0, 0] arg4 slices_S2x2048_S1x2048_0_0) shapeCasts_S1x2048_S2048)))

/-- The norm of `T`. -/
def post (T : FVec Ideal S8704x2048 .f32) (arg3 arg4 : FVec Ideal S2x2048 .f32) : FVec Ideal S8704x2048 .f32 :=
  scaled (dev T) arg3 arg4

/-- The reference's result is the norm of the residual and the feed-forward part. -/
theorem res_eq (m : (ℓ : Loc nD τ sig) → Buf (Elt Ideal) ℓ) (c : Dev nD) :
    Value.res_main_v38 (F := Ideal) m c
      = post (pre (m ((c : Thread nD τ).loc main_arg0)) (m ((c : Thread nD τ).loc main_arg1)) (m ((c : Thread nD τ).loc main_arg2)))
          (m ((c : Thread nD τ).loc main_arg3)) (m ((c : Thread nD τ).loc main_arg4)) := rfl

/-- The last row of each of the prompts, of all rows `T`. -/
def last (T : FVec Ideal S8704x2048 .f32) : FVec Ideal S1x4x2048 .f32 :=
  broadcastInDim S1x4x2048 ![1, 2] bcast_S4x2048_S1x4x2048_1_2 (shapeCast _ (extractStridedSlice S4x1x2048 ![0, 2063, 0] (extractStridedSlice S4x2064x2048 ![0, 0, 0] (shapeCast _ T shapeCasts_S8704x2048_S4x2176x2048) slices_S4x2176x2048_S4x2064x2048_0_0_0) slices_S4x2064x2048_S4x1x2048_0_2063_0) shapeCasts_S4x1x2048_S4x2048)

/-- The reference's second result is the last rows of its first. -/
theorem last_eq (m : (ℓ : Loc nD τ sig) → Buf (Elt Ideal) ℓ) (c : Dev nD) :
    Value.res_main_v43 (F := Ideal) m c = last (Value.res_main_v38 (F := Ideal) m c) := rfl

/-- The last rows, read at an index. -/
theorem last_at (T : FVec Ideal S8704x2048 .f32) (p : Fin 4) (d : Fin 2048) :
    last T (ix3 0 p d) = T (ix2 ⟨p.val * 2176 + 2063, by omega⟩ d) := by
  pointwise [last]

/-- The feed-forward part of row `q`, at feature `d`. -/
theorem pre_at (x : FVec Ideal S8704x2048 .f32) (wu : FVec Ideal S2x2048x8192 .f32) (wd : FVec Ideal S2x8192x2048 .f32)
    (q : Fin 8704) (d : Fin 2048) :
    pre x wu wd (ix2 q d)
      = alpha * x (ix2 q d) + ∑ f : Fin 8192, feed (fun k => x (ix2 q k)) (fun k => wu (ix3 0 k f)) * wd (ix3 0 f d) := by
  pointwise [pre, alpha, feed]

/-- The result at row `q` is the norm of that row. -/
theorem post_at (T : FVec Ideal S8704x2048 .f32) (g b : FVec Ideal S2x2048 .f32) (q : Fin 8704) (d : Fin 2048) :
    post T g b (ix2 q d) = lnorm (fun k => T (ix2 q k)) (fun k => g (ix2 0 k)) (fun k => b (ix2 0 k)) d := by
  pointwise [post, scaled, dev, lnorm, mean, vari, cnt, eps]

end Cert.Reference9Ideal.Mlp

end
-- ==== Proof.FirstPromptTie.lean ====
/- The two programs of the prompts' feed-forward part leave the same result. -/
module

public import proofs.«01_k».proof.Proof.FirstPrompt
public import proofs.«01_k».proof.Proof.FirstPromptRef

@[expose] public section

set_option maxRecDepth 16384

noncomputable section

open Idealize.ShloMosaic Idealize.ShloMosaic.TcCoe Idealize.SL.Sem

namespace Cert.Kernel9Ideal.Mlp

open Cert.Kernel9Ideal Cert.Kernel9Ideal.Gen Cert.Layer

variable (m : (ℓ : Loc nD τ sig) → Buf (Elt Ideal) ℓ)

/-- The sum over the eight blocks of hidden units is the sum over all hidden units. -/
theorem part_all (c : Dev nD) (q : ℕ) (d : Fin 2048) :
    part m c q 8 d = ∑ f : Fin 8192, feed (X m c q) (WU m c f.val) * WD m c f.val d := by
  refine Eq.trans ?_ (Fin.sum_univ_tiles 8 1024 rfl _).symm
  unfold part
  rw [Finset.sum_range]
  rfl

/-- The row of the input that row `q` of the result comes from. -/
theorem rowOf_row (q : Fin 8704) : rowOf (q.val / 1088) (q.val % 1088) = q.val := by
  unfold rowOf; omega

/-- The kernel's result is the reference's, of the kernel's arguments. -/
theorem tie (c : Dev nD) : res m c
    = Cert.Reference9Ideal.Mlp.post
        (Cert.Reference9Ideal.Mlp.pre (m ((c : Thread nD τ).loc main_arg0)) (m ((c : Thread nD τ).loc main_arg1))
          (m ((c : Thread nD τ).loc main_arg2)))
        (m ((c : Thread nD τ).loc main_arg3)) (m ((c : Thread nD τ).loc main_arg4)) := by
  funext i
  obtain ⟨q, d, rfl⟩ : ∃ (q : Fin 8704) (d : Fin 2048), i = ix2 q d := ⟨i 0, i 1, eq_ix2 i⟩
  have hq := q.isLt
  refine Eq.trans ?_ (Cert.Reference9Ideal.Mlp.post_at _ _ _ q d).symm
  show lnorm (fun k => alpha * X m c (rowOf (q.val / 1088) (q.val % 1088)) k
    + part m c (rowOf (q.val / 1088) (q.val % 1088)) 8 k) (G m c) (B m c) d = _
  rw [rowOf_row]
  have hX : X m c q.val
      = fun k => (m ((c : Thread nD τ).loc main_arg0) : FVec Ideal S8704x2048 .f32) (ix2 q k) :=
    funext fun k => dif_pos q.isLt
  have hU : ∀ f : Fin 8192, WU m c f.val
      = fun k => (m ((c : Thread nD τ).loc main_arg1) : FVec Ideal S2x2048x8192 .f32) (ix3 0 k f) :=
    fun f => funext fun k => dif_pos f.isLt
  have hD : ∀ (f : Fin 8192) (k : Fin 2048), WD m c f.val k
      = (m ((c : Thread nD τ).loc main_arg2) : FVec Ideal S2x8192x2048 .f32) (ix3 0 f k) :=
    fun f k => dif_pos f.isLt
  refine congrArg (fun T => lnorm T (G m c) (B m c) d) (funext fun k => ?_)
  refine Eq.trans ?_ (Cert.Reference9Ideal.Mlp.pre_at _ _ _ q k).symm
  rw [part_all, hX]
  refine Ideal.add_congr rfl (Finset.sum_congr rfl fun f _ => ?_)
  rw [hU f, hD f k]

/-- The last row of each of the prompts, as the lines after the call compute it from all rows `T`. -/
def last (T : FVec Ideal S8704x2048 .f32) : FVec Ideal S1x4x2048 .f32 :=
  broadcastInDim S1x4x2048 ![1, 2] bcast_S4x2048_S1x4x2048_1_2 (shapeCast S4x2048 (extractStridedSlice S4x1x2048 ![0, 2063, 0]
    (shapeCast S4x2176x2048 T shapeCasts_S8704x2048_S4x2176x2048) slices_S4x2176x2048_S4x1x2048_0_2063_0) shapeCasts_S4x1x2048_S4x2048)

/-- The last rows, read at an index. -/
theorem last_at (T : FVec Ideal S8704x2048 .f32) (p : Fin 4) (d : Fin 2048) :
    last T (ix3 0 p d) = T (ix2 ⟨p.val * 2176 + 2063, by omega⟩ d) := by
  pointwise [last]

/-- The kernel takes the rows the reference takes. -/
theorem last_tie (T : FVec Ideal S8704x2048 .f32) : last T = Cert.Reference9Ideal.Mlp.last T := by
  funext i
  obtain ⟨p, d, rfl⟩ : ∃ (p : Fin 4) (d : Fin 2048), i = ix3 0 p d :=
    ⟨i 1, i 2, (eq_ix3 i).trans (congrArg (fun z => ix3 z (i 1) (i 2)) (Subsingleton.elim (α := Fin 1) _ _))⟩
  exact (last_at T p d).trans (Cert.Reference9Ideal.Mlp.last_at T p d).symm

/-- The second result after the run: the last rows of the first. -/
theorem tail_last (c : Dev nD) : Pipeline.afterTail₀ cfgs (dats m) 0 (V0 m) [hostOps1] c main_v12 = last (res m c) := by
  have e : Pipeline.withArrays (cfgs 0).spec c (V0 m c) (fun w => (dats m 0 c).arrAt w (cfgs 0).N) (Proc.devRef .tc main_v8)
      = res m c := (Pipeline.withArrays_arr (cfgs 0).spec (by decide) c (V0 m c) _ 5).trans (final m c)
  unfold Pipeline.afterTail₀
  generalize Pipeline.withArrays (cfgs 0).spec c (V0 m c) (fun w => (dats m 0 c).arrAt w (cfgs 0).N) = W at e
  show StableHlo.after hostOps1 W (Proc.devRef .tc main_v12) = _
  have h : StableHlo.after hostOps1 W (Proc.devRef .tc main_v12) = last (W (Proc.devRef .tc main_v8)) := by
    after_results <;> rfl
  rw [h, e]

/-- The kernel's run: both results, and the arguments as launched. -/
theorem run (ρ : Dev nD → PrngReg) :
    θ_run defs (onTc (τ := τ) (main (F := Ideal))) ⟨m, fun _ => 0, ρ⟩ fun r => ∀ c : Dev nD,
      r.2.mem ((c.tc : Thread nD τ).loc main_v8) = res m c
      ∧ r.2.mem ((c.tc : Thread nD τ).loc main_v12) = last (res m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 5).trans (final m c),
      ((h c).2 main_v12 (Pipeline.mem_restRefs_of main_v12 (by decide) (by decide))).trans (tail_last m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main (F := Ideal) m ρ)

end Cert.Kernel9Ideal.Mlp

end
-- ==== Proof.WoRef.lean ====
/- The reference of the output projection of the second layer, read at an index. -/
module

public import proofs.«01_k».proof.Proof.Gen.Reference10Ideal.Run
public import proofs.«01_k».proof.Proof.Norm
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference10Ideal.Wo

open Cert.Reference10Ideal Cert.Reference10Ideal.Gen Cert.Layer

/-- The weighted residual and the projection, before the norm. -/
def pre (arg0 : FVec Ideal S8704x2048 .bf16) (arg1 : FVec Ideal S1x2048x2048 .f32) (arg2 : FVec Ideal S8704x2048 .f32) :
    FVec Ideal S8704x2048 .f32 :=
  addf (mulf (broadcastInDim S8704x2048 ![] bcast_S_S8704x2048 (constant S_ .f32 0x3FB504F3#32)) arg2) (Host.dotGeneral dot_S8704x2048_S2048x2048_S8704x2048_1_0_0_1_n_n none (extf .f32 arg0 bitsLt_bf16_f32) (shapeCast _ arg1 shapeCasts_S1x2048x2048_S2048x2048))

/-- The rows of `T` less their means. -/
def dev (T : FVec Ideal S8704x2048 .f32) : FVec Ideal S8704x2048 .f32 :=
  subf T (broadcastInDim S8704x2048 ![0, 1] bcast_S8704x1_S8704x2048_0_1 (Host.divf (broadcastInDim S8704x1 ![0] bcast_S8704_S8704x1_0 (Host.reduceAdd T (constant S_ .f32 0x00000000#32) reducesTo_S8704x2048_S8704_d1 h_S_)) (broadcastInDim S8704x1 ![] bcast_S_S8704x1 (constant S_ .f32 0x45000000#32))))

/-- The rows `V`, less their means, over their deviations, with a gain and a bias. -/
def scaled (V : FVec Ideal S8704x2048 .f32) (arg3 arg4 : FVec Ideal S2x2048 .f32) : FVec Ideal S8704x2048 .f32 :=
  addf (mulf (mulf V (broadcastInDim S8704x2048 ![0, 1] bcast_S8704x1_S8704x2048_0_1 (Host.rsqrt (addf (Host.divf (broadcastInDim S8704x1 ![0] bcast_S8704_S8704x1_0 (Host.reduceAdd (mulf V V) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x3727C5AC#32)))))) (broadcastInDim S8704x2048 ![0, 1] bcast_S1x2048_S8704x2048_0_1 (broadcastInDim S1x2048 ![1] bcast_S2048_S1x2048_1 (shapeCast _ (extractStridedSlice S1x2048 ![1, 0] arg3 slices_S2x2048_S1x2048_1_0) shapeCasts_S1x2048_S2048)))) (broadcastInDim S8704x2048 ![0, 1] bcast_S1x2048_S8704x2048_0_1 (broadcastInDim S1x2048 ![1] bcast_S2048_S1x2048_1 (shapeCast _ (extractStridedSlice S1x2048 ![1, 0] arg4 slices_S2x2048_S1x2048_1_0) shapeCasts_S1x2048_S2048)))

/-- The norm of `T`. -/
def post (T : FVec Ideal S8704x2048 .f32) (arg3 arg4 : FVec Ideal S2x2048 .f32) : FVec Ideal S8704x2048 .f32 :=
  scaled (dev T) arg3 arg4

/-- The reference's result is the norm of the residual and the projection. -/
theorem res_eq (m : (ℓ : Loc nD τ sig) → Buf (Elt Ideal) ℓ) (c : Dev nD) :
    Value.res_main_v33 (F := Ideal) m c
      = post (pre (m ((c : Thread nD τ).loc main_arg0)) (m ((c : Thread nD τ).loc main_arg1)) (m ((c : Thread nD τ).loc main_arg2))) (m ((c : Thread nD τ).loc main_arg3)) (m ((c : Thread nD τ).loc main_arg4)) := rfl

/-- The residual and the projection of row `q`, at feature `d`. -/
theorem pre_at (xo : FVec Ideal S8704x2048 .bf16) (w : FVec Ideal S1x2048x2048 .f32) (h : FVec Ideal S8704x2048 .f32)
    (q : Fin 8704) (d : Fin 2048) :
    pre xo w h (ix2 q d) = alpha * h (ix2 q d) + ∑ k : Fin 2048, xo (ix2 q k) * w (ix3 0 k d) := by
  pointwise [pre, alpha]

/-- The result at row `q` is the norm of that row. -/
theorem post_at (T : FVec Ideal S8704x2048 .f32) (g b : FVec Ideal S2x2048 .f32) (q : Fin 8704) (d : Fin 2048) :
    post T g b (ix2 q d) = lnorm (fun k => T (ix2 q k)) (fun k => g (ix2 1 k)) (fun k => b (ix2 1 k)) d := by
  pointwise [post, scaled, dev, lnorm, mean, vari, cnt, eps]

end Cert.Reference10Ideal.Wo

end
-- ==== Proof.WoTie.lean ====
/- The output projection of the second layer with its residual and norm, for the prompts: the array the kernel leaves is
   the reference of its arguments. -/
module

public import proofs.«01_k».proof.Proof.Gen.Kernel10Ideal.Value
public import proofs.«01_k».proof.Proof.WoRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel10Ideal.Wo

open Cert.Kernel10Ideal Cert.Kernel10Ideal.Gen Cert.Layer

variable (m : (ℓ : Loc nD τ sig) → Buf (Elt Ideal) ℓ)

/-- The weighted residual and the product, before the norm. -/
def sum (x : FVec Ideal S272x2048 .f32) (v1 : FVec Ideal S272x2048 .bf16) (v2 : FVec Ideal S2048x2048 .bf16) :
    FVec Ideal S272x2048 .f32 :=
  addf (mulf (broadcast S272x2048 (Scalar.ofBits (F := Ideal) .f32 0x3FB504F3#32)) x)
    (matmul dot_S272x2048_S2048x2048_S272x2048_1_0_0_1_n_n none v1
      (shapeCast S2048x2048 v2 shapeCasts_S2048x2048_S2048x2048) (constant S272x2048 .f32 0x00000000#32))

/-- The norm of the rows `T`, as the kernel writes it. -/
def normed (v7 : FVec Ideal S272x2048 .f32) (g b : FVec Ideal S1x2048 .f32) : FVec Ideal S272x2048 .f32 :=
  let v17 : FVec Ideal S272x2048 .f32 := subf v7 (broadcastTo S272x2048 (divf (shapeCast S272x1
    (multiReduction .add [1] S272 v7 0x00000000#32 reduces_S272x2048_S272 (.inl rfl) rfl) shapeCasts_S272_S272x1)
    (broadcast S272x1 (Scalar.ofBits (F := Ideal) .f32 0x45000000#32))) broadcasts_S272x1_S272x2048)
  let v22 : FVec Ideal S272x1 .f32 := divf (shapeCast S272x1
    (multiReduction .add [1] S272 (mulf v17 v17) 0x00000000#32 reduces_S272x2048_S272 (.inl rfl) rfl) shapeCasts_S272_S272x1)
    (broadcast S272x1 (Scalar.ofBits (F := Ideal) .f32 0x45000000#32))
  addf (mulf (mulf v17 (broadcastTo S272x2048 (rsqrt (addf v22 (broadcast S272x1 (Scalar.ofBits (F := Ideal) .f32 0x3727C5AC#32))))
    broadcasts_S272x1_S272x2048)) (broadcastTo S272x2048 (shapeCast S1x2048 g shapeCasts_S1x2048_S1x2048) broadcasts_S1x2048_S272x2048))
    (broadcastTo S272x2048 (shapeCast S1x2048 b shapeCasts_S1x2048_S1x2048) broadcasts_S1x2048_S272x2048)

/-- The stored rows are the norm of the residual and the product. -/
theorem pay1_eq (x : FVec Ideal S272x2048 .f32) (v1 : FVec Ideal S272x2048 .bf16) (v2 : FVec Ideal S2048x2048 .bf16)
    (g b : FVec Ideal S1x2048 .f32) :
    k0_pay1 (F := Ideal) x v1 v2 g b = normed (sum x v1 v2) g b := rfl

/-- The rows before the norm, read at an index. -/
theorem sum_at (x : FVec Ideal S272x2048 .f32) (v1 : FVec Ideal S272x2048 .bf16) (v2 : FVec Ideal S2048x2048 .bf16)
    (r : Fin 272) (d : Fin 2048) :
    sum x v1 v2 (ix2 r d) = alpha * x (ix2 r d) + ∑ k : Fin 2048, v1 (ix2 r k) * v2 (ix2 k d) := by
  pointwise [sum, alpha]

/-- The norm, read at an index. -/
theorem normed_at (T : FVec Ideal S272x2048 .f32) (g b : FVec Ideal S1x2048 .f32) (r : Fin 272) (d : Fin 2048) :
    normed T g b (ix2 r d) = lnorm (fun k => T (ix2 r k)) (fun k => g (ix2 0 k)) (fun k => b (ix2 0 k)) d := by
  pointwise [normed, lnorm, mean, vari, cnt, eps]

/-- Where each operand's block starts at a point of the grid. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] :=
  (by decide +kernel : ∀ t : Fin grid0.N, _)

/-- The staged rows of the features. -/
theorem blk0 (c : Dev nD) (t : Fin cfg0.N) (r : Fin 272) (k : Fin 2048) (h) :
    (iblk m c 0 t : FVec Ideal S272x2048 .bf16) (ix2 r k)
      = (m ((c : Thread nD τ).loc main_arg0) : FVec Ideal S8704x2048 .bf16) (ix2 ⟨t.val * 272 + r.val, h⟩ k) := by
  blk_point [iblk, V, idx t]

/-- The staged weight. -/
theorem blk1 (c : Dev nD) (t : Fin cfg0.N) (k d : Fin 2048) :
    (iblk m c 1 t : FVec Ideal S2048x2048 .bf16) (ix2 k d)
      = (m ((c : Thread nD τ).loc main_arg1) : FVec Ideal S1x2048x2048 .f32) (ix3 0 k d) := by
  blk_point [iblk, V, idx t]

/-- The staged rows of the residual. -/
theorem blk2 (c : Dev nD) (t : Fin cfg0.N) (r : Fin 272) (k : Fin 2048) (h) :
    (iblk m c 2 t : FVec Ideal S272x2048 .f32) (ix2 r k)
      = (m ((c : Thread nD τ).loc main_arg2) : FVec Ideal S8704x2048 .f32) (ix2 ⟨t.val * 272 + r.val, h⟩ k) := by
  blk_point [iblk, V, idx t]

/-- The staged gain. -/
theorem blk3 (c : Dev nD) (t : Fin cfg0.N) (d : Fin 2048) :
    (iblk m c 3 t : FVec Ideal S1x2048 .f32) (ix2 0 d)
      = (m ((c : Thread nD τ).loc main_arg3) : FVec Ideal S2x2048 .f32) (ix2 1 d) := by
  blk_point [iblk, V, idx t]

/-- The staged bias. -/
theorem blk4 (c : Dev nD) (t : Fin cfg0.N) (d : Fin 2048) :
    (iblk m c 4 t : FVec Ideal S1x2048 .f32) (ix2 0 d)
      = (m ((c : Thread nD τ).loc main_arg4) : FVec Ideal S2x2048 .f32) (ix2 1 d) := by
  blk_point [iblk, V, idx t]

/-- The result as one function of the arguments: the reference's norm of the reference's rows. -/
def res (c : Dev nD) : FVec Ideal S8704x2048 .f32 :=
  Cert.Reference10Ideal.Wo.post
    (Cert.Reference10Ideal.Wo.pre (m ((c : Thread nD τ).loc main_arg0)) (m ((c : Thread nD τ).loc main_arg1)) (m ((c : Thread nD τ).loc main_arg2))) (m ((c : Thread nD τ).loc main_arg3)) (m ((c : Thread nD τ).loc main_arg4))

/-- The result array after the run. -/
theorem final (c : Dev nD) : (dats m 0 c).arrAt 5 (cfgs 0).N = res m c := by
  refine (dats m 0 c).arrAt_eq_of_covers 5 _ (by decide +kernel) fun t hf y => ?_
  blk_simp
  rw [after0_5]
  frame_out
  have ht : t.val < 32 := lt_of_lt_of_eq t.isLt N_0
  obtain ⟨r, d, rfl⟩ : ∃ (r : Fin 272) (d : Fin 2048), y = ix2 r d := ⟨y 0, y 1, eq_ix2 y⟩
  have hr := r.isLt
  have h2 : t.val * 272 + r.val < 8704 := by omega
  have e : ((cfg0.win 5).blk t).view.emb (ix2 r d) = ix2 ⟨t.val * 272 + r.val, h2⟩ d := by
    refine (eq_ix2 _).trans (congrArg₂ ix2 (Fin.ext ?_) (Fin.ext ?_)) <;> blk_simp [idx t]
  rw [e, pay1_eq]
  refine (normed_at _ _ _ r d).trans ?_
  unfold res
  refine Eq.trans ?_ (Cert.Reference10Ideal.Wo.post_at _ _ _ ⟨t.val * 272 + r.val, h2⟩ d).symm
  have hg : (fun k : Fin 2048 => (iblk m c 3 t : FVec Ideal S1x2048 .f32) (ix2 0 k))
      = fun k => (m ((c : Thread nD τ).loc main_arg3) : FVec Ideal S2x2048 .f32) (ix2 1 k) := funext fun k => blk3 m c t k
  have hb : (fun k : Fin 2048 => (iblk m c 4 t : FVec Ideal S1x2048 .f32) (ix2 0 k))
      = fun k => (m ((c : Thread nD τ).loc main_arg4) : FVec Ideal S2x2048 .f32) (ix2 1 k) := funext fun k => blk4 m c t k
  rw [hg, hb]
  refine congrArg (fun T => lnorm T _ _ d) (funext fun k => ?_)
  refine (sum_at _ _ _ r k).trans ?_
  refine Eq.trans ?_ (Cert.Reference10Ideal.Wo.pre_at _ _ _ ⟨t.val * 272 + r.val, h2⟩ k).symm
  refine Ideal.add_congr (Ideal.mul_congr rfl (blk2 m c t r k h2)) ?_
  exact Finset.sum_congr rfl fun j _ => Ideal.mul_congr (blk0 m c t r j h2) (blk1 m c t j k)

end Cert.Kernel10Ideal.Wo

end
-- ==== Proof.RkvRef.lean ====
/- The reference of the three projections of the second layer, read at an index. -/
module

public import proofs.«01_k».proof.Proof.Gen.Reference11Ideal.Run
public import proofs.«01_k».proof.Proof.Norm
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference11Ideal.Rkv

open Cert.Reference11Ideal Cert.Reference11Ideal.Gen Cert.Layer

/-- The rows one token before. -/
def prev (arg0 : FVec Ideal S128x8x2048 .f32) (arg1 : FVec Ideal S1x128x2048 .f32) : FVec Ideal S128x8x2048 .f32 :=
  concatenate S128x8x2048 1 [⟨S128x1x2048, (broadcastInDim S128x1x2048 ![0, 2] bcast_S128x2048_S128x1x2048_0_2 (shapeCast _ arg1 shapeCasts_S1x128x2048_S128x2048))⟩, ⟨S128x7x2048, (extractStridedSlice S128x7x2048 ![0, 0, 0] arg0 slices_S128x8x2048_S128x7x2048_0_0_0)⟩] concatenates_S128x1x2048_S128x7x2048_S128x8x2048_d1

/-- The rows mixed with those one token before. -/
def mix (arg0 Y : FVec Ideal S128x8x2048 .f32) (MU : FVec Ideal S1x1x2048 .f32) : FVec Ideal S128x8x2048 .f32 :=
  addf arg0 (mulf (subf Y arg0) (broadcastInDim S128x8x2048 ![0, 1, 2] bcast_S1x1x2048_S128x8x2048_0_1_2 (broadcastInDim S1x1x2048 ![2] bcast_S2048_S1x1x2048_2 (shapeCast _ MU shapeCasts_S1x1x2048_S2048))))

/-- One projection of the mixed rows. -/
def prod (X : FVec Ideal S128x8x2048 .f32) (W : FVec Ideal S1x2048x2048 .f32) : FVec Ideal S1x128x8x2048 .f32 :=
  broadcastInDim S1x128x8x2048 ![1, 2, 3] bcast_S128x8x2048_S1x128x8x2048_1_2_3 (Host.dotGeneral dot_S128x8x2048_S2048x2048_S128x8x2048_2_0_01_1_n_n none X (shapeCast _ W shapeCasts_S1x2048x2048_S2048x2048))

/-- Three arrays, one after the other, with their rows in one axis. -/
def stack (P0 P1 P2 : FVec Ideal S1x128x8x2048 .f32) : FVec Ideal S3x1024x2048 .f32 :=
  shapeCast _ ((concatenate S3x128x8x2048 0 [⟨S1x128x8x2048, (P0 : FVec Ideal S1x128x8x2048 .f32)⟩, ⟨S1x128x8x2048, (P1 : FVec Ideal S1x128x8x2048 .f32)⟩, ⟨S1x128x8x2048, (P2 : FVec Ideal S1x128x8x2048 .f32)⟩] concatenates_S1x128x8x2048_S1x128x8x2048_S1x128x8x2048_S3x128x8x2048_d0 : FVec Ideal S3x128x8x2048 .f32)) shapeCasts_S3x128x8x2048_S3x1024x2048

/-- The reference's result. -/
def out (arg0 : FVec Ideal S128x8x2048 .f32) (arg1 : FVec Ideal S1x128x2048 .f32) (arg2 : FVec Ideal S1x6x2048 .f32)
    (arg3 : FVec Ideal S3x2048x2048 .bf16) : FVec Ideal S3x1024x2048 .f32 :=
  stack (prod (mix arg0 (prev arg0 arg1) (extractStridedSlice S1x1x2048 ![0, 0, 0] arg2 slices_S1x6x2048_S1x1x2048_0_0_0)) (extractStridedSlice S1x2048x2048 ![0, 0, 0] (extf .f32 arg3 bitsLt_bf16_f32) slices_S3x2048x2048_S1x2048x2048_0_0_0))
    (prod (mix arg0 (prev arg0 arg1) (extractStridedSlice S1x1x2048 ![0, 2, 0] arg2 slices_S1x6x2048_S1x1x2048_0_2_0)) (extractStridedSlice S1x2048x2048 ![1, 0, 0] (extf .f32 arg3 bitsLt_bf16_f32) slices_S3x2048x2048_S1x2048x2048_1_0_0))
    (prod (mix arg0 (prev arg0 arg1) (extractStridedSlice S1x1x2048 ![0, 3, 0] arg2 slices_S1x6x2048_S1x1x2048_0_3_0)) (extractStridedSlice S1x2048x2048 ![2, 0, 0] (extf .f32 arg3 bitsLt_bf16_f32) slices_S3x2048x2048_S1x2048x2048_2_0_0))

/-- The reference runs, leaves `out` of its arguments and leaves the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v39) = out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1, (h c).2⟩) (Value.run (F := Ideal) m ρ)

/-- The row before token `s` of sample `p`: the state's at the first. -/
theorem prev_at (x : FVec Ideal S128x8x2048 .f32) (xl : FVec Ideal S1x128x2048 .f32) (p : Fin 128) (s : Fin 8) (k : Fin 2048) :
    prev x xl (ix3 p s k) = if h : s.val < 1 then xl (ix3 0 p k) else x (ix3 p ⟨s.val - 1, by omega⟩ k) := by
  pointwise [prev]

/-- The mixed rows, read at an index. -/
theorem mix_at (x y : FVec Ideal S128x8x2048 .f32) (mu : FVec Ideal S1x1x2048 .f32) (p : Fin 128) (s : Fin 8) (k : Fin 2048) :
    mix x y mu (ix3 p s k) = x (ix3 p s k) + (y (ix3 p s k) - x (ix3 p s k)) * mu (ix3 0 0 k) := by
  pointwise [mix]

/-- A projection, read at an index. -/
theorem prod_at (x : FVec Ideal S128x8x2048 .f32) (w : FVec Ideal S1x2048x2048 .f32) (p : Fin 128) (s : Fin 8) (d : Fin 2048) :
    prod x w (ix4 0 p s d) = ∑ k : Fin 2048, x (ix3 p s k) * w (ix3 0 k d) := by
  pointwise [prod]

/-- Row `q` of array `j` of the stack. -/
theorem stack_at (P0 P1 P2 : FVec Ideal S1x128x8x2048 .f32) (j : Fin 3) (q : Fin 1024) (d : Fin 2048) :
    stack P0 P1 P2 (ix3 j q d)
      = (if j.val = 0 then P0 else if j.val = 1 then P1 else P2) (ix4 0 ⟨q.val / 8, by omega⟩ ⟨q.val % 8, by omega⟩ d) := by
  pointwise [stack]
  obtain ⟨j, hj⟩ := j
  match j, hj with
  | 0, _ => rfl
  | 1, _ => rfl
  | 2, _ => rfl

end Cert.Reference11Ideal.Rkv

end
-- ==== Proof.Place.lean ====
/- An index of three axes from its coordinates, and the row one token before. -/
module

public import Idealize.ShloMosaic.Lib.Pointwise

@[expose] public section

noncomputable section

namespace Cert.Layer

open Idealize.ShloMosaic

/-- An index of three axes is the one with its coordinates. -/
theorem ix3_of {n0 n1 n2 : ℕ} (f : (⟨3, ![n0, n1, n2]⟩ : Shape).Idx) (a : Fin n0) (b : Fin n1) (c : Fin n2)
    (h0 : (f 0).val = a.val) (h1 : (f 1).val = b.val) (h2 : (f 2).val = c.val) : f = ix3 a b c := by
  rw [eq_ix3 f]
  exact (congrArg (fun z => ix3 z (f 1) (f 2)) (Fin.ext h0)).trans
    ((congrArg (fun z => ix3 a z (f 2)) (Fin.ext h1)).trans (congrArg (fun z => ix3 a b z) (Fin.ext h2)))

/-- An axis of one has one coordinate. -/
theorem one_val (z : Fin 1) : z.val = 0 := by omega

/-- A row mixed with the one before it. -/
def mixed (x y mu : EReal) : EReal := x + (y - x) * mu

end Cert.Layer

end
-- ==== Proof.Rkv.lean ====
/- The three projections of the second layer's mixed rows, for the samples: what the scratch holds after each point, and the
   array the kernel leaves. -/
module

public import proofs.«01_k».proof.Proof.Gen.Kernel11Ideal.Value
public import proofs.«01_k».proof.Proof.RkvRef
public import proofs.«01_k».proof.Proof.Place
public import Idealize.ShloMosaic.Lib.Pipeline.ReadBack
public import Idealize.ShloMosaic.Lib.Pipeline.ValueKit
public import Idealize.ShloMosaic.Lib.Pointwise

@[expose] public section
set_option maxRecDepth 16384
noncomputable section

open Idealize.ShloMosaic Idealize.ShloMosaic.TcCoe Idealize.SL.Sem
open Idealize.ShloMosaic.Pipeline (Dat)
namespace Cert.Kernel11Ideal.Rkv

open Cert.Kernel11Ideal Cert.Kernel11Ideal.Gen Cert.Layer

variable (m : (ℓ : Loc nD τ sig) → Buf (Elt Ideal) ℓ)

/-- What the three stores of mixed rows leave. -/
def three (w0 w1 w2 : FVec Ideal S1x512x2048 .bf16) : Vec Ideal S3x512x2048 .bf16 :=
  View.canon (Val := Elt Ideal) [⟨Rect.unit ![2, 0, 0] ![1, 512, 2048] inb_S3x512x2048_S1x512x2048_2_0_0, w2⟩,
    ⟨Rect.unit ![1, 0, 0] ![1, 512, 2048] inb_S3x512x2048_S1x512x2048_1_0_0, w1⟩,
    ⟨Rect.unit ![0, 0, 0] ![1, 512, 2048] inb_S3x512x2048_S1x512x2048_0_0_0, w0⟩]

/-- They are read back array by array. -/
theorem three_at (w0 w1 w2 : FVec Ideal S1x512x2048 .bf16) (j : Fin 3) (r : Fin 512) (k : Fin 2048) :
    three w0 w1 w2 (ix3 j r k) = (if j.val = 0 then w0 else if j.val = 1 then w1 else w2) (ix3 0 r k) := by
  refine (View.canon_apply_of_pieces (fun y : S3x512x2048.Idx =>
    ((if (y 0).val = 0 then w0 else if (y 0).val = 1 then w1 else w2) : FVec Ideal S1x512x2048 .bf16) (ix3 0 (y 1) (y 2))) _ ?_ _
    (View.cover_of_tiled _ ![1, 512, 2048] (by rfl) _)).trans ?_
  · intro p hp x
    simp only [List.mem_cons, List.not_mem_nil, or_false] at hp
    rcases hp with rfl | rfl | rfl
    · have h0 := one_val (x (0 : Fin 3))
      have e : ((Rect.unit (s := S3x512x2048) ![2, 0, 0] ![1, 512, 2048] inb_S3x512x2048_S1x512x2048_2_0_0).emb x)
          = ix3 (2 : Fin 3) (x (1 : Fin 3)) (x (2 : Fin 3)) := by
        refine ix3_of _ _ _ _ ?_ ?_ ?_
        · show 2 + 1 * (x (0 : Fin 3)).val = 2
          omega
        · show 0 + 1 * (x (1 : Fin 3)).val = (x (1 : Fin 3)).val
          omega
        · show 0 + 1 * (x (2 : Fin 3)).val = (x (2 : Fin 3)).val
          omega
      dsimp only
      rw [e]
      exact congrArg w2 (ix3_of x _ _ _ h0 rfl rfl)
    · have h0 := one_val (x (0 : Fin 3))
      have e : ((Rect.unit (s := S3x512x2048) ![1, 0, 0] ![1, 512, 2048] inb_S3x512x2048_S1x512x2048_1_0_0).emb x)
          = ix3 (1 : Fin 3) (x (1 : Fin 3)) (x (2 : Fin 3)) := by
        refine ix3_of _ _ _ _ ?_ ?_ ?_
        · show 1 + 1 * (x (0 : Fin 3)).val = 1
          omega
        · show 0 + 1 * (x (1 : Fin 3)).val = (x (1 : Fin 3)).val
          omega
        · show 0 + 1 * (x (2 : Fin 3)).val = (x (2 : Fin 3)).val
          omega
      dsimp only
      rw [e]
      exact congrArg w1 (ix3_of x _ _ _ h0 rfl rfl)
    · have h0 := one_val (x (0 : Fin 3))
      have e : ((Rect.unit (s := S3x512x2048) ![0, 0, 0] ![1, 512, 2048] inb_S3x512x2048_S1x512x2048_0_0_0).emb x)
          = ix3 (0 : Fin 3) (x (1 : Fin 3)) (x (2 : Fin 3)) := by
        refine ix3_of _ _ _ _ ?_ ?_ ?_
        · show 0 + 1 * (x (0 : Fin 3)).val = 0
          omega
        · show 0 + 1 * (x (1 : Fin 3)).val = (x (1 : Fin 3)).val
          omega
        · show 0 + 1 * (x (2 : Fin 3)).val = (x (2 : Fin 3)).val
          omega
      dsimp only
      rw [e]
      exact congrArg w0 (ix3_of x _ _ _ h0 rfl rfl)
  · rfl

/-- The scratch of the token shift: the state's row, then the rows. -/
def shifted (x : FVec Ideal S64x8x2048 .f32) (st : FVec Ideal S64x1x2048 .f32) : Vec Ideal S64x16x2048 .f32 :=
  View.canon (Val := Elt Ideal)
    [⟨Rect.unit ![0, 8, 0] ![64, 8, 2048] inb_S64x16x2048_S64x8x2048_0_8_0, k0_pay5 (F := Ideal) x⟩,
      ⟨Rect.unit ![0, 7, 0] ![64, 1, 2048] inb_S64x16x2048_S64x1x2048_0_7_0, k0_pay4 (F := Ideal) st⟩]

/-- The rows one token before, as the scratch holds them. -/
def prev (x : FVec Ideal S64x8x2048 .f32) (st : FVec Ideal S64x1x2048 .f32) : Vec Ideal S64x8x2048 .f32 :=
  View.ld (shifted x st) (Rect.unit ![0, 7, 0] ![64, 8, 2048] inb_S64x16x2048_S64x8x2048_0_7_0)

/-- The row before token `s`: the state's at the first. -/
theorem prev_at (x : FVec Ideal S64x8x2048 .f32) (st : FVec Ideal S64x1x2048 .f32) (p : Fin 64) (s : Fin 8) (k : Fin 2048) :
    prev x st (ix3 p s k) = if h : s.val < 1 then st (ix3 p 0 k) else x (ix3 p ⟨s.val - 1, by omega⟩ k) := by
  have e : (Rect.unit (s := S64x16x2048) ![0, 7, 0] ![64, 8, 2048] inb_S64x16x2048_S64x8x2048_0_7_0).idx (ix3 p s k)
      = ix3 p (⟨7 + s.val, by omega⟩ : Fin 16) k := by
    refine ix3_of _ _ _ _ ?_ ?_ ?_
    · show 0 + 1 * p.val = p.val
      omega
    · show 7 + 1 * s.val = 7 + s.val
      omega
    · show 0 + 1 * k.val = k.val
      omega
  have hs := s.isLt
  show shifted x st ((Rect.unit (s := S64x16x2048) ![0, 7, 0] ![64, 8, 2048] inb_S64x16x2048_S64x8x2048_0_7_0).idx (ix3 p s k)) = _
  rw [e]
  unfold shifted
  by_cases h : s.val < 1
  · rw [dif_pos h, View.canon_cons_of_not_mem]
    · have e1 : ix3 p (⟨7 + s.val, by omega⟩ : Fin 16) k
          = (Rect.unit (s := S64x16x2048) ![0, 7, 0] ![64, 1, 2048] inb_S64x16x2048_S64x1x2048_0_7_0).emb (ix3 p 0 k) := by
        refine (ix3_of _ _ _ _ ?_ ?_ ?_).symm
        · show 0 + 1 * p.val = p.val
          omega
        · show 7 + 1 * 0 = 7 + s.val
          omega
        · show 0 + 1 * k.val = k.val
          omega
      rw [e1, View.canon_cons_emb]
      pointwise [k0_pay4]
    · intro hm
      obtain ⟨z, hz⟩ := (Rect.unit (s := S64x16x2048) ![0, 8, 0] ![64, 8, 2048] inb_S64x16x2048_S64x8x2048_0_8_0).exists_idx_of_mem hm
      have h1 : 8 + 1 * (z (1 : Fin 3)).val = 7 + s.val := congrArg (fun f : S64x16x2048.Idx => (f (1 : Fin 3)).val) hz
      omega
  · rw [dif_neg h]
    have e1 : ix3 p (⟨7 + s.val, by omega⟩ : Fin 16) k
        = (Rect.unit (s := S64x16x2048) ![0, 8, 0] ![64, 8, 2048] inb_S64x16x2048_S64x8x2048_0_8_0).emb
            (ix3 p (⟨s.val - 1, by omega⟩ : Fin 8) k) := by
      refine (ix3_of _ _ _ _ ?_ ?_ ?_).symm
      · show 0 + 1 * p.val = p.val
        omega
      · show 8 + 1 * (s.val - 1) = 7 + s.val
        omega
      · show 0 + 1 * k.val = k.val
        omega
    rw [e1, View.canon_cons_emb]
    pointwise [k0_pay5]

/-- The first stored rows, read at an index. -/
theorem pay8_at (y x : FVec Ideal S64x8x2048 .f32) (mu : FVec Ideal S1x1x2048 .f32) (r : Fin 512) (k : Fin 2048) :
    k0_pay8 (F := Ideal) y x mu (ix3 0 r k)
      = x (ix3 ⟨r.val / 8, by omega⟩ ⟨r.val % 8, by omega⟩ k)
        + (y (ix3 ⟨r.val / 8, by omega⟩ ⟨r.val % 8, by omega⟩ k) - x (ix3 ⟨r.val / 8, by omega⟩ ⟨r.val % 8, by omega⟩ k)) * mu (ix3 0 0 k) := by
  pointwise [k0_pay8, k0_pay7]

/-- The second stored rows, read at an index. -/
theorem pay1_at (y x : FVec Ideal S64x8x2048 .f32) (mu : FVec Ideal S1x1x2048 .f32) (r : Fin 512) (k : Fin 2048) :
    k0_pay1 (F := Ideal) x (k0_pay7 y x) (k0_pay9 mu) (ix3 0 r k)
      = x (ix3 ⟨r.val / 8, by omega⟩ ⟨r.val % 8, by omega⟩ k)
        + (y (ix3 ⟨r.val / 8, by omega⟩ ⟨r.val % 8, by omega⟩ k) - x (ix3 ⟨r.val / 8, by omega⟩ ⟨r.val % 8, by omega⟩ k)) * mu (ix3 0 0 k) := by
  pointwise [k0_pay1, k0_pay7, k0_pay9]

/-- The third stored rows, read at an index. -/
theorem pay2_at (y x : FVec Ideal S64x8x2048 .f32) (mu : FVec Ideal S1x1x2048 .f32) (r : Fin 512) (k : Fin 2048) :
    k0_pay2 (F := Ideal) x (k0_pay7 y x) mu (ix3 0 r k)
      = x (ix3 ⟨r.val / 8, by omega⟩ ⟨r.val % 8, by omega⟩ k)
        + (y (ix3 ⟨r.val / 8, by omega⟩ ⟨r.val % 8, by omega⟩ k) - x (ix3 ⟨r.val / 8, by omega⟩ ⟨r.val % 8, by omega⟩ k)) * mu (ix3 0 0 k) := by
  pointwise [k0_pay2, k0_pay7]

/-- The product, read at an index. -/
theorem pay3_at (x : FVec Ideal S1x512x2048 .bf16) (w : FVec Ideal S1x2048x2048 .bf16) (r : Fin 512) (d : Fin 2048) :
    k0_pay3 (F := Ideal) x w (ix3 0 r d) = ∑ k : Fin 2048, x (ix3 0 r k) * w (ix3 0 k d) := by
  pointwise [k0_pay3]

/-- Where each operand's block starts at a point of the grid. -/
theorem idx : ∀ t : Fin cfg0.N, win0_0.index t = ![t.val / 3, 0, 0] ∧ win0_1.index t = ![t.val / 3, 0, 0]
    ∧ win0_2.index t = ![0, 0, 0] ∧ win0_3.index t = ![t.val % 3, 0, 0] ∧ win0_4.index t = ![t.val % 3, t.val / 3, 0] :=
  (by decide +kernel : ∀ t : Fin grid0.N, _)

/-- Where the scratch is read at a point of the grid. -/
theorem off1 : ∀ t : Fin cfg0.N, k0_off1 (grid0.coords t) = ![t.val % 3, 0, 0] :=
  (by decide +kernel : ∀ t : Fin grid0.N, _)

/-- The staged rows. -/
theorem blk0 (c : Dev nD) (t : Fin cfg0.N) (p : Fin 64) (s : Fin 8) (k : Fin 2048) (h) :
    (iblk m c 0 t : FVec Ideal S64x8x2048 .f32) (ix3 p s k)
      = (m ((c : Thread nD τ).loc main_arg0) : FVec Ideal S128x8x2048 .f32) (ix3 ⟨t.val / 3 * 64 + p.val, h⟩ s k) := by
  blk_point [iblk, V, idx t]

/-- The rows of the state, as the kernel's arguments hold them. -/
def states (st : FVec Ideal S1x128x2048 .f32) : FVec Ideal S128x1x2048 .f32 :=
  broadcastInDim S128x1x2048 ![0, 2] bcast_S128x2048_S128x1x2048_0_2
    (shapeCast S128x2048 st shapeCasts_S1x128x2048_S128x2048)

/-- One of them. -/
theorem states_at (st : FVec Ideal S1x128x2048 .f32) (p : Fin 128) (k : Fin 2048) :
    states st (ix3 p 0 k) = st (ix3 0 p k) := by
  pointwise [states]

/-- The staged rows of the state. -/
theorem blk1 (c : Dev nD) (t : Fin cfg0.N) (p : Fin 64) (k : Fin 2048) (h) :
    (iblk m c 1 t : FVec Ideal S64x1x2048 .f32) (ix3 p 0 k)
      = (m ((c : Thread nD τ).loc main_arg1) : FVec Ideal S1x128x2048 .f32) (ix3 0 ⟨t.val / 3 * 64 + p.val, h⟩ k) := by
  have e : V m c main_v2 = states (m ((c : Thread nD τ).loc main_arg1)) := by
    show StableHlo.after hostOps0 (fun b => m (c, b)) _ = _
    after_results <;> rfl
  have e' : (iblk m c 1 t : FVec Ideal S64x1x2048 .f32) (ix3 p 0 k)
      = (V m c main_v2 : FVec Ideal S128x1x2048 .f32) (ix3 ⟨t.val / 3 * 64 + p.val, h⟩ 0 k) := by
    blk_point [iblk, idx t]
  rw [e', e]
  exact states_at _ _ k

/-- The row of the shares that array `j` mixes by. -/
def share (j : Fin 3) : Fin 6 := if j.val = 0 then 0 else if j.val = 1 then 2 else 3

/-- One row of the shares, as the kernel's arguments hold it. -/
def line (mu : FVec Ideal S1x6x2048 .f32) (off : Fin 2 → ℕ) (h : S6x2048.Slices off S1x2048) : FVec Ideal S1x2048 .f32 :=
  broadcastInDim S1x2048 ![1] bcast_S2048_S1x2048_1 (shapeCast S2048
    (extractStridedSlice S1x2048 off (shapeCast S6x2048 mu shapeCasts_S1x6x2048_S6x2048) h) shapeCasts_S1x2048_S2048)

/-- The first of them. -/
theorem line0_at (mu : FVec Ideal S1x6x2048 .f32) (k : Fin 2048) :
    line mu ![0, 0] slices_S6x2048_S1x2048_0_0 (ix2 0 k) = mu (ix3 0 0 k) := by
  pointwise [line]

/-- The third of them. -/
theorem line2_at (mu : FVec Ideal S1x6x2048 .f32) (k : Fin 2048) :
    line mu ![2, 0] slices_S6x2048_S1x2048_2_0 (ix2 0 k) = mu (ix3 0 2 k) := by
  pointwise [line]

/-- The fourth of them. -/
theorem line3_at (mu : FVec Ideal S1x6x2048 .f32) (k : Fin 2048) :
    line mu ![3, 0] slices_S6x2048_S1x2048_3_0 (ix2 0 k) = mu (ix3 0 3 k) := by
  pointwise [line]

/-- The three rows of the shares, one after the other. -/
def lines (l0 l1 l2 : FVec Ideal S1x2048 .f32) : FVec Ideal S3x1x2048 .f32 :=
  broadcastInDim S3x1x2048 ![0, 2] bcast_S3x2048_S3x1x2048_0_2
    (concatenate S3x2048 0 [⟨S1x2048, l0⟩, ⟨S1x2048, l1⟩, ⟨S1x2048, l2⟩] concatenates_S1x2048_S1x2048_S1x2048_S3x2048_d0)

/-- Row `j` of them. -/
theorem lines_at (l0 l1 l2 : FVec Ideal S1x2048 .f32) (j : Fin 3) (k : Fin 2048) :
    lines l0 l1 l2 (ix3 j 0 k) = (if j.val = 0 then l0 else if j.val = 1 then l1 else l2) (ix2 0 k) := by
  pointwise [lines]
  obtain ⟨j, hj⟩ := j
  match j, hj with
  | 0, _ => rfl
  | 1, _ => rfl
  | 2, _ => rfl

/-- The shares, as the region finds them. -/
theorem V_shares (c : Dev nD) :
    V m c main_v13 = lines (line (m ((c : Thread nD τ).loc main_arg2)) ![0, 0] slices_S6x2048_S1x2048_0_0)
      (line (m ((c : Thread nD τ).loc main_arg2)) ![2, 0] slices_S6x2048_S1x2048_2_0)
      (line (m ((c : Thread nD τ).loc main_arg2)) ![3, 0] slices_S6x2048_S1x2048_3_0) := by
  show StableHlo.after hostOps0 (fun b => m (c, b)) _ = _
  after_results <;> rfl

/-- The shares' rows, read from the argument. -/
theorem shares_at (mu : FVec Ideal S1x6x2048 .f32) (j : Fin 3) (k : Fin 2048) :
    lines (line mu ![0, 0] slices_S6x2048_S1x2048_0_0) (line mu ![2, 0] slices_S6x2048_S1x2048_2_0)
      (line mu ![3, 0] slices_S6x2048_S1x2048_3_0) (ix3 j 0 k) = mu (ix3 0 (share j) k) := by
  refine (lines_at _ _ _ j k).trans ?_
  obtain ⟨j, hj⟩ := j
  match j, hj with
  | 0, _ => exact line0_at mu k
  | 1, _ => exact line2_at mu k
  | 2, _ => exact line3_at mu k

/-- The staged shares. -/
theorem blk2 (c : Dev nD) (t : Fin cfg0.N) (j : Fin 3) (k : Fin 2048) :
    (iblk m c 2 t : FVec Ideal S3x1x2048 .f32) (ix3 j 0 k)
      = (m ((c : Thread nD τ).loc main_arg2) : FVec Ideal S1x6x2048 .f32) (ix3 0 (share j) k) := by
  have e' : (iblk m c 2 t : FVec Ideal S3x1x2048 .f32) (ix3 j 0 k)
      = (V m c main_v13 : FVec Ideal S3x1x2048 .f32) (ix3 j 0 k) := by
    blk_point [iblk, idx t]
  rw [e', V_shares]
  exact shares_at _ j k

/-- The staged weight. -/
theorem blk3 (c : Dev nD) (t : Fin cfg0.N) (k d : Fin 2048) (h) :
    (iblk m c 3 t : FVec Ideal S1x2048x2048 .bf16) (ix3 0 k d)
      = (m ((c : Thread nD τ).loc main_arg3) : FVec Ideal S3x2048x2048 .bf16) (ix3 ⟨t.val % 3, h⟩ k d) := by
  blk_point [iblk, V, idx t]

/-- Row `s` of sample `p`, mixed with the one before it by share `j`. -/
def M (c : Dev nD) (j : Fin 3) (p : Fin 128) (s : Fin 8) (k : Fin 2048) : EReal :=
  mixed ((m ((c : Thread nD τ).loc main_arg0) : FVec Ideal S128x8x2048 .f32) (ix3 p s k))
    (Cert.Reference11Ideal.Rkv.prev (m ((c : Thread nD τ).loc main_arg0)) (m ((c : Thread nD τ).loc main_arg1)) (ix3 p s k))
    ((m ((c : Thread nD τ).loc main_arg2) : FVec Ideal S1x6x2048 .f32) (ix3 0 (share j) k))

/-- The row before, read from the staged blocks, is the reference's. -/
theorem prev_blk (c : Dev nD) (t : Fin cfg0.N) (p : Fin 64) (s : Fin 8) (k : Fin 2048) (h) :
    prev (iblk m c 0 t) (iblk m c 1 t) (ix3 p s k)
      = Cert.Reference11Ideal.Rkv.prev (m ((c : Thread nD τ).loc main_arg0)) (m ((c : Thread nD τ).loc main_arg1))
          (ix3 ⟨t.val / 3 * 64 + p.val, h⟩ s k) := by
  refine (prev_at _ _ p s k).trans ?_
  refine Eq.trans ?_ (Cert.Reference11Ideal.Rkv.prev_at _ _ _ s k).symm
  by_cases hs : s.val < 1
  · rw [dif_pos hs, dif_pos hs]
    exact blk1 m c t p k h
  · rw [dif_neg hs, dif_neg hs]
    exact blk0 m c t p _ k h

/-- A row of the staged shares, read at an index. -/
theorem share_blk (c : Dev nD) (t : Fin cfg0.N) (j : Fin 3) (off : Fin 3 → ℕ) (inb) (ho : off = ![j.val, 0, 0]) (k : Fin 2048) :
    (View.ld (iblk m c 2 t : Vec Ideal S3x1x2048 .f32) (Rect.unit (s := S3x1x2048) off ![1, 1, 2048] inb) : Vec Ideal S1x1x2048 .f32) (ix3 0 0 k)
      = (m ((c : Thread nD τ).loc main_arg2) : FVec Ideal S1x6x2048 .f32) (ix3 0 (share j) k) := by
  subst ho
  refine Eq.trans ?_ (blk2 m c t j k)
  show (iblk m c 2 t : Vec Ideal S3x1x2048 .f32) ((Rect.unit (s := S3x1x2048) ![j.val, 0, 0] ![1, 1, 2048] inb).idx (ix3 0 0 k)) = _
  refine congrArg (iblk m c 2 t : Vec Ideal S3x1x2048 .f32) (ix3_of _ _ _ _ ?_ ?_ ?_)
  · show j.val + 1 * 0 = j.val
    omega
  · rfl
  · show 0 + 1 * k.val = k.val
    omega

/-- The scratch at the first point of each block of samples. -/
theorem scr_first (c : Dev nD) (t : Fin cfg0.N) (h0 : t.val % 3 = 0) : (outsAt0 m c t.val t.isLt).2
    = three (k0_pay8 (F := Ideal) (prev (iblk m c 0 t) (iblk m c 1 t)) (iblk m c 0 t)
        (View.ld (iblk m c 2 t) (Rect.unit ![0, 0, 0] ![1, 1, 2048] inb_S3x1x2048_S1x1x2048_0_0_0)))
      (k0_pay1 (F := Ideal) (iblk m c 0 t) (k0_pay7 (prev (iblk m c 0 t) (iblk m c 1 t)) (iblk m c 0 t))
        (k0_pay9 (View.ld (iblk m c 2 t) (Rect.unit ![1, 0, 0] ![1, 1, 2048] inb_S3x1x2048_S1x1x2048_1_0_0))))
      (k0_pay2 (F := Ideal) (iblk m c 0 t) (k0_pay7 (prev (iblk m c 0 t) (iblk m c 1 t)) (iblk m c 0 t))
        (View.ld (iblk m c 2 t) (Rect.unit ![2, 0, 0] ![1, 1, 2048] inb_S3x1x2048_S1x1x2048_2_0_0))) := by
  rw [outsAt0_A m c t h0]
  dsimp only
  unfold sout0_A_0
  frame_out
  simp only [View.readCov_eq_canon']
  rfl

/-- The scratch at a later point is the one of the point before. -/
theorem scr_next (c : Dev nD) (t : Fin cfg0.N) (h0 : ¬t.val % 3 = 0) : (outsAt0 m c t.val t.isLt).2
    = (outsAt0 m c (t.val - 1) (Nat.lt_of_le_of_lt (Nat.sub_le _ _) t.isLt)).2 := by
  rw [outsAt0_B m c t h0]
  dsimp only
  unfold sout0_B_0
  frame_out

/-- The scratch after each point, read at an index. -/
theorem scr (c : Dev nD) : ∀ (n : ℕ) (hn : n < cfg0.N) (j : Fin 3) (r : Fin 512) (k : Fin 2048) (h),
    (outsAt0 m c n hn).2 (ix3 j r k) = M m c j ⟨n / 3 * 64 + r.val / 8, h⟩ ⟨r.val % 8, by omega⟩ k := by
  have first : ∀ (t : Fin cfg0.N) (h0 : t.val % 3 = 0) (j : Fin 3) (r : Fin 512) (k : Fin 2048) (h),
      (outsAt0 m c t.val t.isLt).2 (ix3 j r k) = M m c j ⟨t.val / 3 * 64 + r.val / 8, h⟩ ⟨r.val % 8, by omega⟩ k := by
    intro t h0 j r k h
    rw [scr_first m c t h0]
    refine (three_at _ _ _ j r k).trans ?_
    have ex := blk0 m c t ⟨r.val / 8, by omega⟩ ⟨r.val % 8, by omega⟩ k h
    have ep := prev_blk m c t ⟨r.val / 8, by omega⟩ ⟨r.val % 8, by omega⟩ k h
    unfold M mixed
    rw [← ex, ← ep]
    obtain ⟨j, hj⟩ := j
    match j, hj with
    | 0, _ =>
      exact (pay8_at _ _ _ r k).trans (Ideal.add_congr rfl (Ideal.mul_congr rfl
        (share_blk m c t 0 ![0, 0, 0] inb_S3x1x2048_S1x1x2048_0_0_0 rfl k)))
    | 1, _ =>
      exact (pay1_at _ _ _ r k).trans (Ideal.add_congr rfl (Ideal.mul_congr rfl
        (share_blk m c t 1 ![1, 0, 0] inb_S3x1x2048_S1x1x2048_1_0_0 rfl k)))
    | 2, _ =>
      exact (pay2_at _ _ _ r k).trans (Ideal.add_congr rfl (Ideal.mul_congr rfl
        (share_blk m c t 2 ![2, 0, 0] inb_S3x1x2048_S1x1x2048_2_0_0 rfl k)))
  intro n
  induction n with
  | zero => exact fun hn => first ⟨0, hn⟩ rfl
  | succ n ih =>
    intro hn j r k h
    by_cases h0 : (n + 1) % 3 = 0
    · exact first ⟨n + 1, hn⟩ h0 j r k h
    · have e : (n + 1) / 3 = n / 3 := by omega
      rw [scr_next m c ⟨n + 1, hn⟩ h0]
      refine (ih _ j r k (by omega)).trans ?_
      exact congrArg (fun p => M m c j p _ k) (Fin.ext (by show n / 3 * 64 + r.val / 8 = (n + 1) / 3 * 64 + r.val / 8; rw [e]))

/-- One array of the scratch, read at an index. -/
theorem ld_at (t : Fin cfg0.N) (S : Vec Ideal S3x512x2048 .bf16) (inb) (r : Fin 512) (k : Fin 2048) (h) :
    (View.ld S (Rect.unit (s := S3x512x2048) (k0_off1 (grid0.coords t)) ![1, 512, 2048] inb) : Vec Ideal S1x512x2048 .bf16) (ix3 0 r k)
      = S (ix3 ⟨t.val % 3, h⟩ r k) := by
  show S ((Rect.unit (s := S3x512x2048) (k0_off1 (grid0.coords t)) ![1, 512, 2048] inb).idx (ix3 0 r k)) = _
  have e := off1 t
  refine congrArg S (ix3_of _ _ _ _ ?_ ?_ ?_)
  · show k0_off1 (grid0.coords t) (0 : Fin 3) + 1 * 0 = t.val % 3
    rw [e]
    rfl
  · show k0_off1 (grid0.coords t) (1 : Fin 3) + 1 * r.val = r.val
    rw [e]
    show 0 + 1 * r.val = r.val
    omega
  · show k0_off1 (grid0.coords t) (2 : Fin 3) + 1 * k.val = k.val
    rw [e]
    show 0 + 1 * k.val = k.val
    omega

/-- The block left at each point is the product of the scratch's array and the weight. -/
theorem out_at (c : Dev nD) (t : Fin cfg0.N) (r : Fin 512) (d : Fin 2048) (h) :
    (outsAt0 m c t.val t.isLt).1 (ix3 0 r d)
      = ∑ k : Fin 2048, (outsAt0 m c t.val t.isLt).2 (ix3 ⟨t.val % 3, h⟩ r k) * (iblk m c 3 t : FVec Ideal S1x2048x2048 .bf16) (ix3 0 k d) := by
  by_cases h0 : t.val % 3 = 0
  · rw [scr_first m c t h0, outsAt0_A m c t h0]
    dsimp only
    unfold out0_A_4
    frame_out
    simp only [View.readCov_eq_canon']
    refine (pay3_at _ _ r d).trans (Finset.sum_congr rfl fun k _ => Ideal.mul_congr ?_ rfl)
    exact ld_at t _ _ r k h
  · rw [scr_next m c t h0, outsAt0_B m c t h0]
    dsimp only
    unfold out0_B_4
    frame_out
    simp only [read_unread_whole]
    refine (pay3_at _ _ r d).trans (Finset.sum_congr rfl fun k _ => Ideal.mul_congr ?_ rfl)
    exact ld_at t _ _ r k h

/-- The result as one function of the arguments: the reference's. -/
def res (c : Dev nD) : FVec Ideal S3x1024x2048 .f32 :=
  Cert.Reference11Ideal.Rkv.out (m ((c : Thread nD τ).loc main_arg0)) (m ((c : Thread nD τ).loc main_arg1))
    (m ((c : Thread nD τ).loc main_arg2)) (m ((c : Thread nD τ).loc main_arg3))

/-- One array of the reference's result, read at an index. -/
theorem res_at (c : Dev nD) (j : Fin 3) (q : Fin 1024) (d : Fin 2048) :
    res m c (ix3 j q d) = ∑ k : Fin 2048, M m c j ⟨q.val / 8, by omega⟩ ⟨q.val % 8, by omega⟩ k
      * (m ((c : Thread nD τ).loc main_arg3) : FVec Ideal S3x2048x2048 .bf16) (ix3 j k d) := by
  refine (Cert.Reference11Ideal.Rkv.stack_at _ _ _ j q d).trans ?_
  obtain ⟨j, hj⟩ := j
  match j, hj with
  | 0, _ =>
    refine (Cert.Reference11Ideal.Rkv.prod_at _ _ _ _ d).trans (Finset.sum_congr rfl fun k _ => Ideal.mul_congr ?_ ?_)
    · refine (Cert.Reference11Ideal.Rkv.mix_at _ _ _ _ _ k).trans ?_
      unfold M mixed
      pointwise [share]
    · pointwise
  | 1, _ =>
    refine (Cert.Reference11Ideal.Rkv.prod_at _ _ _ _ d).trans (Finset.sum_congr rfl fun k _ => Ideal.mul_congr ?_ ?_)
    · refine (Cert.Reference11Ideal.Rkv.mix_at _ _ _ _ _ k).trans ?_
      unfold M mixed
      pointwise [share]
    · pointwise
  | 2, _ =>
    refine (Cert.Reference11Ideal.Rkv.prod_at _ _ _ _ d).trans (Finset.sum_congr rfl fun k _ => Ideal.mul_congr ?_ ?_)
    · refine (Cert.Reference11Ideal.Rkv.mix_at _ _ _ _ _ k).trans ?_
      unfold M mixed
      pointwise [share]
    · pointwise

/-- The result array after the run. -/
theorem final (c : Dev nD) : (dats m 0 c).arrAt 4 (cfgs 0).N = res m c := by
  refine (dats m 0 c).arrAt_eq_of_covers 4 _ (by decide +kernel) fun t hf y => ?_
  blk_simp
  rw [after0_4]
  have ht : t.val < 6 := lt_of_lt_of_eq t.isLt N_0
  obtain ⟨z, r, d, rfl⟩ : ∃ (z : Fin 1) (r : Fin 512) (d : Fin 2048), y = ix3 z r d := ⟨y 0, y 1, y 2, eq_ix3 y⟩
  obtain rfl : z = 0 := Subsingleton.elim _ _
  have hr := r.isLt
  have h3 : t.val % 3 < 3 := by omega
  have hq : t.val / 3 * 512 + r.val < 1024 := by omega
  have e : ((cfg0.win 4).blk t).view.emb (ix3 0 r d) = ix3 ⟨t.val % 3, h3⟩ ⟨t.val / 3 * 512 + r.val, hq⟩ d := by
    refine ix3_of _ _ _ _ ?_ ?_ ?_
    · blk_simp [idx t]
      rfl
    · blk_simp [idx t]
    · blk_simp [idx t]
  rw [e, res_at]
  refine (out_at m c t r d h3).trans (Finset.sum_congr rfl fun k _ => Ideal.mul_congr ?_ (blk3 m c t k d h3))
  refine (scr m c t.val t.isLt ⟨t.val % 3, h3⟩ r k (by omega)).trans ?_
  have ep : (⟨t.val / 3 * 64 + r.val / 8, by omega⟩ : Fin 128) = ⟨(t.val / 3 * 512 + r.val) / 8, by omega⟩ := by
    apply Fin.ext
    show t.val / 3 * 64 + r.val / 8 = (t.val / 3 * 512 + r.val) / 8
    omega
  have es : (⟨r.val % 8, by omega⟩ : Fin 8) = ⟨(t.val / 3 * 512 + r.val) % 8, by omega⟩ := by
    apply Fin.ext
    show r.val % 8 = (t.val / 3 * 512 + r.val) % 8
    omega
  exact (congrArg (fun p => M m c _ p _ k) ep).trans (congrArg (fun s => M m c _ _ s k) es)

end Cert.Kernel11Ideal.Rkv

end
-- ==== Proof.InprojRuns.lean ====
/- The body of the in-projection at a grid point, in its three cases: at the first column block of a row block it
   rounds the rows into the scratch and stores the gates and the first block of the first result; at the two column
   blocks after it stores a block of the first result; at the last three a block of the second result. -/
module

public import proofs.«01_k».proof.Proof.Gen.Kernel2Ideal.Frame
public import proofs.«01_k».proof.Proof.Gen.Kernel2Ideal.Skeleton
public import Idealize.ShloMosaic.Lib.Pipeline.ValueKit

@[expose] public section

set_option maxRecDepth 16384

noncomputable section

namespace Cert.Kernel2Ideal.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen

variable {F : FTy → Type} [FloatOps F]

local notation "𝕄" => MT nD τ sig Unit (Elt F) ℕ (UR sig nD τ) ℕ

/-- The column block is the first one. -/
abbrev isFirst (i : grid0.Coords) : Prop :=
  (Scalar.cmpi .ne (Scalar.extui (Scalar.cmpi .eq (BitVec.ofNat 32 (i 1).val) 0#32)) 0#32) = 1#1
/-- The column block belongs to the first result. -/
abbrev isLow (i : grid0.Coords) : Prop :=
  (Scalar.cmpi .ne (Scalar.extui (Scalar.cmpi .slt (BitVec.ofNat 32 (i 1).val) 3#32)) 0#32) = 1#1
/-- The column block belongs to the second result. -/
abbrev isHigh (i : grid0.Coords) : Prop :=
  (Scalar.cmpi .ne (Scalar.extui (Scalar.cmpi .sge (BitVec.ofNat 32 (i 1).val) 3#32)) 0#32) = 1#1

/-- The grid's second coordinate at point `t`. -/
theorem column (t : Fin cfg0.N) : (grid0.coords t 1).val = t.val % 6 := by
  have e : (grid0.coords t 1).val = t.val / 1 % 6 := Pipeline.Grid.coords_val t 1 (by decide) rfl
  rw [e, Nat.div_one]

theorem isFirst_iff (t : Fin cfg0.N) : isFirst (grid0.coords t) ↔ t.val % 6 = 0 := by
  have ht : t.val < 48 := Nat.lt_of_lt_of_eq t.isLt N_0
  simp only [isFirst, column]
  word_cmp

theorem isLow_iff (t : Fin cfg0.N) : isLow (grid0.coords t) ↔ t.val % 6 < 3 := by
  have ht : t.val < 48 := Nat.lt_of_lt_of_eq t.isLt N_0
  simp only [isLow, column]
  word_cmp

theorem isHigh_iff (t : Fin cfg0.N) : isHigh (grid0.coords t) ↔ 3 ≤ t.val % 6 := by
  have ht : t.val < 48 := Nat.lt_of_lt_of_eq t.isLt N_0
  simp only [isHigh, column]
  word_cmp

variable (c : Dev nD) (i : grid0.Coords)
  (arg2 : Memref sig .tc .vmem S1088x2048 .f32) (harg2 : arg2.IsWhole)
  (arg3 : Memref sig .tc .vmem S1024x2048 .bf16) (harg3 : arg3.IsWhole)
  (arg4 : Memref sig .tc .vmem S2x128x2048 .bf16) (harg4 : arg4.IsWhole)
  (arg5 : Memref sig .tc .vmem S1x128 .f32) (harg5 : arg5.IsWhole)
  (arg6 : Memref sig .tc .vmem S16x2048 .f32) (harg6 : arg6.IsWhole)
  (arg7 : Memref sig .tc .vmem S1088x1024 .bf16) (harg7 : arg7.IsWhole)
  (arg8 : Memref sig .tc .vmem S1088x1024 .f32) (harg8 : arg8.IsWhole)
  (arg9 : Memref sig .tc .vmem S1088x128 .f32) (harg9 : arg9.IsWhole)
  (arg10 : Memref sig .tc .vmem S1088x2048 .bf16) (harg10 : arg10.IsWhole)

/-- The body on these buffers. -/
abbrev body : Prog (TpuEff nD τ sig (Elt F) Λ₀ .tc) PUnit :=
  cc0_inproj i arg2 harg2 arg3 harg3 arg4 harg4 arg5 harg5 arg6 harg6 arg7 harg7 arg8 harg8 arg9 harg9 arg10 harg10

set_option maxHeartbeats 1000000 in
/-- A middle column block of the first result: from the weights' block and the rows kept in the scratch the body leaves
    some pieces in the first result's buffer. -/
def runLow (h0 : ¬isFirst i) (h1 : isLow i) (h2 : ¬isHigh i)
    (w : Vec F S1024x2048 .bf16) (x : Vec F S1088x2048 .bf16) :
    { L : List (View.Piece (Elt F) S1088x1024 .bf16) //
      ∀ (E : Set ℕ) (K : PUnit → sProp 𝕄),
        iprop(owns (c : Thread nD τ) arg3 fullShare w ∗ (∃ d, owns (c : Thread nD τ) arg7 fullShare d)
            ∗ owns (c : Thread nD τ) arg10 fullShare x
            ∗ (iprop(owns (c : Thread nD τ) arg3 fullShare w
                ∗ (∃ f, arg7.view.loc (c : Thread nD τ) ↦[arg7.view.set]{fullShare} arg7.view.writes (Elt F) f L)
                ∗ owns (c : Thread nD τ) arg10 fullShare x) -∗ K ⟨⟩))
          ⊢ wp frame (wpE (defs₀ (F := F)) Variants.none c none) E
              (body (F := F) i arg2 harg2 arg3 harg3 arg4 harg4 arg5 harg5 arg6 harg6 arg7 harg7 arg8 harg8 arg9 harg9 arg10 harg10) K } := by
  refine ⟨?_, fun E K => ?run⟩
  case run =>
    unfold body
    simp only [cc0_inproj_eq_skeleton]; unfold cc0_inproj_skel
    unfold owns
    iintro ⟨⟨%f1, %hf1, H1⟩, ⟨%d5, %f5, -, H5⟩, ⟨%fs, %hfs, HS⟩, Hk⟩
    obtain rfl := harg3.eq_unread hf1; obtain rfl := harg10.eq_unread hfs
    sl_exec (disch := first | sl_exact h0 | sl_exact h1 | sl_exact h2)
    sl_step
    iapply Hk
    isplitl [H1]
    · iexists _; isplitr; · ipureintro; exact harg3.read_unread _
      iexact H1
    isplitl [H5]; · iexists _; iexact H5
    iexists _; isplitr; · ipureintro; exact harg10.read_unread _
    iexact HS

/-- Those pieces make the rounded product of the kept rows with the block of weights. -/
theorem runLow_whole (h0 : ¬isFirst i) (h1 : isLow i) (h2 : ¬isHigh i)
    (w : Vec F S1024x2048 .bf16) (x : Vec F S1088x2048 .bf16) (f) :
    arg7.view.read (Elt F) (arg7.view.writes (Elt F) f
      (runLow c i arg2 harg2 arg3 harg3 arg4 harg4 arg5 harg5 arg6 harg6 arg7 harg7 arg8 harg8 arg9 harg9 arg10 harg10 h0 h1 h2 w x).1) = k0_pay3 x w := by
  rw [View.read_writes_of_cover _ _ arg7.view arg7.view.junk _
    (fun y => View.cover_of_tiledL _ S1088x1024.size (by sl_kernel_rfl) y)]
  unfold runLow
  simp (disch := decide) only [View.read_writes_junk_eq_canon, View.canon_cons_unit_lit', View.ld_unit_lit',
    View.readAt_eq_ld, Memref.IsWhole.read_unread]

set_option maxHeartbeats 1000000 in
/-- A column block of the second result: from the weights' block and the rows kept in the scratch the body leaves some
    pieces in the second result's buffer. -/
def runHigh (h0 : ¬isFirst i) (h1 : ¬isLow i) (h2 : isHigh i)
    (w : Vec F S1024x2048 .bf16) (x : Vec F S1088x2048 .bf16) :
    { L : List (View.Piece (Elt F) S1088x1024 .f32) //
      ∀ (E : Set ℕ) (K : PUnit → sProp 𝕄),
        iprop(owns (c : Thread nD τ) arg3 fullShare w ∗ (∃ d, owns (c : Thread nD τ) arg8 fullShare d)
            ∗ owns (c : Thread nD τ) arg10 fullShare x
            ∗ (iprop(owns (c : Thread nD τ) arg3 fullShare w
                ∗ (∃ f, arg8.view.loc (c : Thread nD τ) ↦[arg8.view.set]{fullShare} arg8.view.writes (Elt F) f L)
                ∗ owns (c : Thread nD τ) arg10 fullShare x) -∗ K ⟨⟩))
          ⊢ wp frame (wpE (defs₀ (F := F)) Variants.none c none) E
              (body (F := F) i arg2 harg2 arg3 harg3 arg4 harg4 arg5 harg5 arg6 harg6 arg7 harg7 arg8 harg8 arg9 harg9 arg10 harg10) K } := by
  refine ⟨?_, fun E K => ?run⟩
  case run =>
    unfold body
    simp only [cc0_inproj_eq_skeleton]; unfold cc0_inproj_skel
    unfold owns
    iintro ⟨⟨%f1, %hf1, H1⟩, ⟨%d5, %f5, -, H5⟩, ⟨%fs, %hfs, HS⟩, Hk⟩
    obtain rfl := harg3.eq_unread hf1; obtain rfl := harg10.eq_unread hfs
    sl_exec (disch := first | sl_exact h0 | sl_exact h1 | sl_exact h2)
    sl_step
    iapply Hk
    isplitl [H1]
    · iexists _; isplitr; · ipureintro; exact harg3.read_unread _
      iexact H1
    isplitl [H5]; · iexists _; iexact H5
    iexists _; isplitr; · ipureintro; exact harg10.read_unread _
    iexact HS

/-- Those pieces make the product of the kept rows with the block of weights. -/
theorem runHigh_whole (h0 : ¬isFirst i) (h1 : ¬isLow i) (h2 : isHigh i)
    (w : Vec F S1024x2048 .bf16) (x : Vec F S1088x2048 .bf16) (f) :
    arg8.view.read (Elt F) (arg8.view.writes (Elt F) f
      (runHigh c i arg2 harg2 arg3 harg3 arg4 harg4 arg5 harg5 arg6 harg6 arg7 harg7 arg8 harg8 arg9 harg9 arg10 harg10 h0 h1 h2 w x).1) = k0_pay2 x w := by
  rw [View.read_writes_of_cover _ _ arg8.view arg8.view.junk _
    (fun y => View.cover_of_tiledL _ S1088x1024.size (by sl_kernel_rfl) y)]
  unfold runHigh
  simp (disch := decide) only [View.read_writes_junk_eq_canon, View.canon_cons_unit_lit', View.ld_unit_lit',
    View.readAt_eq_ld, Memref.IsWhole.read_unread]

set_option maxHeartbeats 1000000 in
/-- The first column block: from the rows, the weights' block, the gates' weights and bias and the leading rows the
    body leaves some pieces in the first result's buffer, in the gates' and in the scratch. -/
def runFirst (h0 : isFirst i) (h1 : isLow i) (h2 : ¬isHigh i)
    (x : Vec F S1088x2048 .f32) (w : Vec F S1024x2048 .bf16) (wg : Vec F S2x128x2048 .bf16) (bg : Vec F S1x128 .f32)
    (lead : Vec F S16x2048 .f32) :
    Σ' (L : List (View.Piece (Elt F) S1088x1024 .bf16)) (G : List (View.Piece (Elt F) S1088x128 .f32)),
    { S : List (View.Piece (Elt F) S1088x2048 .bf16) //
      ∀ (E : Set ℕ) (K : PUnit → sProp 𝕄),
        iprop(owns (c : Thread nD τ) arg2 fullShare x
            ∗ owns (c : Thread nD τ) arg3 fullShare w
            ∗ owns (c : Thread nD τ) arg4 fullShare wg
            ∗ owns (c : Thread nD τ) arg5 fullShare bg
            ∗ owns (c : Thread nD τ) arg6 fullShare lead
            ∗ (∃ d, owns (c : Thread nD τ) arg7 fullShare d) ∗ (∃ d, owns (c : Thread nD τ) arg9 fullShare d) ∗ (∃ d, owns (c : Thread nD τ) arg10 fullShare d)
            ∗ (iprop(owns (c : Thread nD τ) arg2 fullShare x
            ∗ owns (c : Thread nD τ) arg3 fullShare w
            ∗ owns (c : Thread nD τ) arg4 fullShare wg
            ∗ owns (c : Thread nD τ) arg5 fullShare bg
            ∗ owns (c : Thread nD τ) arg6 fullShare lead
                ∗ (∃ f, arg7.view.loc (c : Thread nD τ) ↦[arg7.view.set]{fullShare} arg7.view.writes (Elt F) f L)
                ∗ (∃ f, arg9.view.loc (c : Thread nD τ) ↦[arg9.view.set]{fullShare} arg9.view.writes (Elt F) f G)
                ∗ (∃ f, arg10.view.loc (c : Thread nD τ) ↦[arg10.view.set]{fullShare} arg10.view.writes (Elt F) f S)) -∗ K ⟨⟩))
          ⊢ wp frame (wpE (defs₀ (F := F)) Variants.none c none) E
              (body (F := F) i arg2 harg2 arg3 harg3 arg4 harg4 arg5 harg5 arg6 harg6 arg7 harg7 arg8 harg8 arg9 harg9 arg10 harg10) K } := by
  refine ⟨?_, ?_, ?_, fun E K => ?run⟩
  case run =>
    unfold body
    simp only [cc0_inproj_eq_skeleton]; unfold cc0_inproj_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩,
      ⟨%d7, %f7, -, H7⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | sl_exact h0 | sl_exact h1 | sl_exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H7]; · iexists _; iexact H7
    iexists _; iexact HS

/-- What the first column block leaves in the scratch: the rounded rows, the leading rows in their place. -/
theorem runFirst_kept (h0 : isFirst i) (h1 : isLow i) (h2 : ¬isHigh i)
    (x : Vec F S1088x2048 .f32) (w : Vec F S1024x2048 .bf16) (wg : Vec F S2x128x2048 .bf16) (bg : Vec F S1x128 .f32)
    (lead : Vec F S16x2048 .f32) (f) :
    arg10.view.read (Elt F) (arg10.view.writes (Elt F) f
      (runFirst c i arg2 harg2 arg3 harg3 arg4 harg4 arg5 harg5 arg6 harg6 arg7 harg7 arg8 harg8 arg9 harg9 arg10 harg10 h0 h1 h2 x w wg bg lead).2.2.1)
      = k0_pay7 (BitVec.ofNat 32 (i 0).val) x lead := by
  rw [View.read_writes_of_cover _ _ arg10.view arg10.view.junk _
    (fun y => View.cover_of_tiledL _ S1088x2048.size (by sl_kernel_rfl) y)]
  unfold runFirst runFirst.sl.HS_1
  simp (disch := decide) only [View.read_writes_junk_eq_canon, View.canon_cons_unit_lit', View.ld_unit_lit',
    View.readAt_eq_ld, Memref.IsWhole.read_unread]

/-- What it leaves in the first result's buffer: the rounded product of those rows with the block of weights. -/
theorem runFirst_whole (h0 : isFirst i) (h1 : isLow i) (h2 : ¬isHigh i)
    (x : Vec F S1088x2048 .f32) (w : Vec F S1024x2048 .bf16) (wg : Vec F S2x128x2048 .bf16) (bg : Vec F S1x128 .f32)
    (lead : Vec F S16x2048 .f32) (f) :
    arg7.view.read (Elt F) (arg7.view.writes (Elt F) f
      (runFirst c i arg2 harg2 arg3 harg3 arg4 harg4 arg5 harg5 arg6 harg6 arg7 harg7 arg8 harg8 arg9 harg9 arg10 harg10 h0 h1 h2 x w wg bg lead).1)
      = k0_pay3 (k0_pay7 (BitVec.ofNat 32 (i 0).val) x lead) w := by
  rw [View.read_writes_of_cover _ _ arg7.view arg7.view.junk _
    (fun y => View.cover_of_tiledL _ S1088x1024.size (by sl_kernel_rfl) y)]
  unfold runFirst runFirst.sl.v3 runFirst.sl.HS_1
  simp (disch := decide) only [View.read_writes_junk_eq_canon, View.canon_cons_unit_lit', View.ld_unit_lit',
    View.readAt_eq_ld, Memref.IsWhole.read_unread, View.readCov_unit_lit', View.readCov_cons_unit_lit']

/-- The gates a row block gets, from its rows, the leading rows and the gates' weights and bias. -/
abbrev gates (a : BitVec 32) (x : Vec F S1088x2048 .f32) (wg : Vec F S2x128x2048 .bf16) (bg : Vec F S1x128 .f32)
    (lead : Vec F S16x2048 .f32) : Vec F S1088x128 .f32 :=
  k0_pay1 (k0_pay6 a x lead)
    (k0_pay8 a x lead (View.ld wg (Rect.unit ![0, 0, 0] S1x128x2048.size inb_S2x128x2048_S1x128x2048_0_0_0)))
    (k0_pay9 a x lead (View.ld wg (Rect.unit ![1, 0, 0] S1x128x2048.size inb_S2x128x2048_S1x128x2048_1_0_0)))
    (View.ld wg (Rect.unit ![0, 0, 0] S1x128x2048.size inb_S2x128x2048_S1x128x2048_0_0_0)) bg

/-- What it leaves in the gates' buffer. -/
theorem runFirst_gates (h0 : isFirst i) (h1 : isLow i) (h2 : ¬isHigh i)
    (x : Vec F S1088x2048 .f32) (w : Vec F S1024x2048 .bf16) (wg : Vec F S2x128x2048 .bf16) (bg : Vec F S1x128 .f32)
    (lead : Vec F S16x2048 .f32) (f) :
    arg9.view.read (Elt F) (arg9.view.writes (Elt F) f
      (runFirst c i arg2 harg2 arg3 harg3 arg4 harg4 arg5 harg5 arg6 harg6 arg7 harg7 arg8 harg8 arg9 harg9 arg10 harg10 h0 h1 h2 x w wg bg lead).2.1)
      = gates (BitVec.ofNat 32 (i 0).val) x wg bg lead := by
  rw [View.read_writes_of_cover _ _ arg9.view arg9.view.junk _
    (fun y => View.cover_of_tiledL _ S1088x128.size (by sl_kernel_rfl) y)]
  unfold runFirst runFirst.sl.r runFirst.sl.r_1 runFirst.sl.r_2 gates
  simp (disch := decide) only [View.read_writes_junk_eq_canon, View.canon_cons_unit_lit', View.ld_unit_lit',
    View.readAt_eq_ld, Memref.IsWhole.read_unread]

end Cert.Kernel2Ideal.Inproj

end
-- ==== Proof.InprojFrame.lean ====
/- The in-projection's run: what every buffer holds after every grid point, that the body does leave it so, and what
   the whole program ends with.  The rows kept in the scratch are those of the row block's first point; the first
   result's buffer keeps, through the second result's columns, what the last of its own left there; the gates' buffer
   keeps what the row block's first point left. -/
module

public import proofs.«01_k».proof.Proof.InprojRuns
public import Idealize.ShloMosaic.Lib.Claim

@[expose] public section

set_option maxRecDepth 16384

noncomputable section

namespace Cert.Kernel2Ideal.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

theorem lt48 (t : Fin cfg0.N) : t.val < 48 := Nat.lt_of_lt_of_eq t.isLt N_0

/-- A number below 48 as a grid point. -/
def point (n : ℕ) (h : n < 48) : Fin cfg0.N := ⟨n, Nat.lt_of_lt_of_eq h N_0.symm⟩

/-- The first point of `t`'s row block. -/
def base (t : Fin cfg0.N) : Fin cfg0.N := point (6 * (t.val / 6)) (by have := lt48 t; omega)

/-- The point that last stored into the first result's buffer, at `t`. -/
def stored (t : Fin cfg0.N) : Fin cfg0.N :=
  point (if t.val % 6 < 3 then t.val else 6 * (t.val / 6) + 2) (by have := lt48 t; split <;> omega)

/-- The rows the scratch holds after point `t`. -/
def kept (c : Dev nD) (t : Fin cfg0.N) : Vec F S1088x2048 .bf16 :=
  k0_pay7 (BitVec.ofNat 32 (grid0.coords (base t) 0).val) (iblk m c 0 (base t)) (iblk m c 4 (base t))

/-- The block the first result's buffer holds after point `t`. -/
def low (c : Dev nD) (t : Fin cfg0.N) : Vec F S1088x1024 .bf16 := k0_pay3 (kept m c t) (iblk m c 1 (stored t))

/-- The block the second result's buffer holds after a point `t` of its columns. -/
def high (c : Dev nD) (t : Fin cfg0.N) : Vec F S1088x1024 .f32 := k0_pay2 (kept m c t) (iblk m c 1 t)

/-- The gates their buffer holds after point `t`. -/
def gate (c : Dev nD) (t : Fin cfg0.N) : Vec F S1088x128 .f32 :=
  gates (BitVec.ofNat 32 (grid0.coords (base t) 0).val) (iblk m c 0 (base t)) (iblk m c 2 (base t))
    (iblk m c 3 (base t)) (iblk m c 4 (base t))

theorem base_first (t : Fin cfg0.N) (h : t.val % 6 = 0) : base t = t :=
  Fin.ext (by show 6 * (t.val / 6) = t.val; omega)

theorem base_congr (s t : Fin cfg0.N) (h : s.val / 6 = t.val / 6) : base s = base t :=
  Fin.ext (by show 6 * (s.val / 6) = 6 * (t.val / 6); omega)

theorem stored_low (t : Fin cfg0.N) (h : t.val % 6 < 3) : stored t = t :=
  Fin.ext (by show (if t.val % 6 < 3 then t.val else _) = t.val; exact if_pos h)

theorem stored_congr (s t : Fin cfg0.N) (h : s.val / 6 = t.val / 6) (hs : 2 ≤ s.val % 6) (ht : 3 ≤ t.val % 6) :
    stored s = stored t :=
  Fin.ext (by
    show (if s.val % 6 < 3 then s.val else 6 * (s.val / 6) + 2) = (if t.val % 6 < 3 then t.val else 6 * (t.val / 6) + 2)
    split <;> split <;> omega)

/-! ## The pipeline's proof data -/

/-- The scratch as a buffer. -/
abbrev scratch : Memref sig .tc .vmem S1088x2048 .bf16 := Memref.whole cc0_scratch0

/-- Before the first point the scratch holds anything; before a later one, what the point before left. -/
def kept_at (c : Dev nD) : (n : ℕ) → n ≤ cfg0.N → sProp 𝕄
  | 0, _ => Pipeline.ΦA spec0 c
  | n + 1, hn => iprop(owns (c : Thread nD τ) scratch fullShare (kept m c ⟨n, hn⟩) ∗ (∃ r, prngReg c r))

/-- The proof data: the arrays as the host lines leave them, each input's buffer at its block, each result's at the
    block stated above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => low m c t
    | ⟨6, _⟩ => high m c t
    | ⟨7, _⟩ => gate m c t
  Φ t := kept_at m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = low m c t := by dsimp only [dats]
theorem after6 (c : Dev nD) (t : Fin cfg0.N) : (dats m 0 c).after 6 t = high m c t := by dsimp only [dats]
theorem after7 (c : Dev nD) (t : Fin cfg0.N) : (dats m 0 c).after 7 t = gate m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## Where the results are stored and written back -/

theorem idle5 : ∀ t : Fin cfg0.N, (cfg0.idle 5 (cfg0.grid.coords t) = true ↔ 3 ≤ t.val % 6) :=
  (by decide +kernel : ∀ t : Fin grid0.N, (idle0 5 (grid0.coords t) = true ↔ 3 ≤ t.val % 6))
theorem idle6 : ∀ t : Fin cfg0.N, (cfg0.idle 6 (cfg0.grid.coords t) = true ↔ t.val % 6 < 3) :=
  (by decide +kernel : ∀ t : Fin grid0.N, (idle0 6 (grid0.coords t) = true ↔ t.val % 6 < 3))
theorem idle7 : ∀ t : Fin cfg0.N, (cfg0.idle 7 (cfg0.grid.coords t) = true ↔ ¬t.val % 6 = 0) :=
  (by decide +kernel : ∀ t : Fin grid0.N, (idle0 7 (grid0.coords t) = true ↔ ¬t.val % 6 = 0))
theorem flush5 : ∀ t : Fin cfg0.N, ((cfg0.win 5).flush t = true ↔ t.val % 6 = 0 ∨ t.val % 6 = 1 ∨ t.val % 6 = 5) :=
  (by decide +kernel : ∀ t : Fin grid0.N, (win0_5.flush t = true ↔ t.val % 6 = 0 ∨ t.val % 6 = 1 ∨ t.val % 6 = 5))
theorem flush6 : ∀ t : Fin cfg0.N, ((cfg0.win 6).flush t = true ↔ 3 ≤ t.val % 6) :=
  (by decide +kernel : ∀ t : Fin grid0.N, (win0_6.flush t = true ↔ 3 ≤ t.val % 6))

/-- The point before. -/
abbrev prev (t : Fin cfg0.N) : Fin cfg0.N := ⟨t.val - 1, Nat.lt_of_le_of_lt (Nat.sub_le _ _) t.isLt⟩

/-- Through the second result's columns the first result's buffer holds what is stated after the point. -/
theorem before5 (c : Dev nD) : ∀ (n : ℕ) (t : Fin cfg0.N), t.val = n → 3 ≤ t.val % 6 → ∀ d,
    (dats m 0 c).before 5 t d = low m c t := by
  intro n
  induction n with
  | zero => intro t ht h; omega
  | succ n ih =>
    intro t ht h d
    have hf : (cfg0.win 5).flush (prev t) ≠ true := by
      rw [Ne, flush5]; show ¬((t.val - 1) % 6 = 0 ∨ (t.val - 1) % 6 = 1 ∨ (t.val - 1) % 6 = 5); omega
    have same : low m c (prev t) = low m c t := by
      have e1 : base (prev t) = base t := base_congr _ _ (by show (t.val - 1) / 6 = t.val / 6; omega)
      have e2 : stored (prev t) = stored t := stored_congr _ _ (by show (t.val - 1) / 6 = t.val / 6; omega)
        (by show 2 ≤ (t.val - 1) % 6; omega) h
      unfold low kept; rw [e1, e2]
    rw [(dats m 0 c).before_of_pos 5 t (by omega) rfl d, if_neg hf]
    unfold Dat.left
    by_cases hi : 3 ≤ (prev t).val % 6
    · rw [(idle5 (prev t)).mpr hi]
      exact (ih (prev t) (by show t.val - 1 = n; omega) hi d).trans same
    · rw [Bool.eq_false_iff.mpr fun e => hi ((idle5 (prev t)).mp e)]
      exact (show (dats m 0 c).kept 5 (prev t) d = (dats m 0 c).after 5 (prev t) from rfl).trans
        ((after5 m c (prev t)).trans same)

/-- After a row block's first point the gates' buffer holds what is stated after the point. -/
theorem before7 (c : Dev nD) : ∀ (n : ℕ) (t : Fin cfg0.N), t.val = n → ¬t.val % 6 = 0 → ∀ d,
    (dats m 0 c).before 7 t d = gate m c t := by
  intro n
  induction n with
  | zero => intro t ht h; omega
  | succ n ih =>
    intro t ht h d
    have hf : (cfg0.win 7).flush (prev t) ≠ true := by
      rw [Ne, flush0_7]; show ¬(t.val - 1) % 6 = 5; omega
    have same : gate m c (prev t) = gate m c t := by
      have e1 : base (prev t) = base t := base_congr _ _ (by show (t.val - 1) / 6 = t.val / 6; omega)
      unfold gate; rw [e1]
    rw [(dats m 0 c).before_of_pos 7 t (by omega) rfl d, if_neg hf]
    unfold Dat.left
    by_cases hi : ¬(prev t).val % 6 = 0
    · rw [(idle7 (prev t)).mpr hi]
      exact (ih (prev t) (by show t.val - 1 = n; omega) hi d).trans same
    · rw [Bool.eq_false_iff.mpr fun e => hi ((idle7 (prev t)).mp e)]
      exact (show (dats m 0 c).kept 7 (prev t) d = (dats m 0 c).after 7 (prev t) from rfl).trans
        ((after7 m c (prev t)).trans same)

/-- A buffer the body does not store into, handed back: as found, which is what is stated where it is written back. -/
theorem passed (c : Dev nD) (w : Fin cfg0.W) (t : Fin cfg0.N) (hi : cfg0.idle w (cfg0.grid.coords t) = true)
    (h : (cfg0.win w).flush t = true → ∀ d, (dats m 0 c).before w t d = (dats m 0 c).after w t) (d) :
    owns (c : Thread nD τ) ((cfg0.win w).stage (cfg0.slots t w)) fullShare ((dats m 0 c).before w t d)
      ⊢ ((dats m 0 c).leavesExact w t : sProp 𝕄) := by
  unfold Dat.leavesExact
  rw [hi]
  cases hf : (cfg0.win w).flush t
  · iintro H; iexists d; iexact H
  · rw [h hf d]

/-- A buffer the body stores into: what is stated. -/
theorem made (c : Dev nD) (w : Fin cfg0.W) (t : Fin cfg0.N) (hi : ¬cfg0.idle w (cfg0.grid.coords t) = true) :
    ((dats m 0 c).leavesExact w t : sProp 𝕄)
      = owns (c : Thread nD τ) ((cfg0.win w).stage (cfg0.slots t w)) fullShare ((dats m 0 c).after w t) := by
  unfold Dat.leavesExact
  rw [Bool.eq_false_iff.mpr hi]

/-! ## The invariant -/

theorem scratch_eq (c : Dev nD) :
    (Pipeline.ΦA spec0 c : sProp 𝕄)
      = iprop((∃ d, owns (c : Thread nD τ) scratch fullShare d) ∗ (∃ r, prngReg c r)) := by
  unfold Pipeline.ΦA; rw [scopedRest0_eq]; simp only [scratch, owns_whole]; rfl

/-- Before any point the scratch holds something. -/
theorem kept_some (c : Dev nD) (n : ℕ) (h : n ≤ cfg0.N) :
    kept_at m c n h ⊢ (Pipeline.ΦA spec0 c : sProp 𝕄) := by
  cases n with
  | zero => exact .rfl
  | succ n =>
    rw [scratch_eq]; unfold kept_at
    iintro ⟨HS, Hg⟩
    isplitl [HS]; · iexists _; iexact HS
    iexact Hg

/-- Before a point that is not a row block's first the scratch holds the row block's rows. -/
theorem kept_rows (c : Dev nD) (t : Fin cfg0.N) (h : ¬t.val % 6 = 0) :
    kept_at m c t.val (Nat.le_of_lt t.isLt)
      = iprop(owns (c : Thread nD τ) scratch fullShare (kept m c t) ∗ (∃ r, prngReg c r)) := by
  obtain ⟨n, hn⟩ := t
  cases n with
  | zero => exact absurd (Nat.zero_mod 6) h
  | succ n =>
    have e : base ⟨n, Nat.lt_of_succ_lt hn⟩ = base ⟨n + 1, hn⟩ :=
      base_congr _ _ (by
        have h' : ¬(n + 1) % 6 = 0 := h
        show n / 6 = (n + 1) / 6; omega)
    have e' : kept m c ⟨n, Nat.lt_of_succ_lt hn⟩ = kept m c ⟨n + 1, hn⟩ := by unfold kept; rw [e]
    rw [← e']; rfl

/-! ## The body obligation -/

/-- What the body is called with at point `t`, the buffers one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t ∗ (dats m 0 c).leavesExact 6 t ∗ (dats m 0 c).leavesExact 7 t)

theorem low_of (c : Dev nD) (t : Fin cfg0.N) (h : t.val % 6 < 3) :
    low m c t = k0_pay3 (kept m c t) (iblk m c 1 t) := by
  unfold low; rw [stored_low t h]

theorem kept_of (c : Dev nD) (t : Fin cfg0.N) (h : t.val % 6 = 0) :
    kept m c t = k0_pay7 (BitVec.ofNat 32 (grid0.coords t 0).val) (iblk m c 0 t) (iblk m c 4 t) := by
  unfold kept; rw [base_first t h]

theorem gate_of (c : Dev nD) (t : Fin cfg0.N) (h : t.val % 6 = 0) :
    gate m c t = gates (BitVec.ofNat 32 (grid0.coords t 0).val) (iblk m c 0 t) (iblk m c 2 t) (iblk m c 3 t)
      (iblk m c 4 t) := by
  unfold gate; rw [base_first t h]

theorem invariant_before (c : Dev nD) (t : Fin cfg0.N) :
    (dats m 0 c).Φ t.castSucc = kept_at m c t.val (Nat.le_of_lt t.isLt) := by
  dsimp only [dats]; exact Pipeline.Dat.Φ_castSucc (kept_at m c) t

theorem invariant_after (c : Dev nD) (t : Fin cfg0.N) :
    (dats m 0 c).Φ t.succ = iprop(owns (c : Thread nD τ) scratch fullShare (kept m c t) ∗ (∃ r, prngReg c r)) := rfl

set_option maxHeartbeats 1600000 in
/-- The body at a row block's first point. -/
theorem sound_first (c : Dev nD) (t : Fin cfg0.N) (h : t.val % 6 = 0) :
    bodyPre m c t ⊢ wp frame (wpE (defs₀ (F := F)) Variants.none c none) Set.univ (bodyAt0 t) (fun _ => bodyPost m c t) := by
  unfold bodyPre bodyPost
  simp only [before0, before1, before2, before3, before4]
  rw [show (dats m 0 c).owesAt () t.succ = (dats m 0 c).owesAt () t.castSucc from rfl,
    after0, after1, after2, after3, after4, invariant_before, invariant_after,
    made m c 5 t (by rw [idle5]; omega), made m c 7 t (by rw [idle7]; omega), after5, after7,
    low_of m c t (by omega), gate_of m c t h, kept_of m c t h]
  refine (sep_mono (kept_some m c _ _) .rfl).trans ?_
  rw [scratch_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runFirst c (grid0.coords t) _ _ _ _ _ _ _ _ _ _ _ _ _ _ _ _ _ _ ((isFirst_iff t).mpr h)
    ((isLow_iff t).mpr (by omega)) (fun e => absurd ((isHigh_iff t).mp e) (by omega))
    (iblk m c 0 t) (iblk m c 1 t) (iblk m c 2 t) (iblk m c 3 t) (iblk m c 4 t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H7]; · iexists _; iexact H7
  isplitl [HS]; · iexact HS
  iintro ⟨H0, H1, H2, H3, H4, ⟨%e5, H5⟩, ⟨%e7, H7⟩, ⟨%es, HS⟩⟩
  isplitl [HS Hg]
  · isplitl [HS]
    · unfold owns; iexists _; isplitr
      swap; · iexact HS
      ipureintro; exact runFirst_kept c _ _ _ _ _ _ _ _ _ _ _ _ _ _ _ _ _ _ _ _ _ _ _ _ _ _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact runFirst_whole c _ _ _ _ _ _ _ _ _ _ _ _ _ _ _ _ _ _ _ _ _ _ _ _ _ _ _ _
  isplitl [H6]
  · iapply (passed m c 6 t ((idle6 t).mpr (by omega)) (fun e => absurd ((flush6 t).mp e) (by omega)) d6)
    iexact H6
  unfold owns; iexists _; isplitr
  swap; · iexact H7
  ipureintro; exact runFirst_gates c _ _ _ _ _ _ _ _ _ _ _ _ _ _ _ _ _ _ _ _ _ _ _ _ _ _ _ _

set_option maxHeartbeats 1600000 in
/-- The body at the other points of the first result's columns. -/
theorem sound_low (c : Dev nD) (t : Fin cfg0.N) (h : ¬t.val % 6 = 0) (h' : t.val % 6 < 3) :
    bodyPre m c t ⊢ wp frame (wpE (defs₀ (F := F)) Variants.none c none) Set.univ (bodyAt0 t) (fun _ => bodyPost m c t) := by
  unfold bodyPre bodyPost
  simp only [before0, before1, before2, before3, before4]
  rw [show (dats m 0 c).owesAt () t.succ = (dats m 0 c).owesAt () t.castSucc from rfl,
    after0, after1, after2, after3, after4, invariant_before, invariant_after, kept_rows m c t h,
    made m c 5 t (by rw [idle5]; omega), after5, low_of m c t h']
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runLow c (grid0.coords t) _ _ _ _ _ _ _ _ _ _ _ _ _ _ _ _ _ _
    (fun e => h ((isFirst_iff t).mp e)) ((isLow_iff t).mpr h')
    (fun e => absurd ((isHigh_iff t).mp e) (by omega)) (iblk m c 1 t) (kept m c t)).2 Set.univ _)
  isplitl [H1]; · iexact H1
  isplitl [H5]; · iexists _; iexact H5
  isplitl [HS]; · iexact HS
  iintro ⟨H1, ⟨%e5, H5⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact runLow_whole c _ _ _ _ _ _ _ _ _ _ _ _ _ _ _ _ _ _ _ _ _ _ _ _ _
  isplitl [H6]
  · iapply (passed m c 6 t ((idle6 t).mpr h') (fun e => absurd ((flush6 t).mp e) (by omega)) d6)
    iexact H6
  iapply (passed m c 7 t ((idle7 t).mpr h) (fun _ d => (before7 m c _ t rfl h d).trans (after7 m c t).symm) d7)
  iexact H7

set_option maxHeartbeats 1600000 in
/-- The body at the points of the second result's columns. -/
theorem sound_high (c : Dev nD) (t : Fin cfg0.N) (h : 3 ≤ t.val % 6) :
    bodyPre m c t ⊢ wp frame (wpE (defs₀ (F := F)) Variants.none c none) Set.univ (bodyAt0 t) (fun _ => bodyPost m c t) := by
  unfold bodyPre bodyPost
  simp only [before0, before1, before2, before3, before4]
  rw [show (dats m 0 c).owesAt () t.succ = (dats m 0 c).owesAt () t.castSucc from rfl,
    after0, after1, after2, after3, after4, invariant_before, invariant_after, kept_rows m c t (by omega),
    made m c 6 t (by rw [idle6]; omega), after6]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runHigh c (grid0.coords t) _ _ _ _ _ _ _ _ _ _ _ _ _ _ _ _ _ _
    (fun e => absurd ((isFirst_iff t).mp e) (by omega)) (fun e => absurd ((isLow_iff t).mp e) (by omega))
    ((isHigh_iff t).mpr h) (iblk m c 1 t) (kept m c t)).2 Set.univ _)
  isplitl [H1]; · iexact H1
  isplitl [H6]; · iexists _; iexact H6
  isplitl [HS]; · iexact HS
  iintro ⟨H1, ⟨%e6, H6⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iapply (passed m c 5 t ((idle5 t).mpr h) (fun _ d => (before5 m c _ t rfl h d).trans (after5 m c t).symm) d5)
    iexact H5
  isplitl [H6]
  · unfold owns; iexists _; isplitr
    swap; · iexact H6
    ipureintro; exact runHigh_whole c _ _ _ _ _ _ _ _ _ _ _ _ _ _ _ _ _ _ _ _ _ _ _ _ _
  iapply (passed m c 7 t ((idle7 t).mpr (by omega))
    (fun _ d => (before7 m c _ t rfl (by omega) d).trans (after7 m c t).symm) d7)
  iexact H7

/-- The body at any point. -/
theorem sound (c : Dev nD) (t : Fin cfg0.N) :
    bodyPre m c t ⊢ wp frame (wpE (defs₀ (F := F)) Variants.none c none) Set.univ (bodyAt0 t) (fun _ => bodyPost m c t) := by
  by_cases h : t.val % 6 = 0
  · exact sound_first m c t h
  · by_cases h' : t.val % 6 < 3
    · exact sound_low m c t h h'
    · exact sound_high m c t (by omega)

theorem row_eq (t : Fin cfg0.N) :
    defs₀ (F := F) .tc cfg0.body (cfg0.bodyArgs t (cfg0.slots t)) = bodyAt0 t := by
  unfold defs₀; rw [Defs.onTc_tc]

/-- The body does, at every point, what the proof data say. -/
theorem obligation (c : Dev nD) : BodyObligation (dats (F := F) m 0 c) (defs₀ (F := F)) Variants.none () Set.univ := fun t => by
  rw [bigSep_W0, bigSep_W0, row_eq]
  exact triple_restated (sound m c t) rfl .rfl fun _ => .rfl

theorem enters (c : Dev nD) : Pipeline.ΦA spec0 c ⊢ (dats m 0 c).Φ 0 := .rfl

theorem exits (c : Dev nD) : (dats m 0 c).Φ (Fin.last cfg0.N) ⊢ Pipeline.ΦA spec0 c :=
  (Entails.of_eq (show (dats m 0 c).Φ (Fin.last cfg0.N) = kept_at m c cfg0.N (Nat.le_refl _) from rfl)).trans
    (kept_some m c _ _)

/-! ## The run and the frame -/

set_option backward.isDefEq.respectTransparency.types false in
set_option maxHeartbeats 800000 in
/-- Every execution ends with the arrays at what the proof data say and every semaphore at zero. -/
theorem run_quiet : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enters m) (hout := exits m)

/-- The same without the semaphores. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiet m ρ)

/-- The frame: every execution terminates, the arguments end as they began and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

end Cert.Kernel2Ideal.Inproj

end
-- ==== Proof.InprojRef.lean ====
/- The reference of the in-projection of the prompts: its three results as functions of its arguments, read at an index. -/
module

public import proofs.«01_k».proof.Proof.Gen.Reference2Ideal.Run
public import proofs.«01_k».proof.Proof.Norm
public import Idealize.ShloMosaic.Lib.Pointwise

@[expose] public section

set_option maxRecDepth 16384

noncomputable section

open Idealize.ShloMosaic Idealize.ShloMosaic.TcCoe Idealize.SL.Sem

namespace Cert.Reference2Ideal.Inproj

open Cert.Reference2Ideal Cert.Reference2Ideal.Gen Cert.Layer

/-- The prompts with the meta rows before each and zeros behind, times the weight. -/
def all (arg0 : FVec Ideal S4x2048x2048 .f32) (arg1 : FVec Ideal S16x2048 .f32) (arg2 : FVec Ideal S6144x2048 .bf16) :
    FVec Ideal S4x2176x6144 .f32 :=
  Host.dotGeneral dot_S4x2176x2048_S2048x6144_S4x2176x6144_2_0_01_1_n_n none ((concatenate S4x2176x2048 1 [⟨S4x16x2048, ((broadcastInDim S4x16x2048 ![0, 1, 2] bcast_S1x16x2048_S4x16x2048_0_1_2 (broadcastInDim S1x16x2048 ![1, 2] bcast_S16x2048_S1x16x2048_1_2 arg1)) : FVec Ideal S4x16x2048 .f32)⟩, ⟨S4x2048x2048, (arg0 : FVec Ideal S4x2048x2048 .f32)⟩, ⟨S4x112x2048, ((broadcastInDim S4x112x2048 ![] bcast_S_S4x112x2048 (constant S_ .f32 0x00000000#32)) : FVec Ideal S4x112x2048 .f32)⟩] concatenates_S4x16x2048_S4x2048x2048_S4x112x2048_S4x2176x2048_d1 : FVec Ideal S4x2176x2048 .f32)) (transpose S2048x6144 [1, 0] (extf .f32 arg2 bitsLt_bf16_f32) transposes_S6144x2048_S2048x6144_1_0)

/-- The first half of the columns, in the narrow format. -/
def low (Z : FVec Ideal S4x2176x6144 .f32) : FVec Ideal S8704x3072 .bf16 :=
  shapeCast _ (truncf .bf16 (extractStridedSlice S4x2176x3072 ![0, 0, 0] Z slices_S4x2176x6144_S4x2176x3072_0_0_0) bitsLt_bf16_f32) shapeCasts_S4x2176x3072_S8704x3072

/-- The second half of the columns. -/
def high (Z : FVec Ideal S4x2176x6144 .f32) : FVec Ideal S8704x3072 .f32 :=
  shapeCast _ (extractStridedSlice S4x2176x3072 ![0, 0, 3072] Z slices_S4x2176x6144_S4x2176x3072_0_0_3072) shapeCasts_S4x2176x3072_S8704x3072

/-- The last three rows of each prompt, of the columns the convolution reads. -/
def last (Z : FVec Ideal S4x2176x6144 .f32) : FVec Ideal S1x4x3x1024 .f32 :=
  broadcastInDim S1x4x3x1024 ![1, 2, 3] bcast_S4x3x1024_S1x4x3x1024_1_2_3 (extractStridedSlice S4x3x1024 ![0, 2061, 4096] Z slices_S4x2176x6144_S4x3x1024_0_2061_4096)

/-- The reference's run: its three results, and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = low (all (m ((c.tc : Thread nD τ).loc main_arg0)) (m ((c.tc : Thread nD τ).loc main_arg1)) (m ((c.tc : Thread nD τ).loc main_arg2)))
      ∧ r.2.mem ((c.tc : Thread nD τ).loc main_v11) = high (all (m ((c.tc : Thread nD τ).loc main_arg0)) (m ((c.tc : Thread nD τ).loc main_arg1)) (m ((c.tc : Thread nD τ).loc main_arg2)))
      ∧ r.2.mem ((c.tc : Thread nD τ).loc main_v13) = last (all (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run (F := Ideal) m ρ

/-- One column of one row of the product. -/
theorem all_at (x : FVec Ideal S4x2048x2048 .f32) (mt : FVec Ideal S16x2048 .f32) (w : FVec Ideal S6144x2048 .bf16)
    (p : Fin 4) (s : Fin 2176) (n : Fin 6144) :
    all x mt w (ix3 p s n)
      = ∑ k : Fin 2048, tok (fun p s => x (ix3 p s k)) (fun s => mt (ix2 s k)) (p.val * 2176 + s.val) * w (ix2 n k) := by
  have hq : (p.val * 2176 + s.val) / 2176 = p.val := by omega
  have hm : (p.val * 2176 + s.val) % 2176 = s.val := by omega
  have h4 : p.val < 4 := p.isLt
  unfold tok
  simp only [hq, hm, h4, true_and]
  pointwise [all]

/-- The first result, read at an index. -/
theorem low_at (Z : FVec Ideal S4x2176x6144 .f32) (q : Fin 8704) (n : Fin 3072) :
    low Z (ix2 q n) = Z (ix3 ⟨q.val / 2176, by omega⟩ ⟨q.val % 2176, by omega⟩ ⟨n.val, by omega⟩) := by
  pointwise [low]

/-- The second result, read at an index. -/
theorem high_at (Z : FVec Ideal S4x2176x6144 .f32) (q : Fin 8704) (n : Fin 3072) :
    high Z (ix2 q n) = Z (ix3 ⟨q.val / 2176, by omega⟩ ⟨q.val % 2176, by omega⟩ ⟨3072 + n.val, by omega⟩) := by
  pointwise [high]

/-- The third result, read at an index. -/
theorem last_at (Z : FVec Ideal S4x2176x6144 .f32) (p : Fin 4) (j : Fin 3) (n : Fin 1024) :
    last Z (ix4 0 p j n) = Z (ix3 p ⟨2061 + j.val, by omega⟩ ⟨4096 + n.val, by omega⟩) := by
  pointwise [last]

end Cert.Reference2Ideal.Inproj

end
-- ==== Proof.Inproj.lean ====
/- The in-projection of the prompts: the two arrays of columns the kernel leaves, and the rows kept for the convolution,
   are the reference's of its arguments.  The rows are read through a window counted in elements and shifted, within the
   block, to make room for the meta rows at the start of a prompt and for rows of zeros at its end. -/
module

public import proofs.«01_k».proof.Proof.InprojFrame
public import proofs.«01_k».proof.Proof.InprojRef
public import proofs.«01_k».proof.Proof.Place
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Inproj

open Cert.Kernel2Ideal Cert.Kernel2Ideal.Gen Cert.Layer

variable (m : (ℓ : Loc nD τ sig) → Buf (Elt Ideal) ℓ)

/-- The number of the row block within its prompt. -/
def blkNo (i : BitVec 32) : BitVec 32 :=
  let d : BitVec 32 := Scalar.select (Scalar.cmpi .eq 2#32 0#32) 1#32 2#32
  let r : BitVec 32 := Scalar.remsi i d
  Scalar.select (Scalar.andi (Scalar.xori (Scalar.cmpi .slt r 0#32) (Scalar.cmpi .slt d 0#32)) (Scalar.cmpi .ne r 0#32))
    (Scalar.addi r d) r

/-- Whether the row block is the first of its prompt. -/
theorem lead_iff : ∀ t : Fin cfg0.N, Scalar.cmpi .eq (blkNo (BitVec.ofNat 32 (grid0.coords t 0).val)) 0#32
    = if t.val / 6 % 2 = 0 then 1#1 else 0#1 :=
  (by decide +kernel : ∀ t : Fin grid0.N, _)

/-- Whether the row block is the last of its prompt. -/
theorem trail_iff : ∀ t : Fin cfg0.N, Scalar.cmpi .eq (blkNo (BitVec.ofNat 32 (grid0.coords t 0).val)) 1#32
    = if t.val / 6 % 2 = 1 then 1#1 else 0#1 :=
  (by decide +kernel : ∀ t : Fin grid0.N, _)

/-- The rows of a prompt's first block: the meta rows, then the first rows staged. -/
def leadRows (x : FVec Ideal S1088x2048 .f32) (mt : FVec Ideal S16x2048 .f32) : FVec Ideal S1088x2048 .f32 :=
  concatenate S1088x2048 0 [⟨S16x2048, mt⟩, ⟨S1072x2048, extractStridedSlice S1072x2048 ![0, 0]
    (shapeCast S1088x2048 x shapeCasts_S1088x2048_S1088x2048) slices_S1088x2048_o0_0_S1072x2048⟩]
    concatenates_S16x2048_S1072x2048_S1088x2048_d0

/-- The rows of a prompt's last block: the last rows staged, then zeros. -/
def trailRows (x : FVec Ideal S1088x2048 .f32) : FVec Ideal S1088x2048 .f32 :=
  concatenate S1088x2048 0 [⟨S976x2048, extractStridedSlice S976x2048 ![112, 0]
    (shapeCast S1088x2048 x shapeCasts_S1088x2048_S1088x2048) slices_S1088x2048_o112_0_S976x2048⟩,
    ⟨S112x2048, broadcast S112x2048 (Scalar.ofBits (F := Ideal) .f32 0x00000000#32)⟩] concatenates_S976x2048_S112x2048_S1088x2048_d0

/-- The rows the scratch keeps, chosen by the row block. -/
theorem pay7_eq (i : BitVec 32) (x : FVec Ideal S1088x2048 .f32) (mt : FVec Ideal S16x2048 .f32) :
    k0_pay7 (F := Ideal) i x mt
      = shapeCast S1088x2048 (truncf .bf16 (Scalar.select (Scalar.cmpi .eq (blkNo i) 0#32) (leadRows x mt)
          (Scalar.select (Scalar.cmpi .eq (blkNo i) 1#32) (trailRows x)
            (shapeCast S1088x2048 x shapeCasts_S1088x2048_S1088x2048))) bitsLt_bf16_f32) shapeCasts_S1088x2048_S1088x2048 := rfl

/-- The first block's rows, read at an index. -/
theorem leadRows_at (x : FVec Ideal S1088x2048 .f32) (mt : FVec Ideal S16x2048 .f32) (r : Fin 1088) (d : Fin 2048) :
    leadRows x mt (ix2 r d) = if h : r.val < 16 then mt (ix2 ⟨r.val, h⟩ d) else x (ix2 ⟨r.val - 16, by omega⟩ d) := by
  pointwise [leadRows]

/-- The last block's rows, read at an index. -/
theorem trailRows_at (x : FVec Ideal S1088x2048 .f32) (r : Fin 1088) (d : Fin 2048) :
    trailRows x (ix2 r d) = if h : r.val < 976 then x (ix2 ⟨112 + r.val, by omega⟩ d) else 0 := by
  pointwise [trailRows]

/-- Rows narrowed and laid out as they were, read at an index. -/
theorem narrow_at (x : FVec Ideal S1088x2048 .f32) (r : Fin 1088) (d : Fin 2048) :
    shapeCast S1088x2048 (truncf .bf16 x bitsLt_bf16_f32) shapeCasts_S1088x2048_S1088x2048 (ix2 r d) = x (ix2 r d) := by
  pointwise []

/-- One column of one row of a block's product. -/
theorem pay2_at (x : FVec Ideal S1088x2048 .bf16) (w : FVec Ideal S1024x2048 .bf16) (r : Fin 1088) (n : Fin 1024) :
    k0_pay2 (F := Ideal) x w (ix2 r n) = ∑ k : Fin 2048, x (ix2 r k) * w (ix2 n k) := by
  pointwise [k0_pay2]

/-- The same, narrowed. -/
theorem pay3_at (x : FVec Ideal S1088x2048 .bf16) (w : FVec Ideal S1024x2048 .bf16) (r : Fin 1088) (n : Fin 1024) :
    k0_pay3 (F := Ideal) x w (ix2 r n) = ∑ k : Fin 2048, x (ix2 r k) * w (ix2 n k) :=
  pay2_at x w r n

/-- Where the window of the rows starts within its prompt, in rows. -/
def start (j : ℕ) : ℕ := min (1088 * j - 16) 960

/-- Where each operand's block starts at a point of the grid; the rows', in elements. -/
theorem idx : ∀ t : Fin cfg0.N, win0_0.index t = ![t.val / 12 * 2048 + start (t.val / 6 % 2), 0]
    ∧ win0_1.index t = ![t.val % 6, 0] ∧ win0_4.index t = ![0, 0]
    ∧ win0_5.index t = ![t.val / 6, min (t.val % 6) 2] ∧ win0_6.index t = ![t.val / 6, t.val % 6 - 3] :=
  (by decide +kernel : ∀ t : Fin grid0.N, _)

/-- The prompts' rows, laid one after the other, as the region finds them. -/
theorem V_rows (c : Dev nD) : V m c main_v14
    = shapeCast S8192x2048 (m ((c : Thread nD τ).loc main_arg0) : FVec Ideal S4x2048x2048 .f32) shapeCasts_S4x2048x2048_S8192x2048 := by
  show StableHlo.after (List.flatten [hostOps0, hostOps0_1, hostOps0_2, hostOps0_3, hostOps0_4]) (fun b => m (c, b)) _ = _
  simp only [List.flatten_cons, List.flatten_nil, List.append_nil, List.cons_append, List.nil_append]
  after_results <;> rfl

/-- The prompts' rows laid one after the other, read at an index. -/
theorem rows_at (x : FVec Ideal S4x2048x2048 .f32) (q : Fin 8192) (d : Fin 2048) :
    shapeCast S8192x2048 x shapeCasts_S4x2048x2048_S8192x2048 (ix2 q d)
      = x (ix3 ⟨q.val / 2048, by omega⟩ ⟨q.val % 2048, by omega⟩ d) := by
  pointwise []

/-- The staged rows, read from the prompts. -/
theorem blk0 (c : Dev nD) (t : Fin cfg0.N) (r : Fin 1088) (d : Fin 2048) (h h') :
    (iblk m c 0 t : FVec Ideal S1088x2048 .f32) (ix2 r d)
      = (m ((c : Thread nD τ).loc main_arg0) : FVec Ideal S4x2048x2048 .f32)
          (ix3 ⟨t.val / 12, h⟩ ⟨start (t.val / 6 % 2) + r.val, h'⟩ d) := by
  have h1 : t.val / 12 * 2048 + start (t.val / 6 % 2) + r.val < 8192 := by omega
  have e : ((cfg0.win 0).blk t).view.emb (ix2 r d) = ix2 ⟨t.val / 12 * 2048 + start (t.val / 6 % 2) + r.val, h1⟩ d := by
    refine (eq_ix2 _).trans (congrArg₂ ix2 (Fin.ext ?_) (Fin.ext ?_))
    · show win0_0.index t (0 : Fin 2) + 1 * r.val = _
      rw [(idx t).1]
      show t.val / 12 * 2048 + start (t.val / 6 % 2) + 1 * r.val = t.val / 12 * 2048 + start (t.val / 6 % 2) + r.val
      omega
    · show win0_0.index t (1 : Fin 2) + 1 * d.val = _
      rw [(idx t).1]
      show 0 + 1 * d.val = _
      omega
  show V m c main_v14 (((cfg0.win 0).blk t).view.emb (ix2 r d)) = _
  rw [e, V_rows]
  refine (rows_at _ _ d).trans (congrArg _ ?_)
  refine ix3_of _ _ _ _ ?_ ?_ rfl
  · show (t.val / 12 * 2048 + start (t.val / 6 % 2) + r.val) / 2048 = t.val / 12
    omega
  · show (t.val / 12 * 2048 + start (t.val / 6 % 2) + r.val) % 2048 = start (t.val / 6 % 2) + r.val
    omega

/-- The staged rows of the weight. -/
theorem blk1 (c : Dev nD) (t : Fin cfg0.N) (n : Fin 1024) (d : Fin 2048) (h) :
    (iblk m c 1 t : FVec Ideal S1024x2048 .bf16) (ix2 n d)
      = (m ((c : Thread nD τ).loc main_arg2) : FVec Ideal S6144x2048 .bf16) (ix2 ⟨t.val % 6 * 1024 + n.val, h⟩ d) := by
  rw [← V_main_arg2 m c]
  blk_point [iblk, idx t]

/-- The staged meta rows. -/
theorem blk4 (c : Dev nD) (t : Fin cfg0.N) (r : Fin 16) (d : Fin 2048) :
    (iblk m c 4 t : FVec Ideal S16x2048 .f32) (ix2 r d)
      = (m ((c : Thread nD τ).loc main_arg1) : FVec Ideal S16x2048 .f32) (ix2 r d) := by
  rw [← V_main_arg1 m c]
  blk_point [iblk, idx t]

/-- A choice whose condition holds takes the first. -/
theorem select_yes {α : Type} (a b : α) : Scalar.select 1#1 a b = a := rfl

/-- A choice whose condition fails takes the second. -/
theorem select_no {α : Type} (a b : α) : Scalar.select 0#1 a b = b := rfl

/-- The rows kept at a point are the rows of the prompts with the meta rows before each and zeros behind. -/
theorem kept_row (c : Dev nD) (t : Fin cfg0.N) (r : Fin 1088) (d : Fin 2048) :
    (kept m c t : FVec Ideal S1088x2048 .bf16) (ix2 r d)
      = tok (fun p s => (m ((c : Thread nD τ).loc main_arg0) : FVec Ideal S4x2048x2048 .f32) (ix3 p s d))
          (fun s => (m ((c : Thread nD τ).loc main_arg1) : FVec Ideal S16x2048 .f32) (ix2 s d)) (t.val / 6 * 1088 + r.val) := by
  have ht := lt48 t
  have hb : (base t).val = 6 * (t.val / 6) := rfl
  unfold kept
  rw [pay7_eq]
  refine (narrow_at _ r d).trans ?_
  rw [lead_iff (base t), trail_iff (base t)]
  generalize hB : base t = s at hb
  have hr := r.isLt
  have hs6 : s.val / 6 = t.val / 6 := by omega
  have hs12 : s.val / 12 = t.val / 12 := by omega
  have hq : (t.val / 6 * 1088 + r.val) / 2176 = s.val / 12 := by omega
  have hm : (t.val / 6 * 1088 + r.val) % 2176 = s.val / 6 % 2 * 1088 + r.val := by omega
  have h4 : s.val / 12 < 4 := by omega
  unfold tok
  simp only [hq, hm]
  by_cases e0 : s.val / 6 % 2 = 0
  · rw [if_pos e0, select_yes]
    refine (leadRows_at _ _ r d).trans ?_
    by_cases hr16 : r.val < 16
    · rw [dif_pos hr16, dif_pos (by omega)]
      refine (blk4 m c s _ d).trans ?_
      refine congrArg (fun z => (m ((c : Thread nD τ).loc main_arg1) : FVec Ideal S16x2048 .f32) (ix2 z d)) (Fin.ext ?_)
      show r.val = s.val / 6 % 2 * 1088 + r.val
      omega
    · have hs : start (s.val / 6 % 2) + (r.val - 16) < 2048 := by unfold start; omega
      rw [dif_neg hr16, dif_neg (by omega), dif_pos (by omega)]
      refine (blk0 m c s _ d h4 hs).trans ?_
      refine congrArg (fun z => (m ((c : Thread nD τ).loc main_arg0) : FVec Ideal S4x2048x2048 .f32) (ix3 ⟨s.val / 12, h4⟩ z d)) (Fin.ext ?_)
      show start (s.val / 6 % 2) + (r.val - 16) = s.val / 6 % 2 * 1088 + r.val - 16
      unfold start; omega
  · have e1 : s.val / 6 % 2 = 1 := by omega
    rw [if_neg e0, select_no, if_pos e1, select_yes]
    refine (trailRows_at _ r d).trans ?_
    by_cases hr16 : r.val < 976
    · have hs : start (s.val / 6 % 2) + (112 + r.val) < 2048 := by unfold start; omega
      rw [dif_pos hr16, dif_neg (by omega), dif_pos (by omega)]
      refine (blk0 m c s _ d h4 hs).trans ?_
      refine congrArg (fun z => (m ((c : Thread nD τ).loc main_arg0) : FVec Ideal S4x2048x2048 .f32) (ix3 ⟨s.val / 12, h4⟩ z d)) (Fin.ext ?_)
      show start (s.val / 6 % 2) + (112 + r.val) = s.val / 6 % 2 * 1088 + r.val - 16
      unfold start; omega
    · rw [dif_neg hr16, dif_neg (by omega), dif_neg (by omega)]

/-- The reference's product, of the kernel's arguments. -/
def res (c : Dev nD) : FVec Ideal Cert.Reference2Ideal.S4x2176x6144 .f32 :=
  Cert.Reference2Ideal.Inproj.all (m ((c : Thread nD τ).loc main_arg0)) (m ((c : Thread nD τ).loc main_arg1))
    (m ((c : Thread nD τ).loc main_arg2))

/-- One column of one row of the reference's product, by the row's number over all prompts. -/
theorem res_at (c : Dev nD) (q : Fin 8704) (n : Fin 6144) (h h') :
    res m c (ix3 ⟨q.val / 2176, h⟩ ⟨q.val % 2176, h'⟩ n)
      = ∑ k : Fin 2048, tok (fun p s => (m ((c : Thread nD τ).loc main_arg0) : FVec Ideal S4x2048x2048 .f32) (ix3 p s k))
          (fun s => (m ((c : Thread nD τ).loc main_arg1) : FVec Ideal S16x2048 .f32) (ix2 s k)) q.val
          * (m ((c : Thread nD τ).loc main_arg2) : FVec Ideal S6144x2048 .bf16) (ix2 n k) := by
  refine (Cert.Reference2Ideal.Inproj.all_at _ _ _ _ _ n).trans ?_
  have e : q.val / 2176 * 2176 + q.val % 2176 = q.val := by omega
  refine Finset.sum_congr rfl fun k _ => ?_
  exact Ideal.mul_congr (congrArg (tok _ _) e) rfl

/-- The first result's array after the run. -/
theorem final_low (c : Dev nD) : (dats m 0 c).arrAt 5 (cfgs 0).N = Cert.Reference2Ideal.Inproj.low (res m c) := by
  refine (dats m 0 c).arrAt_eq_of_covers 5 _ (by decide +kernel) fun t hf y => ?_
  have ht := lt48 t
  blk_simp
  rw [after5]
  obtain ⟨r, n, rfl⟩ : ∃ (r : Fin 1088) (n : Fin 1024), y = ix2 r n := ⟨y 0, y 1, eq_ix2 y⟩
  have hr := r.isLt
  have hn := n.isLt
  have h1 : t.val / 6 * 1088 + r.val < 8704 := by omega
  have h2 : min (t.val % 6) 2 * 1024 + n.val < 3072 := by omega
  have e : ((cfg0.win 5).blk t).view.emb (ix2 r n) = ix2 ⟨t.val / 6 * 1088 + r.val, h1⟩ ⟨min (t.val % 6) 2 * 1024 + n.val, h2⟩ := by
    refine (eq_ix2 _).trans (congrArg₂ ix2 (Fin.ext ?_) (Fin.ext ?_)) <;> blk_simp [idx t]
  rw [e]
  refine Eq.trans ?_ (Cert.Reference2Ideal.Inproj.low_at _ _ _).symm
  refine Eq.trans ?_ (res_at m c ⟨t.val / 6 * 1088 + r.val, h1⟩ _ _ _).symm
  refine (pay3_at _ _ r n).trans (Finset.sum_congr rfl fun k _ => Ideal.mul_congr (kept_row m c t r k) ?_)
  have hs : (stored t).val % 6 = min (t.val % 6) 2 := by
    show (if t.val % 6 < 3 then t.val else 6 * (t.val / 6) + 2) % 6 = _
    split <;> omega
  refine (blk1 m c (stored t) n k (by omega)).trans (congrArg (fun z => (m ((c : Thread nD τ).loc main_arg2) : FVec Ideal S6144x2048 .bf16) (ix2 z k)) (Fin.ext ?_))
  show (stored t).val % 6 * 1024 + n.val = min (t.val % 6) 2 * 1024 + n.val
  rw [hs]

/-- The second result's array after the run. -/
theorem final_high (c : Dev nD) : (dats m 0 c).arrAt 6 (cfgs 0).N = Cert.Reference2Ideal.Inproj.high (res m c) := by
  refine (dats m 0 c).arrAt_eq_of_covers 6 _ (by decide +kernel) fun t hf y => ?_
  have ht := lt48 t
  have h3 : 3 ≤ t.val % 6 := (flush6 t).mp hf
  blk_simp
  rw [after6]
  obtain ⟨r, n, rfl⟩ : ∃ (r : Fin 1088) (n : Fin 1024), y = ix2 r n := ⟨y 0, y 1, eq_ix2 y⟩
  have hr := r.isLt
  have hn := n.isLt
  have h1 : t.val / 6 * 1088 + r.val < 8704 := by omega
  have h2 : (t.val % 6 - 3) * 1024 + n.val < 3072 := by omega
  have e : ((cfg0.win 6).blk t).view.emb (ix2 r n) = ix2 ⟨t.val / 6 * 1088 + r.val, h1⟩ ⟨(t.val % 6 - 3) * 1024 + n.val, h2⟩ := by
    refine (eq_ix2 _).trans (congrArg₂ ix2 (Fin.ext ?_) (Fin.ext ?_)) <;> blk_simp [idx t]
  rw [e]
  refine Eq.trans ?_ (Cert.Reference2Ideal.Inproj.high_at _ _ _).symm
  refine Eq.trans ?_ (res_at m c ⟨t.val / 6 * 1088 + r.val, h1⟩ _ _ _).symm
  refine (pay2_at _ _ r n).trans (Finset.sum_congr rfl fun k _ => Ideal.mul_congr (kept_row m c t r k) ?_)
  refine (blk1 m c t n k (by omega)).trans (congrArg (fun z => (m ((c : Thread nD τ).loc main_arg2) : FVec Ideal S6144x2048 .bf16) (ix2 z k)) (Fin.ext ?_))
  show t.val % 6 * 1024 + n.val = 3072 + ((t.val % 6 - 3) * 1024 + n.val)
  omega

/-- The last three rows of each prompt, as the lines after the call take them from the second result. -/
def last (T : FVec Ideal S8704x3072 .f32) : FVec Ideal S1x4x3x1024 .f32 :=
  broadcastInDim S1x4x3x1024 ![1, 2, 3] bcast_S4x3x1024_S1x4x3x1024_1_2_3 (extractStridedSlice S4x3x1024 ![0, 2061, 1024]
    (shapeCast S4x2176x3072 T shapeCasts_S8704x3072_S4x2176x3072) slices_S4x2176x3072_S4x3x1024_0_2061_1024)

/-- The last three rows, read at an index. -/
theorem last_at (T : FVec Ideal S8704x3072 .f32) (p : Fin 4) (j : Fin 3) (n : Fin 1024) :
    last T (ix4 0 p j n) = T (ix2 ⟨p.val * 2176 + (2061 + j.val), by omega⟩ ⟨1024 + n.val, by omega⟩) := by
  pointwise [last]

/-- The kernel takes the rows and columns the reference takes. -/
theorem last_tie (Z : FVec Ideal Cert.Reference2Ideal.S4x2176x6144 .f32) :
    last (Cert.Reference2Ideal.Inproj.high Z) = Cert.Reference2Ideal.Inproj.last Z := by
  funext i
  obtain ⟨p, j, n, rfl⟩ : ∃ (p : Fin 4) (j : Fin 3) (n : Fin 1024), i = ix4 0 p j n :=
    ⟨i 1, i 2, i 3, (eq_ix4 i).trans (congrArg (fun z => ix4 z (i 1) (i 2) (i 3)) (Subsingleton.elim (α := Fin 1) _ _))⟩
  refine (last_at _ p j n).trans (Eq.trans ?_ (Cert.Reference2Ideal.Inproj.last_at Z p j n).symm)
  refine (Cert.Reference2Ideal.Inproj.high_at Z _ _).trans (congrArg Z (ix3_of _ _ _ _ ?_ ?_ ?_))
  · show (p.val * 2176 + (2061 + j.val)) / 2176 = p.val
    omega
  · show (p.val * 2176 + (2061 + j.val)) % 2176 = 2061 + j.val
    omega
  · show 3072 + (1024 + n.val) = 4096 + n.val
    omega

/-- The third result after the run: the last rows of the second. -/
theorem tail_last (c : Dev nD) : Pipeline.afterTail₀ cfgs (dats m) 0 (V0 m) [hostOps1] c main_v18
    = Cert.Reference2Ideal.Inproj.last (res m c) := by
  have e : Pipeline.withArrays (cfgs 0).spec c (V0 m c) (fun w => (dats m 0 c).arrAt w (cfgs 0).N) (Proc.devRef .tc main_v15_1)
      = Cert.Reference2Ideal.Inproj.high (res m c) :=
    (Pipeline.withArrays_arr (cfgs 0).spec (by decide) c (V0 m c) _ 6).trans (final_high m c)
  unfold Pipeline.afterTail₀
  generalize Pipeline.withArrays (cfgs 0).spec c (V0 m c) (fun w => (dats m 0 c).arrAt w (cfgs 0).N) = W at e
  show StableHlo.after hostOps1 W (Proc.devRef .tc main_v18) = _
  have h : StableHlo.after hostOps1 W (Proc.devRef .tc main_v18) = last (W (Proc.devRef .tc main_v15_1)) := by
    after_results <;> rfl
  rw [h, e]
  exact last_tie _

/-- The kernel's run: its three results, and the arguments as launched. -/
theorem run (ρ : Dev nD → PrngReg) :
    θ_run defs (onTc (τ := τ) (main (F := Ideal))) ⟨m, fun _ => 0, ρ⟩ fun r => ∀ c : Dev nD,
      r.2.mem ((c.tc : Thread nD τ).loc main_v15_0) = Cert.Reference2Ideal.Inproj.low (res m c)
      ∧ r.2.mem ((c.tc : Thread nD τ).loc main_v15_1) = Cert.Reference2Ideal.Inproj.high (res m c)
      ∧ r.2.mem ((c.tc : Thread nD τ).loc main_v18) = Cert.Reference2Ideal.Inproj.last (res m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 5).trans (final_low m c), ((h c).1 6).trans (final_high m c),
      ((h c).2 main_v18 (Pipeline.mem_restRefs_of main_v18 (by decide) (by decide))).trans (tail_last m c),
      ((h c).2 main_arg0 (Pipeline.mem_restRefs_of main_arg0 (by decide) (by decide))).trans (W_main_arg0 m (dats m) c),
      ((h c).1 4).trans (((dats m 0 c).arrAt_in 4 rfl _).trans ((A_eq m c 4).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main (F := Ideal) m ρ)

end Cert.Kernel2Ideal.Inproj

end
-- ==== Proof.InprojSampleRuns.lean ====
/- The body of the in-projection for the samples at a grid point, in its three cases: at the first column block it
   rounds the rows into the scratch and stores the gates and the first block of the first result; at the two column
   blocks after it stores a block of the first result; at the last three a block of the second result. -/
module

public import proofs.«01_k».proof.Proof.Gen.Kernel13Ideal.Frame
public import proofs.«01_k».proof.Proof.Gen.Kernel13Ideal.Skeleton
public import Idealize.ShloMosaic.Lib.Pipeline.ValueKit

@[expose] public section

set_option maxRecDepth 16384

noncomputable section

namespace Cert.Kernel13Ideal.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel13Ideal.Gen

variable {F : FTy → Type} [FloatOps F]

local notation "𝕄" => MT nD τ sig Unit (Elt F) ℕ (UR sig nD τ) ℕ

/-- The column block is the first one. -/
abbrev isFirst (i : grid0.Coords) : Prop :=
  (Scalar.cmpi .ne (Scalar.extui (Scalar.cmpi .eq (BitVec.ofNat 32 (i 1).val) 0#32)) 0#32) = 1#1
/-- The column block belongs to the first result. -/
abbrev isLow (i : grid0.Coords) : Prop :=
  (Scalar.cmpi .ne (Scalar.extui (Scalar.cmpi .slt (BitVec.ofNat 32 (i 1).val) 3#32)) 0#32) = 1#1
/-- The column block belongs to the second result. -/
abbrev isHigh (i : grid0.Coords) : Prop :=
  (Scalar.cmpi .ne (Scalar.extui (Scalar.cmpi .sge (BitVec.ofNat 32 (i 1).val) 3#32)) 0#32) = 1#1

/-- The grid's second coordinate at point `t`. -/
theorem column (t : Fin cfg0.N) : (grid0.coords t 1).val = t.val % 6 := by
  have e : (grid0.coords t 1).val = t.val / 1 % 6 := Pipeline.Grid.coords_val t 1 (by decide) rfl
  rw [e, Nat.div_one]

theorem isFirst_iff (t : Fin cfg0.N) : isFirst (grid0.coords t) ↔ t.val % 6 = 0 := by
  have ht : t.val < 6 := Nat.lt_of_lt_of_eq t.isLt N_0
  simp only [isFirst, column]
  word_cmp

theorem isLow_iff (t : Fin cfg0.N) : isLow (grid0.coords t) ↔ t.val % 6 < 3 := by
  have ht : t.val < 6 := Nat.lt_of_lt_of_eq t.isLt N_0
  simp only [isLow, column]
  word_cmp

theorem isHigh_iff (t : Fin cfg0.N) : isHigh (grid0.coords t) ↔ 3 ≤ t.val % 6 := by
  have ht : t.val < 6 := Nat.lt_of_lt_of_eq t.isLt N_0
  simp only [isHigh, column]
  word_cmp

variable (c : Dev nD) (i : grid0.Coords)
  (arg2 : Memref sig .tc .vmem S1024x2048 .f32) (harg2 : arg2.IsWhole)
  (arg3 : Memref sig .tc .vmem S1024x2048 .bf16) (harg3 : arg3.IsWhole)
  (arg4 : Memref sig .tc .vmem S2x128x2048 .bf16) (harg4 : arg4.IsWhole)
  (arg5 : Memref sig .tc .vmem S1x128 .f32) (harg5 : arg5.IsWhole)
    (arg6 : Memref sig .tc .vmem S1024x1024 .f32) (harg6 : arg6.IsWhole)
  (arg7 : Memref sig .tc .vmem S1024x1024 .f32) (harg7 : arg7.IsWhole)
  (arg8 : Memref sig .tc .vmem S1024x128 .f32) (harg8 : arg8.IsWhole)
  (arg9 : Memref sig .tc .vmem S1024x2048 .bf16) (harg9 : arg9.IsWhole)

/-- The body on these buffers. -/
abbrev body : Prog (TpuEff nD τ sig (Elt F) Λ₀ .tc) PUnit :=
  cc0_inproj i arg2 harg2 arg3 harg3 arg4 harg4 arg5 harg5 arg6 harg6 arg7 harg7 arg8 harg8 arg9 harg9

set_option maxHeartbeats 1000000 in
/-- A middle column block of the first result: from the weights' block and the rows kept in the scratch the body leaves
    some pieces in the first result's buffer. -/
def runLow (h0 : ¬isFirst i) (h1 : isLow i) (h2 : ¬isHigh i)
    (w : Vec F S1024x2048 .bf16) (x : Vec F S1024x2048 .bf16) :
    { L : List (View.Piece (Elt F) S1024x1024 .f32) //
      ∀ (E : Set ℕ) (K : PUnit → sProp 𝕄),
        iprop(owns (c : Thread nD τ) arg3 fullShare w ∗ (∃ d, owns (c : Thread nD τ) arg6 fullShare d)
            ∗ owns (c : Thread nD τ) arg9 fullShare x
            ∗ (iprop(owns (c : Thread nD τ) arg3 fullShare w
                ∗ (∃ f, arg6.view.loc (c : Thread nD τ) ↦[arg6.view.set]{fullShare} arg6.view.writes (Elt F) f L)
                ∗ owns (c : Thread nD τ) arg9 fullShare x) -∗ K ⟨⟩))
          ⊢ wp frame (wpE (defs₀ (F := F)) Variants.none c none) E
              (body (F := F) i arg2 harg2 arg3 harg3 arg4 harg4 arg5 harg5 arg6 harg6 arg7 harg7 arg8 harg8 arg9 harg9) K } := by
  refine ⟨?_, fun E K => ?run⟩
  case run =>
    unfold body
    simp only [cc0_inproj_eq_skeleton]; unfold cc0_inproj_skel
    unfold owns
    iintro ⟨⟨%f1, %hf1, H1⟩, ⟨%d5, %f5, -, H5⟩, ⟨%fs, %hfs, HS⟩, Hk⟩
    obtain rfl := harg3.eq_unread hf1; obtain rfl := harg9.eq_unread hfs
    sl_exec (disch := first | sl_exact h0 | sl_exact h1 | sl_exact h2)
    sl_step
    iapply Hk
    isplitl [H1]
    · iexists _; isplitr; · ipureintro; exact harg3.read_unread _
      iexact H1
    isplitl [H5]; · iexists _; iexact H5
    iexists _; isplitr; · ipureintro; exact harg9.read_unread _
    iexact HS

/-- Those pieces make the product of the kept rows with the block of weights. -/
theorem runLow_whole (h0 : ¬isFirst i) (h1 : isLow i) (h2 : ¬isHigh i)
    (w : Vec F S1024x2048 .bf16) (x : Vec F S1024x2048 .bf16) (f) :
    arg6.view.read (Elt F) (arg6.view.writes (Elt F) f
      (runLow c i arg2 harg2 arg3 harg3 arg4 harg4 arg5 harg5 arg6 harg6 arg7 harg7 arg8 harg8 arg9 harg9 h0 h1 h2 w x).1) = k0_pay2 x w := by
  rw [View.read_writes_of_cover _ _ arg6.view arg6.view.junk _
    (fun y => View.cover_of_tiledL _ S1024x1024.size (by sl_kernel_rfl) y)]
  unfold runLow
  simp (disch := decide) only [View.read_writes_junk_eq_canon, View.canon_cons_unit_lit', View.ld_unit_lit',
    View.readAt_eq_ld, Memref.IsWhole.read_unread]

set_option maxHeartbeats 1000000 in
/-- A column block of the second result: from the weights' block and the rows kept in the scratch the body leaves some
    pieces in the second result's buffer. -/
def runHigh (h0 : ¬isFirst i) (h1 : ¬isLow i) (h2 : isHigh i)
    (w : Vec F S1024x2048 .bf16) (x : Vec F S1024x2048 .bf16) :
    { L : List (View.Piece (Elt F) S1024x1024 .f32) //
      ∀ (E : Set ℕ) (K : PUnit → sProp 𝕄),
        iprop(owns (c : Thread nD τ) arg3 fullShare w ∗ (∃ d, owns (c : Thread nD τ) arg7 fullShare d)
            ∗ owns (c : Thread nD τ) arg9 fullShare x
            ∗ (iprop(owns (c : Thread nD τ) arg3 fullShare w
                ∗ (∃ f, arg7.view.loc (c : Thread nD τ) ↦[arg7.view.set]{fullShare} arg7.view.writes (Elt F) f L)
                ∗ owns (c : Thread nD τ) arg9 fullShare x) -∗ K ⟨⟩))
          ⊢ wp frame (wpE (defs₀ (F := F)) Variants.none c none) E
              (body (F := F) i arg2 harg2 arg3 harg3 arg4 harg4 arg5 harg5 arg6 harg6 arg7 harg7 arg8 harg8 arg9 harg9) K } := by
  refine ⟨?_, fun E K => ?run⟩
  case run =>
    unfold body
    simp only [cc0_inproj_eq_skeleton]; unfold cc0_inproj_skel
    unfold owns
    iintro ⟨⟨%f1, %hf1, H1⟩, ⟨%d5, %f5, -, H5⟩, ⟨%fs, %hfs, HS⟩, Hk⟩
    obtain rfl := harg3.eq_unread hf1; obtain rfl := harg9.eq_unread hfs
    sl_exec (disch := first | sl_exact h0 | sl_exact h1 | sl_exact h2)
    sl_step
    iapply Hk
    isplitl [H1]
    · iexists _; isplitr; · ipureintro; exact harg3.read_unread _
      iexact H1
    isplitl [H5]; · iexists _; iexact H5
    iexists _; isplitr; · ipureintro; exact harg9.read_unread _
    iexact HS

/-- Those pieces make the product of the kept rows with the block of weights. -/
theorem runHigh_whole (h0 : ¬isFirst i) (h1 : ¬isLow i) (h2 : isHigh i)
    (w : Vec F S1024x2048 .bf16) (x : Vec F S1024x2048 .bf16) (f) :
    arg7.view.read (Elt F) (arg7.view.writes (Elt F) f
      (runHigh c i arg2 harg2 arg3 harg3 arg4 harg4 arg5 harg5 arg6 harg6 arg7 harg7 arg8 harg8 arg9 harg9 h0 h1 h2 w x).1) = k0_pay2 x w := by
  rw [View.read_writes_of_cover _ _ arg7.view arg7.view.junk _
    (fun y => View.cover_of_tiledL _ S1024x1024.size (by sl_kernel_rfl) y)]
  unfold runHigh
  simp (disch := decide) only [View.read_writes_junk_eq_canon, View.canon_cons_unit_lit', View.ld_unit_lit',
    View.readAt_eq_ld, Memref.IsWhole.read_unread]

set_option maxHeartbeats 1000000 in
/-- The first column block: from the rows, the weights' block, the gates' weights and bias the
    body leaves some pieces in the first result's buffer, in the gates' and in the scratch. -/
def runFirst (h0 : isFirst i) (h1 : isLow i) (h2 : ¬isHigh i)
    (x : Vec F S1024x2048 .f32) (w : Vec F S1024x2048 .bf16) (wg : Vec F S2x128x2048 .bf16) (bg : Vec F S1x128 .f32) :
    Σ' (L : List (View.Piece (Elt F) S1024x1024 .f32)) (G : List (View.Piece (Elt F) S1024x128 .f32)),
    { S : List (View.Piece (Elt F) S1024x2048 .bf16) //
      ∀ (E : Set ℕ) (K : PUnit → sProp 𝕄),
        iprop(owns (c : Thread nD τ) arg2 fullShare x
            ∗ owns (c : Thread nD τ) arg3 fullShare w
            ∗ owns (c : Thread nD τ) arg4 fullShare wg
            ∗ owns (c : Thread nD τ) arg5 fullShare bg
            ∗ (∃ d, owns (c : Thread nD τ) arg6 fullShare d) ∗ (∃ d, owns (c : Thread nD τ) arg8 fullShare d) ∗ (∃ d, owns (c : Thread nD τ) arg9 fullShare d)
            ∗ (iprop(owns (c : Thread nD τ) arg2 fullShare x
            ∗ owns (c : Thread nD τ) arg3 fullShare w
            ∗ owns (c : Thread nD τ) arg4 fullShare wg
            ∗ owns (c : Thread nD τ) arg5 fullShare bg
                ∗ (∃ f, arg6.view.loc (c : Thread nD τ) ↦[arg6.view.set]{fullShare} arg6.view.writes (Elt F) f L)
                ∗ (∃ f, arg8.view.loc (c : Thread nD τ) ↦[arg8.view.set]{fullShare} arg8.view.writes (Elt F) f G)
                ∗ (∃ f, arg9.view.loc (c : Thread nD τ) ↦[arg9.view.set]{fullShare} arg9.view.writes (Elt F) f S)) -∗ K ⟨⟩))
          ⊢ wp frame (wpE (defs₀ (F := F)) Variants.none c none) E
              (body (F := F) i arg2 harg2 arg3 harg3 arg4 harg4 arg5 harg5 arg6 harg6 arg7 harg7 arg8 harg8 arg9 harg9) K } := by
  refine ⟨?_, ?_, ?_, fun E K => ?run⟩
  case run =>
    unfold body
    simp only [cc0_inproj_eq_skeleton]; unfold cc0_inproj_skel
    simp only [k0_part1_eq_skeleton]
    unfold owns
    iintro ⟨⟨%f0, %hf0, H0⟩, ⟨%f1, %hf1, H1⟩, ⟨%f2, %hf2, H2⟩, ⟨%f3, %hf3, H3⟩, ⟨%d5, %f5, -, H5⟩,
      ⟨%d7, %f7, -, H7⟩, ⟨%ds, %fs, -, HS⟩, Hk⟩
    obtain rfl := harg2.eq_unread hf0; obtain rfl := harg3.eq_unread hf1; obtain rfl := harg4.eq_unread hf2
    obtain rfl := harg5.eq_unread hf3
    sl_exec (disch := first | sl_exact h0 | sl_exact h1 | sl_exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H5]; · iexists _; iexact H5
    isplitl [H7]; · iexists _; iexact H7
    iexists _; iexact HS

/-- What the first column block leaves in the scratch: the rounded rows. -/
theorem runFirst_kept (h0 : isFirst i) (h1 : isLow i) (h2 : ¬isHigh i)
    (x : Vec F S1024x2048 .f32) (w : Vec F S1024x2048 .bf16) (wg : Vec F S2x128x2048 .bf16) (bg : Vec F S1x128 .f32) (f) :
    arg9.view.read (Elt F) (arg9.view.writes (Elt F) f
      (runFirst c i arg2 harg2 arg3 harg3 arg4 harg4 arg5 harg5 arg6 harg6 arg7 harg7 arg8 harg8 arg9 harg9 h0 h1 h2 x w wg bg).2.2.1)
      = k0_pay5 x := by
  rw [View.read_writes_of_cover _ _ arg9.view arg9.view.junk _
    (fun y => View.cover_of_tiledL _ S1024x2048.size (by sl_kernel_rfl) y)]
  unfold runFirst runFirst.sl.HS_1
  simp (disch := decide) only [View.read_writes_junk_eq_canon, View.canon_cons_unit_lit', View.ld_unit_lit',
    View.readAt_eq_ld, Memref.IsWhole.read_unread]

/-- What it leaves in the first result's buffer: the product of those rows with the block of weights. -/
theorem runFirst_whole (h0 : isFirst i) (h1 : isLow i) (h2 : ¬isHigh i)
    (x : Vec F S1024x2048 .f32) (w : Vec F S1024x2048 .bf16) (wg : Vec F S2x128x2048 .bf16) (bg : Vec F S1x128 .f32) (f) :
    arg6.view.read (Elt F) (arg6.view.writes (Elt F) f
      (runFirst c i arg2 harg2 arg3 harg3 arg4 harg4 arg5 harg5 arg6 harg6 arg7 harg7 arg8 harg8 arg9 harg9 h0 h1 h2 x w wg bg).1)
      = k0_pay2 (k0_pay5 x) w := by
  rw [View.read_writes_of_cover _ _ arg6.view arg6.view.junk _
    (fun y => View.cover_of_tiledL _ S1024x1024.size (by sl_kernel_rfl) y)]
  unfold runFirst runFirst.sl.v3 runFirst.sl.HS_1
  simp (disch := decide) only [View.read_writes_junk_eq_canon, View.canon_cons_unit_lit', View.ld_unit_lit',
    View.readAt_eq_ld, Memref.IsWhole.read_unread, View.readCov_unit_lit', View.readCov_cons_unit_lit']

/-- The gates the rows get, from the gates' weights, once more, and bias. -/
abbrev gatesOf (x : Vec F S1024x2048 .f32) (w0 w1 w2 : Vec F S1x128x2048 .bf16) (bg : Vec F S1x128 .f32) : Vec F S1024x128 .f32 :=
  k0_pay1 (k0_pay6 x w0 w1 w2 bg) k0_pay7 k0_pay8 (k0_pay9 x w0 w1 w2 bg) (k0_pay10 x w0 w1 w2 bg) (k0_pay11 x w0 w1 w2 bg)
    (k0_pay12 x w0 w1 w2 bg) k0_pay13

/-- The gates the rows get, from the gates' weights and bias. -/
abbrev gates (x : Vec F S1024x2048 .f32) (wg : Vec F S2x128x2048 .bf16) (bg : Vec F S1x128 .f32) : Vec F S1024x128 .f32 :=
  gatesOf x (View.ld wg (Rect.unit ![0, 0, 0] S1x128x2048.size inb_S2x128x2048_S1x128x2048_0_0_0))
    (View.ld wg (Rect.unit ![1, 0, 0] S1x128x2048.size inb_S2x128x2048_S1x128x2048_1_0_0))
    (View.ld wg (Rect.unit ![0, 0, 0] S1x128x2048.size inb_S2x128x2048_S1x128x2048_0_0_0)) bg

/-- What it leaves in the gates' buffer. -/
theorem runFirst_gates (h0 : isFirst i) (h1 : isLow i) (h2 : ¬isHigh i)
    (x : Vec F S1024x2048 .f32) (w : Vec F S1024x2048 .bf16) (wg : Vec F S2x128x2048 .bf16) (bg : Vec F S1x128 .f32) (f) :
    arg8.view.read (Elt F) (arg8.view.writes (Elt F) f
      (runFirst c i arg2 harg2 arg3 harg3 arg4 harg4 arg5 harg5 arg6 harg6 arg7 harg7 arg8 harg8 arg9 harg9 h0 h1 h2 x w wg bg).2.1)
      = gates x wg bg := by
  rw [View.read_writes_of_cover _ _ arg8.view arg8.view.junk _
    (fun y => View.cover_of_tiledL _ S1024x128.size (by sl_kernel_rfl) y)]
  unfold runFirst runFirst.sl.r runFirst.sl.r_1 runFirst.sl.r_2 runFirst.sl.r_3 runFirst.sl.r_4 gates
  simp (disch := decide) only [View.read_writes_junk_eq_canon, View.canon_cons_unit_lit', View.ld_unit_lit',
    View.readAt_eq_ld, Memref.IsWhole.read_unread]

end Cert.Kernel13Ideal.Inproj

end
-- ==== Proof.InprojSampleFrame.lean ====
/- The run of the in-projection for the samples: what every buffer holds after every grid point, that the body does leave it so, and what
   the whole program ends with.  The rows kept in the scratch are those of the row block's first point; the first
   result's buffer keeps, through the second result's columns, what the last of its own left there; the gates' buffer
   keeps what the row block's first point left. -/
module

public import proofs.«01_k».proof.Proof.InprojSampleRuns
public import Idealize.ShloMosaic.Lib.Claim

@[expose] public section

set_option maxRecDepth 16384

noncomputable section

namespace Cert.Kernel13Ideal.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel13Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

theorem lt6 (t : Fin cfg0.N) : t.val < 6 := Nat.lt_of_lt_of_eq t.isLt N_0

/-- A number below 6 as a grid point. -/
def point (n : ℕ) (h : n < 6) : Fin cfg0.N := ⟨n, Nat.lt_of_lt_of_eq h N_0.symm⟩

/-- The first point of `t`'s row block. -/
def base (t : Fin cfg0.N) : Fin cfg0.N := point (6 * (t.val / 6)) (by have := lt6 t; omega)

/-- The point that last stored into the first result's buffer, at `t`. -/
def stored (t : Fin cfg0.N) : Fin cfg0.N :=
  point (if t.val % 6 < 3 then t.val else 6 * (t.val / 6) + 2) (by have := lt6 t; split <;> omega)

/-- The rows the scratch holds after point `t`. -/
def kept (c : Dev nD) (t : Fin cfg0.N) : Vec F S1024x2048 .bf16 :=
  k0_pay5 (iblk m c 0 (base t))

/-- The block the first result's buffer holds after point `t`. -/
def low (c : Dev nD) (t : Fin cfg0.N) : Vec F S1024x1024 .f32 := k0_pay2 (kept m c t) (iblk m c 1 (stored t))

/-- The block the second result's buffer holds after a point `t` of its columns. -/
def high (c : Dev nD) (t : Fin cfg0.N) : Vec F S1024x1024 .f32 := k0_pay2 (kept m c t) (iblk m c 1 t)

/-- The gates their buffer holds after point `t`. -/
def gate (c : Dev nD) (t : Fin cfg0.N) : Vec F S1024x128 .f32 :=
  gates (iblk m c 0 (base t)) (iblk m c 2 (base t)) (iblk m c 3 (base t))

theorem base_first (t : Fin cfg0.N) (h : t.val % 6 = 0) : base t = t :=
  Fin.ext (by show 6 * (t.val / 6) = t.val; omega)

theorem base_congr (s t : Fin cfg0.N) (h : s.val / 6 = t.val / 6) : base s = base t :=
  Fin.ext (by show 6 * (s.val / 6) = 6 * (t.val / 6); omega)

theorem stored_low (t : Fin cfg0.N) (h : t.val % 6 < 3) : stored t = t :=
  Fin.ext (by show (if t.val % 6 < 3 then t.val else _) = t.val; exact if_pos h)

theorem stored_congr (s t : Fin cfg0.N) (h : s.val / 6 = t.val / 6) (hs : 2 ≤ s.val % 6) (ht : 3 ≤ t.val % 6) :
    stored s = stored t :=
  Fin.ext (by
    show (if s.val % 6 < 3 then s.val else 6 * (s.val / 6) + 2) = (if t.val % 6 < 3 then t.val else 6 * (t.val / 6) + 2)
    split <;> split <;> omega)

/-! ## The pipeline's proof data -/

/-- The scratch as a buffer. -/
abbrev scratch : Memref sig .tc .vmem S1024x2048 .bf16 := Memref.whole cc0_scratch0

/-- Before the first point the scratch holds anything; before a later one, what the point before left. -/
def kept_at (c : Dev nD) : (n : ℕ) → n ≤ cfg0.N → sProp 𝕄
  | 0, _ => Pipeline.ΦA spec0 c
  | n + 1, hn => iprop(owns (c : Thread nD τ) scratch fullShare (kept m c ⟨n, hn⟩) ∗ (∃ r, prngReg c r))

/-- The proof data: the arrays as the host lines leave them, each input's buffer at its block, each result's at the
    block stated above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => low m c t
    | ⟨5, _⟩ => high m c t
    | ⟨6, _⟩ => gate m c t
  Φ t := kept_at m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = low m c t := by dsimp only [dats]
theorem after5 (c : Dev nD) (t : Fin cfg0.N) : (dats m 0 c).after 5 t = high m c t := by dsimp only [dats]
theorem after6 (c : Dev nD) (t : Fin cfg0.N) : (dats m 0 c).after 6 t = gate m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## Where the results are stored and written back -/

theorem idle4 : ∀ t : Fin cfg0.N, (cfg0.idle 4 (cfg0.grid.coords t) = true ↔ 3 ≤ t.val % 6) :=
  (by decide +kernel : ∀ t : Fin grid0.N, (idle0 4 (grid0.coords t) = true ↔ 3 ≤ t.val % 6))
theorem idle5 : ∀ t : Fin cfg0.N, (cfg0.idle 5 (cfg0.grid.coords t) = true ↔ t.val % 6 < 3) :=
  (by decide +kernel : ∀ t : Fin grid0.N, (idle0 5 (grid0.coords t) = true ↔ t.val % 6 < 3))
theorem idle6 : ∀ t : Fin cfg0.N, (cfg0.idle 6 (cfg0.grid.coords t) = true ↔ ¬t.val % 6 = 0) :=
  (by decide +kernel : ∀ t : Fin grid0.N, (idle0 6 (grid0.coords t) = true ↔ ¬t.val % 6 = 0))
theorem flush4 : ∀ t : Fin cfg0.N, ((cfg0.win 4).flush t = true ↔ t.val % 6 = 0 ∨ t.val % 6 = 1 ∨ t.val % 6 = 5) :=
  (by decide +kernel : ∀ t : Fin grid0.N, (win0_4.flush t = true ↔ t.val % 6 = 0 ∨ t.val % 6 = 1 ∨ t.val % 6 = 5))
theorem flush5 : ∀ t : Fin cfg0.N, ((cfg0.win 5).flush t = true ↔ 3 ≤ t.val % 6) :=
  (by decide +kernel : ∀ t : Fin grid0.N, (win0_5.flush t = true ↔ 3 ≤ t.val % 6))

/-- The point before. -/
abbrev prev (t : Fin cfg0.N) : Fin cfg0.N := ⟨t.val - 1, Nat.lt_of_le_of_lt (Nat.sub_le _ _) t.isLt⟩

/-- Through the second result's columns the first result's buffer holds what is stated after the point. -/
theorem before4 (c : Dev nD) : ∀ (n : ℕ) (t : Fin cfg0.N), t.val = n → 3 ≤ t.val % 6 → ∀ d,
    (dats m 0 c).before 4 t d = low m c t := by
  intro n
  induction n with
  | zero => intro t ht h; omega
  | succ n ih =>
    intro t ht h d
    have hf : (cfg0.win 4).flush (prev t) ≠ true := by
      rw [Ne, flush4]; show ¬((t.val - 1) % 6 = 0 ∨ (t.val - 1) % 6 = 1 ∨ (t.val - 1) % 6 = 5); omega
    have same : low m c (prev t) = low m c t := by
      have e1 : base (prev t) = base t := base_congr _ _ (by show (t.val - 1) / 6 = t.val / 6; omega)
      have e2 : stored (prev t) = stored t := stored_congr _ _ (by show (t.val - 1) / 6 = t.val / 6; omega)
        (by show 2 ≤ (t.val - 1) % 6; omega) h
      unfold low kept; rw [e1, e2]
    rw [(dats m 0 c).before_of_pos 4 t (by omega) rfl d, if_neg hf]
    unfold Dat.left
    by_cases hi : 3 ≤ (prev t).val % 6
    · rw [(idle4 (prev t)).mpr hi]
      exact (ih (prev t) (by show t.val - 1 = n; omega) hi d).trans same
    · rw [Bool.eq_false_iff.mpr fun e => hi ((idle4 (prev t)).mp e)]
      exact (show (dats m 0 c).kept 4 (prev t) d = (dats m 0 c).after 4 (prev t) from rfl).trans
        ((after4 m c (prev t)).trans same)

/-- After a row block's first point the gates' buffer holds what is stated after the point. -/
theorem before6 (c : Dev nD) : ∀ (n : ℕ) (t : Fin cfg0.N), t.val = n → ¬t.val % 6 = 0 → ∀ d,
    (dats m 0 c).before 6 t d = gate m c t := by
  intro n
  induction n with
  | zero => intro t ht h; omega
  | succ n ih =>
    intro t ht h d
    have hf : (cfg0.win 6).flush (prev t) ≠ true := by
      rw [Ne, flush0_6]; show ¬(t.val - 1) % 6 = 5; omega
    have same : gate m c (prev t) = gate m c t := by
      have e1 : base (prev t) = base t := base_congr _ _ (by show (t.val - 1) / 6 = t.val / 6; omega)
      unfold gate; rw [e1]
    rw [(dats m 0 c).before_of_pos 6 t (by omega) rfl d, if_neg hf]
    unfold Dat.left
    by_cases hi : ¬(prev t).val % 6 = 0
    · rw [(idle6 (prev t)).mpr hi]
      exact (ih (prev t) (by show t.val - 1 = n; omega) hi d).trans same
    · rw [Bool.eq_false_iff.mpr fun e => hi ((idle6 (prev t)).mp e)]
      exact (show (dats m 0 c).kept 6 (prev t) d = (dats m 0 c).after 6 (prev t) from rfl).trans
        ((after6 m c (prev t)).trans same)

/-- A buffer the body does not store into, handed back: as found, which is what is stated where it is written back. -/
theorem passed (c : Dev nD) (w : Fin cfg0.W) (t : Fin cfg0.N) (hi : cfg0.idle w (cfg0.grid.coords t) = true)
    (h : (cfg0.win w).flush t = true → ∀ d, (dats m 0 c).before w t d = (dats m 0 c).after w t) (d) :
    owns (c : Thread nD τ) ((cfg0.win w).stage (cfg0.slots t w)) fullShare ((dats m 0 c).before w t d)
      ⊢ ((dats m 0 c).leavesExact w t : sProp 𝕄) := by
  unfold Dat.leavesExact
  rw [hi]
  cases hf : (cfg0.win w).flush t
  · iintro H; iexists d; iexact H
  · rw [h hf d]

/-- A buffer the body stores into: what is stated. -/
theorem made (c : Dev nD) (w : Fin cfg0.W) (t : Fin cfg0.N) (hi : ¬cfg0.idle w (cfg0.grid.coords t) = true) :
    ((dats m 0 c).leavesExact w t : sProp 𝕄)
      = owns (c : Thread nD τ) ((cfg0.win w).stage (cfg0.slots t w)) fullShare ((dats m 0 c).after w t) := by
  unfold Dat.leavesExact
  rw [Bool.eq_false_iff.mpr hi]

/-! ## The invariant -/

theorem scratch_eq (c : Dev nD) :
    (Pipeline.ΦA spec0 c : sProp 𝕄)
      = iprop((∃ d, owns (c : Thread nD τ) scratch fullShare d) ∗ (∃ r, prngReg c r)) := by
  unfold Pipeline.ΦA; rw [scopedRest0_eq]; simp only [scratch, owns_whole]; rfl

/-- Before any point the scratch holds something. -/
theorem kept_some (c : Dev nD) (n : ℕ) (h : n ≤ cfg0.N) :
    kept_at m c n h ⊢ (Pipeline.ΦA spec0 c : sProp 𝕄) := by
  cases n with
  | zero => exact .rfl
  | succ n =>
    rw [scratch_eq]; unfold kept_at
    iintro ⟨HS, Hg⟩
    isplitl [HS]; · iexists _; iexact HS
    iexact Hg

/-- Before a point that is not a row block's first the scratch holds the row block's rows. -/
theorem kept_rows (c : Dev nD) (t : Fin cfg0.N) (h : ¬t.val % 6 = 0) :
    kept_at m c t.val (Nat.le_of_lt t.isLt)
      = iprop(owns (c : Thread nD τ) scratch fullShare (kept m c t) ∗ (∃ r, prngReg c r)) := by
  obtain ⟨n, hn⟩ := t
  cases n with
  | zero => exact absurd (Nat.zero_mod 6) h
  | succ n =>
    have e : base ⟨n, Nat.lt_of_succ_lt hn⟩ = base ⟨n + 1, hn⟩ :=
      base_congr _ _ (by
        have h' : ¬(n + 1) % 6 = 0 := h
        show n / 6 = (n + 1) / 6; omega)
    have e' : kept m c ⟨n, Nat.lt_of_succ_lt hn⟩ = kept m c ⟨n + 1, hn⟩ := by unfold kept; rw [e]
    rw [← e']; rfl

/-! ## The body obligation -/

/-- What the body is called with at point `t`, the buffers one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t ∗ (dats m 0 c).leavesExact 5 t ∗ (dats m 0 c).leavesExact 6 t)

theorem low_of (c : Dev nD) (t : Fin cfg0.N) (h : t.val % 6 < 3) :
    low m c t = k0_pay2 (kept m c t) (iblk m c 1 t) := by
  unfold low; rw [stored_low t h]

theorem kept_of (c : Dev nD) (t : Fin cfg0.N) (h : t.val % 6 = 0) :
    kept m c t = k0_pay5 (iblk m c 0 t) := by
  unfold kept; rw [base_first t h]

theorem gate_of (c : Dev nD) (t : Fin cfg0.N) (h : t.val % 6 = 0) :
    gate m c t = gates (iblk m c 0 t) (iblk m c 2 t) (iblk m c 3 t) := by
  unfold gate; rw [base_first t h]

theorem invariant_before (c : Dev nD) (t : Fin cfg0.N) :
    (dats m 0 c).Φ t.castSucc = kept_at m c t.val (Nat.le_of_lt t.isLt) := by
  dsimp only [dats]; exact Pipeline.Dat.Φ_castSucc (kept_at m c) t

theorem invariant_after (c : Dev nD) (t : Fin cfg0.N) :
    (dats m 0 c).Φ t.succ = iprop(owns (c : Thread nD τ) scratch fullShare (kept m c t) ∗ (∃ r, prngReg c r)) := rfl

set_option maxHeartbeats 1600000 in
/-- The body at a row block's first point. -/
theorem sound_first (c : Dev nD) (t : Fin cfg0.N) (h : t.val % 6 = 0) :
    bodyPre m c t ⊢ wp frame (wpE (defs₀ (F := F)) Variants.none c none) Set.univ (bodyAt0 t) (fun _ => bodyPost m c t) := by
  unfold bodyPre bodyPost
  simp only [before0, before1, before2, before3]
  rw [show (dats m 0 c).owesAt () t.succ = (dats m 0 c).owesAt () t.castSucc from rfl,
    after0, after1, after2, after3, invariant_before, invariant_after,
    made m c 4 t (by rw [idle4]; omega), made m c 6 t (by rw [idle6]; omega), after4, after6,
    low_of m c t (by omega), gate_of m c t h, kept_of m c t h]
  refine (sep_mono (kept_some m c _ _) .rfl).trans ?_
  rw [scratch_eq]
  iintro ⟨⟨HS, Hg⟩, Ho, ⟨%d0, H0⟩, ⟨%d1, H1⟩, ⟨%d2, H2⟩, ⟨%d3, H3⟩, ⟨%d5, H5⟩, ⟨%d6, H6⟩, ⟨%d7, H7⟩⟩
  iapply ((runFirst c (grid0.coords t) _ _ _ _ _ _ _ _ _ _ _ _ _ _ _ _ ((isFirst_iff t).mpr h)
    ((isLow_iff t).mpr (by omega)) (fun e => absurd ((isHigh_iff t).mp e) (by omega))
    (iblk m c 0 t) (iblk m c 1 t) (iblk m c 2 t) (iblk m c 3 t)).2.2.2 Set.univ _)
  isplitl [H0]; · iexact H0
  isplitl [H1]; · iexact H1
  isplitl [H2]; · iexact H2
  isplitl [H3]; · iexact H3
  isplitl [H5]; · iexists _; iexact H5
  isplitl [H7]; · iexists _; iexact H7
  isplitl [HS]; · iexact HS
  iintro ⟨H0, H1, H2, H3, ⟨%e5, H5⟩, ⟨%e7, H7⟩, ⟨%es, HS⟩⟩
  isplitl [HS Hg]
  · isplitl [HS]
    · unfold owns; iexists _; isplitr
      swap; · iexact HS
      ipureintro; exact runFirst_kept c _ _ _ _ _ _ _ _ _ _ _ _ _ _ _ _ _ _ _ _ _ _ _ _ _
    iexact Hg
  isplitl [Ho]; · iexact Ho
  isplitl [H0]; · iexact H0
  isplitl [H1]; · iexact H1
  isplitl [H2]; · iexact H2
  isplitl [H3]; · iexact H3
  isplitl [H5]
  · unfold owns; iexists _; isplitr
    swap; · iexact H5
    ipureintro; exact runFirst_whole c _ _ _ _ _ _ _ _ _ _ _ _ _ _ _ _ _ _ _ _ _ _ _ _ _
  isplitl [H6]
  · iapply (passed m c 5 t ((idle5 t).mpr (by omega)) (fun e => absurd ((flush5 t).mp e) (by omega)) d6)
    iexact H6
  unfold owns; iexists _; isplitr
  swap; · iexact H7
  ipureintro; exact runFirst_gates c _ _ _ _ _ _ _ _ _ _ _ _ _ _ _ _ _ _ _ _ _ _ _ _ _

set_option maxHeartbeats 1600000 in
/-- The body at the other points of the first result's columns. -/
theorem sound_low (c : Dev nD) (t : Fin cfg0.N) (h : ¬t.val % 6 = 0) (h' : t.val % 6 < 3) :
    bodyPre m c t ⊢ wp frame (wpE (defs₀ (F := F)) Variants.none c none) Set.univ (bodyAt0 t) (fun _ => bodyPost m c t) := by
  unfold bodyPre bodyPost
  simp only [before0, before1, before2, before3]
  rw [show (dats m 0 c).owesAt () t.succ = (dats m 0 c).owesAt () t.castSucc from rfl,
    after0, after1, after2, after3, invariant_before, invariant_after, kept_rows m c t h,
    made m c 4 t (by rw [idle4]; omega), after4, low_of m c t h']
  iintro ⟨⟨HS, Hg⟩, Ho, ⟨%d0, H0⟩, ⟨%d1, H1⟩, ⟨%d2, H2⟩, ⟨%d3, H3⟩, ⟨%d5, H5⟩, ⟨%d6, H6⟩, ⟨%d7, H7⟩⟩
  iapply ((runLow c (grid0.coords t) _ _ _ _ _ _ _ _ _ _ _ _ _ _ _ _
    (fun e => h ((isFirst_iff t).mp e)) ((isLow_iff t).mpr h')
    (fun e => absurd ((isHigh_iff t).mp e) (by omega)) (iblk m c 1 t) (kept m c t)).2 Set.univ _)
  isplitl [H1]; · iexact H1
  isplitl [H5]; · iexists _; iexact H5
  isplitl [HS]; · iexact HS
  iintro ⟨H1, ⟨%e5, H5⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H5]
  · unfold owns; iexists _; isplitr
    swap; · iexact H5
    ipureintro; exact runLow_whole c _ _ _ _ _ _ _ _ _ _ _ _ _ _ _ _ _ _ _ _ _ _ _
  isplitl [H6]
  · iapply (passed m c 5 t ((idle5 t).mpr h') (fun e => absurd ((flush5 t).mp e) (by omega)) d6)
    iexact H6
  iapply (passed m c 6 t ((idle6 t).mpr h) (fun _ d => (before6 m c _ t rfl h d).trans (after6 m c t).symm) d7)
  iexact H7

set_option maxHeartbeats 1600000 in
/-- The body at the points of the second result's columns. -/
theorem sound_high (c : Dev nD) (t : Fin cfg0.N) (h : 3 ≤ t.val % 6) :
    bodyPre m c t ⊢ wp frame (wpE (defs₀ (F := F)) Variants.none c none) Set.univ (bodyAt0 t) (fun _ => bodyPost m c t) := by
  unfold bodyPre bodyPost
  simp only [before0, before1, before2, before3]
  rw [show (dats m 0 c).owesAt () t.succ = (dats m 0 c).owesAt () t.castSucc from rfl,
    after0, after1, after2, after3, invariant_before, invariant_after, kept_rows m c t (by omega),
    made m c 5 t (by rw [idle5]; omega), after5]
  iintro ⟨⟨HS, Hg⟩, Ho, ⟨%d0, H0⟩, ⟨%d1, H1⟩, ⟨%d2, H2⟩, ⟨%d3, H3⟩, ⟨%d5, H5⟩, ⟨%d6, H6⟩, ⟨%d7, H7⟩⟩
  iapply ((runHigh c (grid0.coords t) _ _ _ _ _ _ _ _ _ _ _ _ _ _ _ _
    (fun e => absurd ((isFirst_iff t).mp e) (by omega)) (fun e => absurd ((isLow_iff t).mp e) (by omega))
    ((isHigh_iff t).mpr h) (iblk m c 1 t) (kept m c t)).2 Set.univ _)
  isplitl [H1]; · iexact H1
  isplitl [H6]; · iexists _; iexact H6
  isplitl [HS]; · iexact HS
  iintro ⟨H1, ⟨%e6, H6⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H5]
  · iapply (passed m c 4 t ((idle4 t).mpr h) (fun _ d => (before4 m c _ t rfl h d).trans (after4 m c t).symm) d5)
    iexact H5
  isplitl [H6]
  · unfold owns; iexists _; isplitr
    swap; · iexact H6
    ipureintro; exact runHigh_whole c _ _ _ _ _ _ _ _ _ _ _ _ _ _ _ _ _ _ _ _ _ _ _
  iapply (passed m c 6 t ((idle6 t).mpr (by omega))
    (fun _ d => (before6 m c _ t rfl (by omega) d).trans (after6 m c t).symm) d7)
  iexact H7

/-- The body at any point. -/
theorem sound (c : Dev nD) (t : Fin cfg0.N) :
    bodyPre m c t ⊢ wp frame (wpE (defs₀ (F := F)) Variants.none c none) Set.univ (bodyAt0 t) (fun _ => bodyPost m c t) := by
  by_cases h : t.val % 6 = 0
  · exact sound_first m c t h
  · by_cases h' : t.val % 6 < 3
    · exact sound_low m c t h h'
    · exact sound_high m c t (by omega)

theorem row_eq (t : Fin cfg0.N) :
    defs₀ (F := F) .tc cfg0.body (cfg0.bodyArgs t (cfg0.slots t)) = bodyAt0 t := by
  unfold defs₀; rw [Defs.onTc_tc]

/-- The body does, at every point, what the proof data say. -/
theorem obligation (c : Dev nD) : BodyObligation (dats (F := F) m 0 c) (defs₀ (F := F)) Variants.none () Set.univ := fun t => by
  rw [bigSep_W0, bigSep_W0, row_eq]
  exact triple_restated (sound m c t) rfl .rfl fun _ => .rfl

theorem enters (c : Dev nD) : Pipeline.ΦA spec0 c ⊢ (dats m 0 c).Φ 0 := .rfl

theorem exits (c : Dev nD) : (dats m 0 c).Φ (Fin.last cfg0.N) ⊢ Pipeline.ΦA spec0 c :=
  (Entails.of_eq (show (dats m 0 c).Φ (Fin.last cfg0.N) = kept_at m c cfg0.N (Nat.le_refl _) from rfl)).trans
    (kept_some m c _ _)

/-! ## The run and the frame -/

set_option backward.isDefEq.respectTransparency.types false in
set_option maxHeartbeats 800000 in
/-- Every execution ends with the arrays at what the proof data say and every semaphore at zero. -/
theorem run_quiet : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enters m) (hout := exits m)

/-- The same without the semaphores. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiet m ρ)

/-- The frame: every execution terminates, the arguments end as they began and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiet m ρ))

end Cert.Kernel13Ideal.Inproj

end
-- ==== Proof.InprojSampleRef.lean ====
/- The reference of the in-projection of the samples: its three results as functions of its arguments, read at an index. -/
module

public import proofs.«01_k».proof.Proof.Gen.Reference13Ideal.Run
public import Idealize.ShloMosaic.Lib.Pointwise

@[expose] public section

set_option maxRecDepth 16384

noncomputable section

open Idealize.ShloMosaic Idealize.ShloMosaic.TcCoe Idealize.SL.Sem

namespace Cert.Reference13Ideal.Inproj

open Cert.Reference13Ideal Cert.Reference13Ideal.Gen

/-- The samples times the weight. -/
def all (arg0 : FVec Ideal S128x8x2048 .f32) (arg1 : FVec Ideal S6144x2048 .bf16) : FVec Ideal S128x8x6144 .f32 :=
  Host.dotGeneral dot_S128x8x2048_S2048x6144_S128x8x6144_2_0_01_1_n_n none arg0 (transpose S2048x6144 [1, 0] (extf .f32 arg1 bitsLt_bf16_f32) transposes_S6144x2048_S2048x6144_1_0)

/-- The first half of the columns. -/
def low (Z : FVec Ideal S128x8x6144 .f32) : FVec Ideal S1024x3072 .f32 :=
  shapeCast _ (extractStridedSlice S128x8x3072 ![0, 0, 0] Z slices_S128x8x6144_S128x8x3072_0_0_0) shapeCasts_S128x8x3072_S1024x3072

/-- The second half of the columns. -/
def high (Z : FVec Ideal S128x8x6144 .f32) : FVec Ideal S1024x3072 .f32 :=
  shapeCast _ (extractStridedSlice S128x8x3072 ![0, 0, 3072] Z slices_S128x8x6144_S128x8x3072_0_0_3072) shapeCasts_S128x8x3072_S1024x3072

/-- The last three rows of each sample, of the columns the convolution reads. -/
def last (Z : FVec Ideal S128x8x6144 .f32) : FVec Ideal S1x128x3x1024 .f32 :=
  broadcastInDim S1x128x3x1024 ![1, 2, 3] bcast_S128x3x1024_S1x128x3x1024_1_2_3 (extractStridedSlice S128x3x1024 ![0, 5, 4096] Z slices_S128x8x6144_S128x3x1024_0_5_4096)

/-- The reference's run: its three results, and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = low (all (m ((c.tc : Thread nD τ).loc main_arg0)) (m ((c.tc : Thread nD τ).loc main_arg1)))
      ∧ r.2.mem ((c.tc : Thread nD τ).loc main_v6) = high (all (m ((c.tc : Thread nD τ).loc main_arg0)) (m ((c.tc : Thread nD τ).loc main_arg1)))
      ∧ r.2.mem ((c.tc : Thread nD τ).loc main_v8) = last (all (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run (F := Ideal) m ρ

/-- One column of one row of the product. -/
theorem all_at (x : FVec Ideal S128x8x2048 .f32) (w : FVec Ideal S6144x2048 .bf16) (p : Fin 128) (s : Fin 8) (n : Fin 6144) :
    all x w (ix3 p s n) = ∑ k : Fin 2048, x (ix3 p s k) * w (ix2 n k) := by
  pointwise [all]

/-- The first result, read at an index. -/
theorem low_at (Z : FVec Ideal S128x8x6144 .f32) (q : Fin 1024) (n : Fin 3072) :
    low Z (ix2 q n) = Z (ix3 ⟨q.val / 8, by omega⟩ ⟨q.val % 8, by omega⟩ ⟨n.val, by omega⟩) := by
  pointwise [low]

/-- The second result, read at an index. -/
theorem high_at (Z : FVec Ideal S128x8x6144 .f32) (q : Fin 1024) (n : Fin 3072) :
    high Z (ix2 q n) = Z (ix3 ⟨q.val / 8, by omega⟩ ⟨q.val % 8, by omega⟩ ⟨3072 + n.val, by omega⟩) := by
  pointwise [high]

/-- The third result, read at an index. -/
theorem last_at (Z : FVec Ideal S128x8x6144 .f32) (p : Fin 128) (j : Fin 3) (n : Fin 1024) :
    last Z (ix4 0 p j n) = Z (ix3 p ⟨5 + j.val, by omega⟩ ⟨4096 + n.val, by omega⟩) := by
  pointwise [last]

end Cert.Reference13Ideal.Inproj

end
-- ==== Proof.InprojSample.lean ====
/- The in-projection of the samples: the two arrays of columns the kernel leaves, and the rows kept for the convolution,
   are the reference's of its arguments.  One block of rows holds every row of every sample. -/
module

public import proofs.«01_k».proof.Proof.InprojSampleFrame
public import proofs.«01_k».proof.Proof.InprojSampleRef
public import proofs.«01_k».proof.Proof.Place
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel13Ideal.Inproj

open Cert.Kernel13Ideal Cert.Kernel13Ideal.Gen Cert.Layer

variable (m : (ℓ : Loc nD τ sig) → Buf (Elt Ideal) ℓ)

/-- The kept rows are the rows staged. -/
theorem pay5_at (x : FVec Ideal S1024x2048 .f32) (r : Fin 1024) (d : Fin 2048) :
    k0_pay5 (F := Ideal) x (ix2 r d) = x (ix2 r d) := by
  pointwise [k0_pay5, k0_pay4, k0_pay3]

/-- One column of one row of a block's product. -/
theorem pay2_at (x : FVec Ideal S1024x2048 .bf16) (w : FVec Ideal S1024x2048 .bf16) (r : Fin 1024) (n : Fin 1024) :
    k0_pay2 (F := Ideal) x w (ix2 r n) = ∑ k : Fin 2048, x (ix2 r k) * w (ix2 n k) := by
  pointwise [k0_pay2]

/-- Where each operand's block starts at a point of the grid. -/
theorem idx : ∀ t : Fin cfg0.N, win0_0.index t = ![0, 0] ∧ win0_1.index t = ![t.val, 0]
    ∧ win0_4.index t = ![0, min t.val 2] ∧ win0_5.index t = ![0, t.val - 3] :=
  (by decide +kernel : ∀ t : Fin grid0.N, _)

/-- The samples' rows, laid one after the other, as the region finds them. -/
theorem V_rows (c : Dev nD) : V m c main_v14
    = shapeCast S1024x2048 (m ((c : Thread nD τ).loc main_arg0) : FVec Ideal S128x8x2048 .f32) shapeCasts_S128x8x2048_S1024x2048 := by
  show StableHlo.after (List.flatten [hostOps0, hostOps0_1, hostOps0_2, hostOps0_3, hostOps0_4]) (fun b => m (c, b)) _ = _
  simp only [List.flatten_cons, List.flatten_nil, List.append_nil, List.cons_append, List.nil_append]
  after_results <;> rfl

/-- The samples' rows laid one after the other, read at an index. -/
theorem rows_at (x : FVec Ideal S128x8x2048 .f32) (q : Fin 1024) (d : Fin 2048) :
    shapeCast S1024x2048 x shapeCasts_S128x8x2048_S1024x2048 (ix2 q d)
      = x (ix3 ⟨q.val / 8, by omega⟩ ⟨q.val % 8, by omega⟩ d) := by
  pointwise []

/-- The staged rows, read from the samples. -/
theorem blk0 (c : Dev nD) (t : Fin cfg0.N) (r : Fin 1024) (d : Fin 2048) :
    (iblk m c 0 t : FVec Ideal S1024x2048 .f32) (ix2 r d)
      = (m ((c : Thread nD τ).loc main_arg0) : FVec Ideal S128x8x2048 .f32)
          (ix3 ⟨r.val / 8, by omega⟩ ⟨r.val % 8, by omega⟩ d) := by
  refine Eq.trans ?_ (rows_at _ r d)
  rw [← V_rows m c]
  blk_point [iblk, idx t]

/-- The staged rows of the weight. -/
theorem blk1 (c : Dev nD) (t : Fin cfg0.N) (n : Fin 1024) (d : Fin 2048) (h) :
    (iblk m c 1 t : FVec Ideal S1024x2048 .bf16) (ix2 n d)
      = (m ((c : Thread nD τ).loc main_arg1) : FVec Ideal S6144x2048 .bf16) (ix2 ⟨t.val * 1024 + n.val, h⟩ d) := by
  rw [← V_main_arg1 m c]
  blk_point [iblk, idx t]

/-- The samples as launched. -/
def samples (c : Dev nD) : FVec Ideal S128x8x2048 .f32 := m ((c : Thread nD τ).loc main_arg0)

/-- The weight as launched. -/
def weight (c : Dev nD) : FVec Ideal S6144x2048 .bf16 := m ((c : Thread nD τ).loc main_arg1)

/-- The reference's product, of the kernel's arguments. -/
def res (c : Dev nD) : FVec Ideal Cert.Reference13Ideal.S128x8x6144 .f32 :=
  Cert.Reference13Ideal.Inproj.all (m ((c : Thread nD τ).loc main_arg0)) (m ((c : Thread nD τ).loc main_arg1))

/-- One column of one row of the reference's product. -/
theorem res_at (c : Dev nD) (q : Fin 1024) (n : Fin 6144) (h h') :
    res m c (ix3 ⟨q.val / 8, h⟩ ⟨q.val % 8, h'⟩ n)
      = ∑ k : Fin 2048, samples m c (ix3 ⟨q.val / 8, h⟩ ⟨q.val % 8, h'⟩ k) * weight m c (ix2 n k) :=
  Cert.Reference13Ideal.Inproj.all_at _ _ _ _ n

/-- A column of a row of a block's product, at any row of the weight the block's rows are. -/
theorem prod_at (c : Dev nD) (t s : Fin cfg0.N) (r n : Fin 1024) (j : Fin 6144) (h : s.val * 1024 + n.val = j.val) (h1 h2) :
    k0_pay2 (F := Ideal) (kept m c t) (iblk m c 1 s) (ix2 r n) = res m c (ix3 ⟨r.val / 8, h1⟩ ⟨r.val % 8, h2⟩ j) := by
  refine Eq.trans ?_ (res_at m c r j h1 h2).symm
  refine (pay2_at _ _ r n).trans (Finset.sum_congr rfl fun k _ => Ideal.mul_congr ?_ ?_)
  · unfold kept
    exact (pay5_at _ r k).trans (blk0 m c (base t) r k)
  · refine (blk1 m c s n k (by omega)).trans ?_
    exact congrArg (fun z => (m ((c : Thread nD τ).loc main_arg1) : FVec Ideal S6144x2048 .bf16) (ix2 z k)) (Fin.ext h)

/-- The first result's array after the run. -/
theorem final_low (c : Dev nD) : (dats m 0 c).arrAt 4 (cfgs 0).N = Cert.Reference13Ideal.Inproj.low (res m c) := by
  refine (dats m 0 c).arrAt_eq_of_covers 4 _ (by decide +kernel) fun t hf y => ?_
  have ht := lt6 t
  blk_simp
  rw [after4]
  obtain ⟨r, n, rfl⟩ : ∃ (r : Fin 1024) (n : Fin 1024), y = ix2 r n := ⟨y 0, y 1, eq_ix2 y⟩
  have hn := n.isLt
  have h2 : min t.val 2 * 1024 + n.val < 3072 := by omega
  have e : ((cfg0.win 4).blk t).view.emb (ix2 r n) = ix2 r ⟨min t.val 2 * 1024 + n.val, h2⟩ := by
    refine (eq_ix2 _).trans (congrArg₂ ix2 (Fin.ext ?_) (Fin.ext ?_)) <;> blk_simp [idx t]
  rw [e]
  refine Eq.trans ?_ (Cert.Reference13Ideal.Inproj.low_at _ _ _).symm
  have hs : (stored t).val = min t.val 2 := by
    show (if t.val % 6 < 3 then t.val else 6 * (t.val / 6) + 2) = _
    split <;> omega
  exact prod_at m c t (stored t) r n _ (congrArg (fun z => z * 1024 + n.val) hs) _ _

/-- The second result's array after the run. -/
theorem final_high (c : Dev nD) : (dats m 0 c).arrAt 5 (cfgs 0).N = Cert.Reference13Ideal.Inproj.high (res m c) := by
  refine (dats m 0 c).arrAt_eq_of_covers 5 _ (by decide +kernel) fun t hf y => ?_
  have ht := lt6 t
  have h3 : 3 ≤ t.val % 6 := (flush5 t).mp hf
  blk_simp
  rw [after5]
  obtain ⟨r, n, rfl⟩ : ∃ (r : Fin 1024) (n : Fin 1024), y = ix2 r n := ⟨y 0, y 1, eq_ix2 y⟩
  have hn := n.isLt
  have h2 : (t.val - 3) * 1024 + n.val < 3072 := by omega
  have e : ((cfg0.win 5).blk t).view.emb (ix2 r n) = ix2 r ⟨(t.val - 3) * 1024 + n.val, h2⟩ := by
    refine (eq_ix2 _).trans (congrArg₂ ix2 (Fin.ext ?_) (Fin.ext ?_)) <;> blk_simp [idx t]
  rw [e]
  refine Eq.trans ?_ (Cert.Reference13Ideal.Inproj.high_at _ _ _).symm
  refine prod_at m c t t r n _ ?_ _ _
  show t.val * 1024 + n.val = 3072 + ((t.val - 3) * 1024 + n.val)
  omega

/-- The last three rows of each sample, as the lines after the call take them from the second result. -/
def last (T : FVec Ideal S1024x3072 .f32) : FVec Ideal S1x128x3x1024 .f32 :=
  broadcastInDim S1x128x3x1024 ![1, 2, 3] bcast_S128x3x1024_S1x128x3x1024_1_2_3 (extractStridedSlice S128x3x1024 ![0, 5, 1024]
    (shapeCast S128x8x3072 T shapeCasts_S1024x3072_S128x8x3072) slices_S128x8x3072_S128x3x1024_0_5_1024)

/-- The last three rows, read at an index. -/
theorem last_at (T : FVec Ideal S1024x3072 .f32) (p : Fin 128) (j : Fin 3) (n : Fin 1024) :
    last T (ix4 0 p j n) = T (ix2 ⟨p.val * 8 + (5 + j.val), by omega⟩ ⟨1024 + n.val, by omega⟩) := by
  pointwise [last]

/-- The kernel takes the rows and columns the reference takes. -/
theorem last_tie (Z : FVec Ideal Cert.Reference13Ideal.S128x8x6144 .f32) :
    last (Cert.Reference13Ideal.Inproj.high Z) = Cert.Reference13Ideal.Inproj.last Z := by
  funext i
  obtain ⟨p, j, n, rfl⟩ : ∃ (p : Fin 128) (j : Fin 3) (n : Fin 1024), i = ix4 0 p j n :=
    ⟨i 1, i 2, i 3, (eq_ix4 i).trans (congrArg (fun z => ix4 z (i 1) (i 2) (i 3)) (Subsingleton.elim (α := Fin 1) _ _))⟩
  refine (last_at _ p j n).trans (Eq.trans ?_ (Cert.Reference13Ideal.Inproj.last_at Z p j n).symm)
  refine (Cert.Reference13Ideal.Inproj.high_at Z _ _).trans (congrArg Z (ix3_of _ _ _ _ ?_ ?_ ?_))
  · show (p.val * 8 + (5 + j.val)) / 8 = p.val
    omega
  · show (p.val * 8 + (5 + j.val)) % 8 = 5 + j.val
    omega
  · show 3072 + (1024 + n.val) = 4096 + n.val
    omega

/-- The third result after the run: the last rows of the second. -/
theorem tail_last (c : Dev nD) : Pipeline.afterTail₀ cfgs (dats m) 0 (V0 m) [hostOps1] c main_v18
    = Cert.Reference13Ideal.Inproj.last (res m c) := by
  have e : Pipeline.withArrays (cfgs 0).spec c (V0 m c) (fun w => (dats m 0 c).arrAt w (cfgs 0).N) (Proc.devRef .tc main_v15_1)
      = Cert.Reference13Ideal.Inproj.high (res m c) :=
    (Pipeline.withArrays_arr (cfgs 0).spec (by decide) c (V0 m c) _ 5).trans (final_high m c)
  unfold Pipeline.afterTail₀
  generalize Pipeline.withArrays (cfgs 0).spec c (V0 m c) (fun w => (dats m 0 c).arrAt w (cfgs 0).N) = W at e
  show StableHlo.after hostOps1 W (Proc.devRef .tc main_v18) = _
  have h : StableHlo.after hostOps1 W (Proc.devRef .tc main_v18) = last (W (Proc.devRef .tc main_v15_1)) := by
    after_results <;> rfl
  rw [h, e]
  exact last_tie _

/-- The kernel's run: its three results, and the arguments as launched. -/
theorem run (ρ : Dev nD → PrngReg) :
    θ_run defs (onTc (τ := τ) (main (F := Ideal))) ⟨m, fun _ => 0, ρ⟩ fun r => ∀ c : Dev nD,
      r.2.mem ((c.tc : Thread nD τ).loc main_v15_0) = Cert.Reference13Ideal.Inproj.low (res m c)
      ∧ r.2.mem ((c.tc : Thread nD τ).loc main_v15_1) = Cert.Reference13Ideal.Inproj.high (res m c)
      ∧ r.2.mem ((c.tc : Thread nD τ).loc main_v18) = Cert.Reference13Ideal.Inproj.last (res m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 4).trans (final_low m c), ((h c).1 5).trans (final_high m c),
      ((h c).2 main_v18 (Pipeline.mem_restRefs_of main_v18 (by decide) (by decide))).trans (tail_last m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main (F := Ideal) m ρ)

end Cert.Kernel13Ideal.Inproj

end
-- ==== Proof.LoraRef.lean ====
/- The reference of the decay, the learning rate and the gate of the second layer's mixer, read at an index. -/
module

public import proofs.«01_k».proof.Proof.Gen.Reference12Ideal.Run
public import proofs.«01_k».proof.Proof.Norm
public import Idealize.ShloMosaic.Lib.Pointwise

@[expose] public section

set_option maxRecDepth 16384

noncomputable section

open Idealize.ShloMosaic Idealize.ShloMosaic.TcCoe Idealize.SL.Sem

namespace Cert.Reference12Ideal.Lora

open Cert.Reference12Ideal Cert.Reference12Ideal.Gen Cert.Layer

/-- The rows one token before. -/
def prev (arg0 : FVec Ideal S128x8x2048 .f32) (arg1 : FVec Ideal S1x128x2048 .f32) : FVec Ideal S128x8x2048 .f32 :=
  concatenate S128x8x2048 1 [⟨S128x1x2048, (broadcastInDim S128x1x2048 ![0, 2] bcast_S128x2048_S128x1x2048_0_2 (shapeCast _ arg1 shapeCasts_S1x128x2048_S128x2048))⟩, ⟨S128x7x2048, (extractStridedSlice S128x7x2048 ![0, 0, 0] arg0 slices_S128x8x2048_S128x7x2048_0_0_0)⟩] concatenates_S128x1x2048_S128x7x2048_S128x8x2048_d1

/-- The rows mixed with those one token before. -/
def mix (arg0 Y : FVec Ideal S128x8x2048 .f32) (MU : FVec Ideal S1x1x2048 .f32) : FVec Ideal S1024x2048 .f32 :=
  shapeCast _ (addf arg0 (mulf (subf Y arg0) (broadcastInDim S128x8x2048 ![0, 1, 2] bcast_S1x1x2048_S128x8x2048_0_1_2 (broadcastInDim S1x1x2048 ![2] bcast_S2048_S1x1x2048_2 (shapeCast _ MU shapeCasts_S1x1x2048_S2048))))) shapeCasts_S128x8x2048_S1024x2048

/-- The mixed rows in the low rank. -/
def down (X : FVec Ideal S1024x2048 .f32) (W : FVec Ideal S1x2048x96 .f32) : FVec Ideal S1024x96 .f32 :=
  Host.dotGeneral dot_S1024x2048_S2048x96_S1024x96_1_0_0_1_n_n none X (shapeCast _ W shapeCasts_S1x2048x96_S2048x96)

/-- Back from the low rank, with the offset. -/
def up (H : FVec Ideal S1024x96 .f32) (B : FVec Ideal S1x2048 .f32) (W : FVec Ideal S1x96x2048 .f32) : FVec Ideal S1024x2048 .f32 :=
  addf (broadcastInDim S1024x2048 ![0, 1] bcast_S1x2048_S1024x2048_0_1 (broadcastInDim S1x2048 ![1] bcast_S2048_S1x2048_1 (shapeCast _ B shapeCasts_S1x2048_S2048))) (Host.dotGeneral dot_S1024x96_S96x2048_S1024x2048_1_0_0_1_n_n none H (shapeCast _ W shapeCasts_S1x96x2048_S96x2048))

/-- The decay's logarithm. -/
def decay (U : FVec Ideal S1024x2048 .f32) : FVec Ideal S1024x2048 .f32 :=
  Host.negf (Host.exp (subf (Host.negf (select (cmpf .une (subf (Host.negf U) (broadcastInDim S1024x2048 ![] bcast_S_S1024x2048 (constant S_ .f32 0x00000000#32))) (subf (Host.negf U) (broadcastInDim S1024x2048 ![] bcast_S_S1024x2048 (constant S_ .f32 0x00000000#32)))) (addf (Host.negf U) (broadcastInDim S1024x2048 ![] bcast_S_S1024x2048 (constant S_ .f32 0x00000000#32))) (addf (maximumf (Host.negf U) (broadcastInDim S1024x2048 ![] bcast_S_S1024x2048 (constant S_ .f32 0x00000000#32))) (Host.log1p (Host.exp (Host.negf (Host.absf (subf (Host.negf U) (broadcastInDim S1024x2048 ![] bcast_S_S1024x2048 (constant S_ .f32 0x00000000#32)))))))))) (broadcastInDim S1024x2048 ![] bcast_S_S1024x2048 (constant S_ .f32 0x3F000000#32))))

/-- The learning rate. -/
def rate (U : FVec Ideal S1024x2048 .f32) : FVec Ideal S1024x2048 .f32 :=
  Host.divf (broadcastInDim S1024x2048 ![] bcast_S_S1024x2048 (constant S_ .f32 0x3F800000#32)) (addf (broadcastInDim S1024x2048 ![] bcast_S_S1024x2048 (constant S_ .f32 0x3F800000#32)) (Host.exp (Host.negf U)))

/-- The gate. -/
def gate (X : FVec Ideal S1024x2048 .f32) (W1 : FVec Ideal S1x2048x256 .f32) (W2 : FVec Ideal S1x256x2048 .f32) : FVec Ideal S1024x2048 .f32 :=
  Host.dotGeneral dot_S1024x256_S256x2048_S1024x2048_1_0_0_1_n_n none (Host.divf (broadcastInDim S1024x256 ![] bcast_S_S1024x256 (constant S_ .f32 0x3F800000#32)) (addf (broadcastInDim S1024x256 ![] bcast_S_S1024x256 (constant S_ .f32 0x3F800000#32)) (Host.exp (Host.negf (Host.dotGeneral dot_S1024x2048_S2048x256_S1024x256_1_0_0_1_n_n none X (shapeCast _ W1 shapeCasts_S1x2048x256_S2048x256)))))) (shapeCast _ W2 shapeCasts_S1x256x2048_S256x2048)

/-- The reference's first result. -/
def out0 (x : FVec Ideal S128x8x2048 .f32) (xl : FVec Ideal S1x128x2048 .f32) (mu : FVec Ideal S1x6x2048 .f32)
    (w0 : FVec Ideal S1x2048 .f32) (w1 : FVec Ideal S1x2048x96 .f32) (w2 : FVec Ideal S1x96x2048 .f32) : FVec Ideal S1024x2048 .f32 :=
  decay (up (Host.tanh (down (mix x (prev x xl) (extractStridedSlice S1x1x2048 ![0, 1, 0] mu slices_S1x6x2048_S1x1x2048_0_1_0)) w1)) w0 w2)

/-- The reference's second result. -/
def out1 (x : FVec Ideal S128x8x2048 .f32) (xl : FVec Ideal S1x128x2048 .f32) (mu : FVec Ideal S1x6x2048 .f32)
    (a0 : FVec Ideal S1x2048 .f32) (a1 : FVec Ideal S1x2048x96 .f32) (a2 : FVec Ideal S1x96x2048 .f32) : FVec Ideal S1024x2048 .f32 :=
  rate (up (down (mix x (prev x xl) (extractStridedSlice S1x1x2048 ![0, 4, 0] mu slices_S1x6x2048_S1x1x2048_0_4_0)) a1) a0 a2)

/-- The reference's third result. -/
def out2 (x : FVec Ideal S128x8x2048 .f32) (xl : FVec Ideal S1x128x2048 .f32) (mu : FVec Ideal S1x6x2048 .f32)
    (g1 : FVec Ideal S1x2048x256 .f32) (g2 : FVec Ideal S1x256x2048 .f32) : FVec Ideal S1024x2048 .f32 :=
  gate (mix x (prev x xl) (extractStridedSlice S1x1x2048 ![0, 5, 0] mu slices_S1x6x2048_S1x1x2048_0_5_0)) g1 g2

/-- The reference's run: its three results, and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67) = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v55) = out1 (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8))
      ∧ r.2.mem ((c.tc : Thread nD τ).loc main_v65) = out2 (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1, (h c).2⟩) (Value.run (F := Ideal) m ρ)

/-- The row before token `s` of sample `p`: the state's at the first. -/
theorem prev_at (x : FVec Ideal S128x8x2048 .f32) (xl : FVec Ideal S1x128x2048 .f32) (p : Fin 128) (s : Fin 8) (k : Fin 2048) :
    prev x xl (ix3 p s k) = if h : s.val < 1 then xl (ix3 0 p k) else x (ix3 p ⟨s.val - 1, by omega⟩ k) := by
  pointwise [prev]

/-- The mixed rows, read at an index. -/
theorem mix_at (x y : FVec Ideal S128x8x2048 .f32) (mu : FVec Ideal S1x1x2048 .f32) (q : Fin 1024) (k : Fin 2048) :
    mix x y mu (ix2 q k) = x (ix3 ⟨q.val / 8, by omega⟩ ⟨q.val % 8, by omega⟩ k)
      + (y (ix3 ⟨q.val / 8, by omega⟩ ⟨q.val % 8, by omega⟩ k) - x (ix3 ⟨q.val / 8, by omega⟩ ⟨q.val % 8, by omega⟩ k)) * mu (ix3 0 0 k) := by
  pointwise [mix]

/-- The low rank, read at an index. -/
theorem down_at (x : FVec Ideal S1024x2048 .f32) (w : FVec Ideal S1x2048x96 .f32) (q : Fin 1024) (l : Fin 96) :
    down x w (ix2 q l) = ∑ k : Fin 2048, x (ix2 q k) * w (ix3 0 k l) := by
  pointwise [down]

/-- Back from the low rank, read at an index. -/
theorem up_at (h : FVec Ideal S1024x96 .f32) (b : FVec Ideal S1x2048 .f32) (w : FVec Ideal S1x96x2048 .f32) (q : Fin 1024) (d : Fin 2048) :
    up h b w (ix2 q d) = b (ix2 0 d) + ∑ l : Fin 96, h (ix2 q l) * w (ix3 0 l d) := by
  pointwise [up]

/-- The gate, read at an index. -/
theorem gate_at (x : FVec Ideal S1024x2048 .f32) (w1 : FVec Ideal S1x2048x256 .f32) (w2 : FVec Ideal S1x256x2048 .f32) (q : Fin 1024) (d : Fin 2048) :
    gate x w1 w2 (ix2 q d) = ∑ l : Fin 256, Ideal.logistic (∑ k : Fin 2048, x (ix2 q k) * w1 (ix3 0 k l)) * w2 (ix3 0 l d) := by
  pointwise [gate, Ideal.logistic]

/-- The learning rate, read at an index. -/
theorem rate_at (u : FVec Ideal S1024x2048 .f32) (q : Fin 1024) (d : Fin 2048) :
    rate u (ix2 q d) = Ideal.logistic (u (ix2 q d)) := by
  pointwise [rate, Ideal.logistic]

/-- The decay's logarithm of one number: minus the exponential of minus its softplus less a half. -/
def dec (z : EReal) : EReal :=
  -Ideal.exp (-(max z 0 + Ideal.log1p (Ideal.exp (-(FloatOps.absf (F := Ideal) (φ := .f32) z)))) - Ideal.ofBits FTy.f32 1056964608#32)

/-- The decay's logarithm, read at an index. -/
theorem decay_at (u : FVec Ideal S1024x2048 .f32) (q : Fin 1024) (d : Fin 2048) :
    decay u (ix2 q d) = dec (-(u (ix2 q d))) := by
  pointwise [decay]
  rw [if_neg (not_not_intro rfl)]
  rfl

/-- The hyperbolic tangent, read at an index. -/
theorem tanh_at (u : FVec Ideal S1024x96 .f32) (q : Fin 1024) (l : Fin 96) :
    Host.tanh u (ix2 q l) = Ideal.tanh (u (ix2 q l)) := by
  pointwise []

end Cert.Reference12Ideal.Lora

end
-- ==== Proof.LoraArgs.lean ====
/- The decay, the learning rate and the gate of the second layer's mixer: what the kernel's blocks hold, in terms of its arguments. -/
module

public import proofs.«01_k».proof.Proof.Gen.Kernel12Ideal.Value
public import proofs.«01_k».proof.Proof.LoraRef
public import proofs.«01_k».proof.Proof.Place
public import Idealize.ShloMosaic.Lib.Pipeline.ReadBack
public import Idealize.ShloMosaic.Lib.Pipeline.ValueKit
public import Idealize.ShloMosaic.Lib.Pointwise

@[expose] public section
set_option maxRecDepth 16384
noncomputable section

open Idealize.ShloMosaic Idealize.ShloMosaic.TcCoe Idealize.SL.Sem
open Idealize.ShloMosaic.Pipeline (Dat)
namespace Cert.Kernel12Ideal.Lora

open Cert.Kernel12Ideal Cert.Kernel12Ideal.Gen Cert.Layer

variable (m : (ℓ : Loc nD τ sig) → Buf (Elt Ideal) ℓ)

/-- The rows of the state, as the kernel's arguments hold them. -/
def states (st : FVec Ideal S1x128x2048 .f32) : FVec Ideal S128x1x2048 .f32 :=
  broadcastInDim S128x1x2048 ![0, 2] bcast_S128x2048_S128x1x2048_0_2
    (shapeCast S128x2048 st shapeCasts_S1x128x2048_S128x2048)

/-- One of them. -/
theorem states_at (st : FVec Ideal S1x128x2048 .f32) (p : Fin 128) (k : Fin 2048) :
    states st (ix3 p 0 k) = st (ix3 0 p k) := by
  pointwise [states]

/-- The row of the shares that array `j` mixes by. -/
def share (j : Fin 3) : Fin 6 := if j.val = 0 then 1 else if j.val = 1 then 4 else 5

/-- One row of the shares, as the kernel's arguments hold it. -/
def line (mu : FVec Ideal S1x6x2048 .f32) (off : Fin 2 → ℕ) (h : S6x2048.Slices off S1x2048) : FVec Ideal S1x2048 .f32 :=
  broadcastInDim S1x2048 ![1] bcast_S2048_S1x2048_1 (shapeCast S2048
    (extractStridedSlice S1x2048 off (shapeCast S6x2048 mu shapeCasts_S1x6x2048_S6x2048) h) shapeCasts_S1x2048_S2048)

/-- The second of them. -/
theorem line1_at (mu : FVec Ideal S1x6x2048 .f32) (k : Fin 2048) :
    line mu ![1, 0] slices_S6x2048_S1x2048_1_0 (ix2 0 k) = mu (ix3 0 1 k) := by
  pointwise [line]

/-- The fifth of them. -/
theorem line4_at (mu : FVec Ideal S1x6x2048 .f32) (k : Fin 2048) :
    line mu ![4, 0] slices_S6x2048_S1x2048_4_0 (ix2 0 k) = mu (ix3 0 4 k) := by
  pointwise [line]

/-- The sixth of them. -/
theorem line5_at (mu : FVec Ideal S1x6x2048 .f32) (k : Fin 2048) :
    line mu ![5, 0] slices_S6x2048_S1x2048_5_0 (ix2 0 k) = mu (ix3 0 5 k) := by
  pointwise [line]

/-- The three rows of the shares, one after the other. -/
def lines (l0 l1 l2 : FVec Ideal S1x2048 .f32) : FVec Ideal S3x1x2048 .f32 :=
  broadcastInDim S3x1x2048 ![0, 2] bcast_S3x2048_S3x1x2048_0_2
    (concatenate S3x2048 0 [⟨S1x2048, l0⟩, ⟨S1x2048, l1⟩, ⟨S1x2048, l2⟩] concatenates_S1x2048_S1x2048_S1x2048_S3x2048_d0)

/-- Row `j` of them. -/
theorem lines_at (l0 l1 l2 : FVec Ideal S1x2048 .f32) (j : Fin 3) (k : Fin 2048) :
    lines l0 l1 l2 (ix3 j 0 k) = (if j.val = 0 then l0 else if j.val = 1 then l1 else l2) (ix2 0 k) := by
  pointwise [lines]
  obtain ⟨j, hj⟩ := j
  match j, hj with
  | 0, _ => rfl
  | 1, _ => rfl
  | 2, _ => rfl

/-- The shares' rows, read from the argument. -/
theorem shares_at (mu : FVec Ideal S1x6x2048 .f32) (j : Fin 3) (k : Fin 2048) :
    lines (line mu ![1, 0] slices_S6x2048_S1x2048_1_0) (line mu ![4, 0] slices_S6x2048_S1x2048_4_0)
      (line mu ![5, 0] slices_S6x2048_S1x2048_5_0) (ix3 j 0 k) = mu (ix3 0 (share j) k) := by
  refine (lines_at _ _ _ j k).trans ?_
  obtain ⟨j, hj⟩ := j
  match j, hj with
  | 0, _ => exact line1_at mu k
  | 1, _ => exact line4_at mu k
  | 2, _ => exact line5_at mu k

/-- A matrix of the low rank, as columns, padded by zeros. -/
def wide (w : FVec Ideal S1x2048x96 .f32) : FVec Ideal S2048x128 .f32 :=
  pad S2048x128 ![0, 0] ![0, 32] ![0, 0] (shapeCast S2048x96 w shapeCasts_S1x2048x96_S2048x96) (sitofp .f32 (constantI S_ 32 0#32)) pads_S2048x96_S2048x128_000_0320 h_S_

/-- It is read back at a column of the rank. -/
theorem wide_at (w : FVec Ideal S1x2048x96 .f32) (k : Fin 2048) (l : Fin 96) (h) : wide w (ix2 k ⟨l.val, h⟩) = w (ix3 0 k l) := by
  pointwise [wide]

/-- The padding's value. -/
theorem sitofp_zero : FloatOps.sitofp (F := Ideal) FTy.f32 (0#32) = (0 : EReal) := by
  show (((0#32 : BitVec 32).toInt : ℝ) : EReal) = 0
  simp

/-- A matrix of the low rank, as rows, padded by zeros. -/
def tall (w : FVec Ideal S1x96x2048 .f32) : FVec Ideal S128x2048 .bf16 :=
  truncf .bf16 (pad S128x2048 ![0, 0] ![32, 0] ![0, 0] (shapeCast S96x2048 w shapeCasts_S1x96x2048_S96x2048) (sitofp .f32 (constantI S_ 32 0#32)) pads_S96x2048_S128x2048_0320_000 h_S_) bitsLt_bf16_f32

/-- The entries of such a matrix. -/
def mat (w : FVec Ideal S1x96x2048 .f32) (l : Fin 96) (d : Fin 2048) : EReal := w (ix3 0 l d)

/-- It is zero past the rank. -/
theorem tall_at (w : FVec Ideal S1x96x2048 .f32) (l : Fin 128) (d : Fin 2048) :
    tall w (ix2 l d) = if h : l.val < 96 then mat w ⟨l.val, h⟩ d else 0 := by
  pointwise [tall, mat]
  rw [sitofp_zero]

/-- The three matrices into the low ranks, side by side. -/
def side (a b : FVec Ideal S2048x128 .f32) (w : FVec Ideal S1x2048x256 .f32) : FVec Ideal S2048x512 .bf16 :=
  truncf .bf16 (concatenate S2048x512 1 [⟨S2048x128, a⟩, ⟨S2048x128, b⟩, ⟨S2048x256, shapeCast S2048x256 w shapeCasts_S1x2048x256_S2048x256⟩]
    concatenates_S2048x128_S2048x128_S2048x256_S2048x512_d1) bitsLt_bf16_f32

/-- The first of the three. -/
theorem side0_at (a b : FVec Ideal S2048x128 .f32) (w : FVec Ideal S1x2048x256 .f32) (k : Fin 2048) (l : Fin 128) :
    side a b w (ix2 k ⟨l.val, by omega⟩) = a (ix2 k l) := by
  pointwise [side]

/-- The second of the three. -/
theorem side1_at (a b : FVec Ideal S2048x128 .f32) (w : FVec Ideal S1x2048x256 .f32) (k : Fin 2048) (l : Fin 128) :
    side a b w (ix2 k ⟨128 + l.val, by omega⟩) = b (ix2 k l) := by
  pointwise [side]

/-- The third of the three. -/
theorem side2_at (a b : FVec Ideal S2048x128 .f32) (w : FVec Ideal S1x2048x256 .f32) (k : Fin 2048) (l : Fin 256) :
    side a b w (ix2 k ⟨256 + l.val, by omega⟩) = w (ix3 0 k l) := by
  pointwise [side]
  rw [dif_neg (by omega), dif_neg (by omega)]
  congr 2
  exact Fin.ext (by show 256 + l.val - 128 - 128 = l.val; omega)

/-- The gate's second matrix, as the kernel takes it. -/
def flat (w : FVec Ideal S1x256x2048 .f32) : FVec Ideal S256x2048 .bf16 :=
  truncf .bf16 (shapeCast S256x2048 w shapeCasts_S1x256x2048_S256x2048) bitsLt_bf16_f32

/-- It is the same. -/
theorem flat_at (w : FVec Ideal S1x256x2048 .f32) (l : Fin 256) (d : Fin 2048) : flat w (ix2 l d) = w (ix3 0 l d) := by
  pointwise [flat]

/-- A row, flattened and laid out again. -/
def again (b : FVec Ideal S1x2048 .f32) : FVec Ideal S1x2048 .f32 :=
  shapeCast S1x2048 (shapeCast S2048 b shapeCasts_S1x2048_S2048) shapeCasts_S2048_S1x2048

/-- It is the same. -/
theorem again_at (b : FVec Ideal S1x2048 .f32) (d : Fin 2048) : again b (ix2 0 d) = b (ix2 0 d) := by
  pointwise [again]

/-- The state's rows, as the region finds them. -/
theorem V_states (c : Dev nD) : V m c main_v10 = states (m ((c : Thread nD τ).loc main_arg1)) := by
  show StableHlo.after (List.flatten [hostOps0, hostOps0_1, hostOps0_2, hostOps0_3, hostOps0_4, hostOps0_5, hostOps0_6, hostOps0_7, hostOps0_8]) (fun b => m (c, b)) _ = _
  simp only [List.flatten_cons, List.flatten_nil, List.append_nil, List.cons_append, List.nil_append]
  after_results <;> rfl

/-- The shares, as the region finds them. -/
theorem V_shares (c : Dev nD) :
    V m c main_v21 = lines (line (m ((c : Thread nD τ).loc main_arg2)) ![1, 0] slices_S6x2048_S1x2048_1_0)
      (line (m ((c : Thread nD τ).loc main_arg2)) ![4, 0] slices_S6x2048_S1x2048_4_0)
      (line (m ((c : Thread nD τ).loc main_arg2)) ![5, 0] slices_S6x2048_S1x2048_5_0) := by
  show StableHlo.after (List.flatten [hostOps0, hostOps0_1, hostOps0_2, hostOps0_3, hostOps0_4, hostOps0_5, hostOps0_6, hostOps0_7, hostOps0_8]) (fun b => m (c, b)) _ = _
  simp only [List.flatten_cons, List.flatten_nil, List.append_nil, List.cons_append, List.nil_append]
  after_results <;> rfl

/-- The matrices into the low ranks, as the region finds them. -/
theorem V_side (c : Dev nD) : V m c main_v24 = side (wide (m ((c : Thread nD τ).loc main_arg4))) (wide (m ((c : Thread nD τ).loc main_arg7)))
      (m ((c : Thread nD τ).loc main_arg9)) := by
  show StableHlo.after (List.flatten [hostOps0, hostOps0_1, hostOps0_2, hostOps0_3, hostOps0_4, hostOps0_5, hostOps0_6, hostOps0_7, hostOps0_8]) (fun b => m (c, b)) _ = _
  simp only [List.flatten_cons, List.flatten_nil, List.append_nil, List.cons_append, List.nil_append]
  after_results <;> rfl

/-- The decay's matrix out of the low rank, as the region finds it. -/
theorem V_tall4 (c : Dev nD) : V m c main_v25 = tall (m ((c : Thread nD τ).loc main_arg5)) := by
  show StableHlo.after (List.flatten [hostOps0, hostOps0_1, hostOps0_2, hostOps0_3, hostOps0_4, hostOps0_5, hostOps0_6, hostOps0_7, hostOps0_8]) (fun b => m (c, b)) _ = _
  simp only [List.flatten_cons, List.flatten_nil, List.append_nil, List.cons_append, List.nil_append]
  after_results <;> rfl

/-- The learning rate's matrix out of the low rank, as the region finds it. -/
theorem V_tall5 (c : Dev nD) : V m c main_v26 = tall (m ((c : Thread nD τ).loc main_arg8)) := by
  show StableHlo.after (List.flatten [hostOps0, hostOps0_1, hostOps0_2, hostOps0_3, hostOps0_4, hostOps0_5, hostOps0_6, hostOps0_7, hostOps0_8]) (fun b => m (c, b)) _ = _
  simp only [List.flatten_cons, List.flatten_nil, List.append_nil, List.cons_append, List.nil_append]
  after_results <;> rfl

/-- The gate's matrix out of the low rank, as the region finds it. -/
theorem V_flat (c : Dev nD) : V m c main_v28 = flat (m ((c : Thread nD τ).loc main_arg10)) := by
  show StableHlo.after (List.flatten [hostOps0, hostOps0_1, hostOps0_2, hostOps0_3, hostOps0_4, hostOps0_5, hostOps0_6, hostOps0_7, hostOps0_8]) (fun b => m (c, b)) _ = _
  simp only [List.flatten_cons, List.flatten_nil, List.append_nil, List.cons_append, List.nil_append]
  after_results <;> rfl

/-- The decay's offset, as the region finds it. -/
theorem V_off7 (c : Dev nD) : V m c main_v30 = again (m ((c : Thread nD τ).loc main_arg3)) := by
  show StableHlo.after (List.flatten [hostOps0, hostOps0_1, hostOps0_2, hostOps0_3, hostOps0_4, hostOps0_5, hostOps0_6, hostOps0_7, hostOps0_8]) (fun b => m (c, b)) _ = _
  simp only [List.flatten_cons, List.flatten_nil, List.append_nil, List.cons_append, List.nil_append]
  after_results <;> rfl

/-- The learning rate's offset, as the region finds it. -/
theorem V_off8 (c : Dev nD) : V m c main_v32 = again (m ((c : Thread nD τ).loc main_arg6)) := by
  show StableHlo.after (List.flatten [hostOps0, hostOps0_1, hostOps0_2, hostOps0_3, hostOps0_4, hostOps0_5, hostOps0_6, hostOps0_7, hostOps0_8]) (fun b => m (c, b)) _ = _
  simp only [List.flatten_cons, List.flatten_nil, List.append_nil, List.cons_append, List.nil_append]
  after_results <;> rfl

/-- Where each operand's block starts at a point of the grid. -/
theorem idx : ∀ t : Fin cfg0.N, win0_0.index t = ![t.val, 0, 0] ∧ win0_1.index t = ![t.val, 0, 0]
    ∧ win0_2.index t = ![0, 0, 0] ∧ win0_3.index t = ![0, 0] ∧ win0_4.index t = ![0, 0] ∧ win0_5.index t = ![0, 0]
    ∧ win0_6.index t = ![0, 0] ∧ win0_7.index t = ![0, 0] ∧ win0_8.index t = ![0, 0]
    ∧ win0_9.index t = ![t.val, 0] ∧ win0_10.index t = ![t.val, 0] ∧ win0_11.index t = ![t.val, 0] :=
  (by decide +kernel : ∀ t : Fin grid0.N, _)

/-- The staged rows. -/
theorem blk0 (c : Dev nD) (t : Fin cfg0.N) (p : Fin 32) (s : Fin 8) (k : Fin 2048) (h) :
    (iblk m c 0 t : FVec Ideal S32x8x2048 .f32) (ix3 p s k) = (m ((c : Thread nD τ).loc main_arg0) : FVec Ideal S128x8x2048 .f32) (ix3 ⟨t.val * 32 + p.val, h⟩ s k) := by
  rw [← V_main_arg0 m c]
  blk_point [iblk, idx t]

/-- The staged rows of the state. -/
theorem blk1 (c : Dev nD) (t : Fin cfg0.N) (p : Fin 32) (k : Fin 2048) (h) :
    (iblk m c 1 t : FVec Ideal S32x1x2048 .f32) (ix3 p 0 k) = (m ((c : Thread nD τ).loc main_arg1) : FVec Ideal S1x128x2048 .f32) (ix3 0 ⟨t.val * 32 + p.val, h⟩ k) := by
  refine Eq.trans ?_ (states_at _ ⟨t.val * 32 + p.val, h⟩ k)
  rw [← V_states m c]
  blk_point [iblk, idx t]

/-- The staged shares. -/
theorem blk2 (c : Dev nD) (t : Fin cfg0.N) (j : Fin 3) (k : Fin 2048) :
    (iblk m c 2 t : FVec Ideal S3x1x2048 .f32) (ix3 j 0 k) = (m ((c : Thread nD τ).loc main_arg2) : FVec Ideal S1x6x2048 .f32) (ix3 0 (share j) k) := by
  refine Eq.trans ?_ (shares_at _ j k)
  rw [← V_shares m c]
  blk_point [iblk, idx t]

/-- The staged matrices into the low ranks. -/
theorem blk3 (c : Dev nD) (t : Fin cfg0.N) (k : Fin 2048) (l : Fin 512) :
    (iblk m c 3 t : FVec Ideal S2048x512 .bf16) (ix2 k l) = side (wide (m ((c : Thread nD τ).loc main_arg4)))
      (wide (m ((c : Thread nD τ).loc main_arg7))) (m ((c : Thread nD τ).loc main_arg9)) (ix2 k l) := by
  rw [← V_side m c]
  blk_point [iblk, idx t]

/-- The staged matrix of the decay. -/
theorem blk4 (c : Dev nD) (t : Fin cfg0.N) (l : Fin 128) (d : Fin 2048) :
    (iblk m c 4 t : FVec Ideal S128x2048 .bf16) (ix2 l d)
      = if h : l.val < 96 then mat (m ((c : Thread nD τ).loc main_arg5)) ⟨l.val, h⟩ d else 0 := by
  refine Eq.trans ?_ (tall_at _ l d)
  rw [← V_tall4 m c]
  blk_point [iblk, idx t]

/-- The staged matrix of the learning rate. -/
theorem blk5 (c : Dev nD) (t : Fin cfg0.N) (l : Fin 128) (d : Fin 2048) :
    (iblk m c 5 t : FVec Ideal S128x2048 .bf16) (ix2 l d)
      = if h : l.val < 96 then mat (m ((c : Thread nD τ).loc main_arg8)) ⟨l.val, h⟩ d else 0 := by
  refine Eq.trans ?_ (tall_at _ l d)
  rw [← V_tall5 m c]
  blk_point [iblk, idx t]

/-- The staged matrix of the gate. -/
theorem blk6 (c : Dev nD) (t : Fin cfg0.N) (l : Fin 256) (d : Fin 2048) :
    (iblk m c 6 t : FVec Ideal S256x2048 .bf16) (ix2 l d) = (m ((c : Thread nD τ).loc main_arg10) : FVec Ideal S1x256x2048 .f32) (ix3 0 l d) := by
  refine Eq.trans ?_ (flat_at _ l d)
  rw [← V_flat m c]
  blk_point [iblk, idx t]

/-- The staged offset of the decay. -/
theorem blk7 (c : Dev nD) (t : Fin cfg0.N) (d : Fin 2048) :
    (iblk m c 7 t : FVec Ideal S1x2048 .f32) (ix2 0 d) = (m ((c : Thread nD τ).loc main_arg3) : FVec Ideal S1x2048 .f32) (ix2 0 d) := by
  refine Eq.trans ?_ (again_at _ d)
  rw [← V_off7 m c]
  blk_point [iblk, idx t]

/-- The staged offset of the learning rate. -/
theorem blk8 (c : Dev nD) (t : Fin cfg0.N) (d : Fin 2048) :
    (iblk m c 8 t : FVec Ideal S1x2048 .f32) (ix2 0 d) = (m ((c : Thread nD τ).loc main_arg6) : FVec Ideal S1x2048 .f32) (ix2 0 d) := by
  refine Eq.trans ?_ (again_at _ d)
  rw [← V_off8 m c]
  blk_point [iblk, idx t]

end Cert.Kernel12Ideal.Lora

end
-- ==== Proof.LoraParts.lean ====
/- The decay, the learning rate and the gate of the second layer's mixer: the kernel's own expressions, read at an index. -/
module

public import proofs.«01_k».proof.Proof.Gen.Kernel12Ideal.Value
public import proofs.«01_k».proof.Proof.LoraRef
public import proofs.«01_k».proof.Proof.Place
public import Idealize.ShloMosaic.Lib.Pipeline.ReadBack
public import Idealize.ShloMosaic.Lib.Pipeline.ValueKit
public import Idealize.ShloMosaic.Lib.Pointwise

@[expose] public section
set_option maxRecDepth 16384
noncomputable section

open Idealize.ShloMosaic Idealize.ShloMosaic.TcCoe Idealize.SL.Sem
open Idealize.ShloMosaic.Pipeline (Dat)
namespace Cert.Kernel12Ideal.Lora

open Cert.Kernel12Ideal Cert.Kernel12Ideal.Gen Cert.Layer

/-- The scratch of the token shift: the state's row, then the rows. -/
def shifted (x : FVec Ideal S32x8x2048 .f32) (st : FVec Ideal S32x1x2048 .f32) : Vec Ideal S32x16x2048 .f32 :=
  View.canon (Val := Elt Ideal)
    [⟨Rect.unit ![0, 8, 0] ![32, 8, 2048] inb_S32x16x2048_S32x8x2048_0_8_0, k0_pay5 (F := Ideal) x⟩,
      ⟨Rect.unit ![0, 7, 0] ![32, 1, 2048] inb_S32x16x2048_S32x1x2048_0_7_0, k0_pay4 (F := Ideal) st⟩]

/-- The rows one token before, as the scratch holds them. -/
def prev (x : FVec Ideal S32x8x2048 .f32) (st : FVec Ideal S32x1x2048 .f32) : Vec Ideal S32x8x2048 .f32 :=
  View.ld (shifted x st) (Rect.unit ![0, 7, 0] ![32, 8, 2048] inb_S32x16x2048_S32x8x2048_0_7_0)

/-- The row before token `s`: the state's at the first. -/
theorem prev_at (x : FVec Ideal S32x8x2048 .f32) (st : FVec Ideal S32x1x2048 .f32) (p : Fin 32) (s : Fin 8) (k : Fin 2048) :
    prev x st (ix3 p s k) = if h : s.val < 1 then st (ix3 p 0 k) else x (ix3 p ⟨s.val - 1, by omega⟩ k) := by
  have e : (Rect.unit (s := S32x16x2048) ![0, 7, 0] ![32, 8, 2048] inb_S32x16x2048_S32x8x2048_0_7_0).idx (ix3 p s k)
      = ix3 p (⟨7 + s.val, by omega⟩ : Fin 16) k := by
    refine ix3_of _ _ _ _ ?_ ?_ ?_
    · show 0 + 1 * p.val = p.val
      omega
    · show 7 + 1 * s.val = 7 + s.val
      omega
    · show 0 + 1 * k.val = k.val
      omega
  have hs := s.isLt
  show shifted x st ((Rect.unit (s := S32x16x2048) ![0, 7, 0] ![32, 8, 2048] inb_S32x16x2048_S32x8x2048_0_7_0).idx (ix3 p s k)) = _
  rw [e]
  unfold shifted
  by_cases h : s.val < 1
  · rw [dif_pos h, View.canon_cons_of_not_mem]
    · have e1 : ix3 p (⟨7 + s.val, by omega⟩ : Fin 16) k
          = (Rect.unit (s := S32x16x2048) ![0, 7, 0] ![32, 1, 2048] inb_S32x16x2048_S32x1x2048_0_7_0).emb (ix3 p 0 k) := by
        refine (ix3_of _ _ _ _ ?_ ?_ ?_).symm
        · show 0 + 1 * p.val = p.val
          omega
        · show 7 + 1 * 0 = 7 + s.val
          omega
        · show 0 + 1 * k.val = k.val
          omega
      rw [e1, View.canon_cons_emb]
      pointwise [k0_pay4]
    · intro hm
      obtain ⟨z, hz⟩ := (Rect.unit (s := S32x16x2048) ![0, 8, 0] ![32, 8, 2048] inb_S32x16x2048_S32x8x2048_0_8_0).exists_idx_of_mem hm
      have h1 : 8 + 1 * (z (1 : Fin 3)).val = 7 + s.val := congrArg (fun f : S32x16x2048.Idx => (f (1 : Fin 3)).val) hz
      omega
  · rw [dif_neg h]
    have e1 : ix3 p (⟨7 + s.val, by omega⟩ : Fin 16) k
        = (Rect.unit (s := S32x16x2048) ![0, 8, 0] ![32, 8, 2048] inb_S32x16x2048_S32x8x2048_0_8_0).emb
            (ix3 p (⟨s.val - 1, by omega⟩ : Fin 8) k) := by
      refine (ix3_of _ _ _ _ ?_ ?_ ?_).symm
      · show 0 + 1 * p.val = p.val
        omega
      · show 8 + 1 * (s.val - 1) = 7 + s.val
        omega
      · show 0 + 1 * k.val = k.val
        omega
    rw [e1, View.canon_cons_emb]
    pointwise [k0_pay5]

/-- The first low rank, read at an index. -/
theorem pay8_at (y x : FVec Ideal S32x8x2048 .f32) (mu : FVec Ideal S1x1x2048 .f32) (w : FVec Ideal S2048x128 .bf16) (r : Fin 256) (l : Fin 128) :
    k0_pay8 (F := Ideal) y x mu w (ix2 r l) = Ideal.tanh (∑ k : Fin 2048, (x (ix3 ⟨r.val / 8, by omega⟩ ⟨r.val % 8, by omega⟩ k)
        + (y (ix3 ⟨r.val / 8, by omega⟩ ⟨r.val % 8, by omega⟩ k) - x (ix3 ⟨r.val / 8, by omega⟩ ⟨r.val % 8, by omega⟩ k)) * mu (ix3 0 0 k)) * w (ix2 k l)) := by
  pointwise [k0_pay8, k0_pay7]

/-- The second low rank, read at an index. -/
theorem pay9_at (y x : FVec Ideal S32x8x2048 .f32) (mu : FVec Ideal S1x1x2048 .f32) (w : FVec Ideal S2048x128 .bf16) (r : Fin 256) (l : Fin 128) :
    k0_pay9 (F := Ideal) x (k0_pay7 y x) mu w (ix2 r l) = ∑ k : Fin 2048, (x (ix3 ⟨r.val / 8, by omega⟩ ⟨r.val % 8, by omega⟩ k)
        + (y (ix3 ⟨r.val / 8, by omega⟩ ⟨r.val % 8, by omega⟩ k) - x (ix3 ⟨r.val / 8, by omega⟩ ⟨r.val % 8, by omega⟩ k)) * mu (ix3 0 0 k)) * w (ix2 k l) := by
  pointwise [k0_pay9, k0_pay7]

/-- The third low rank, read at an index. -/
theorem pay10_at (y x : FVec Ideal S32x8x2048 .f32) (mu : FVec Ideal S1x1x2048 .f32) (w : FVec Ideal S2048x256 .bf16) (r : Fin 256) (l : Fin 256) :
    k0_pay10 (F := Ideal) x (k0_pay7 y x) mu w (ix2 r l) = Ideal.logistic (∑ k : Fin 2048, (x (ix3 ⟨r.val / 8, by omega⟩ ⟨r.val % 8, by omega⟩ k)
        + (y (ix3 ⟨r.val / 8, by omega⟩ ⟨r.val % 8, by omega⟩ k) - x (ix3 ⟨r.val / 8, by omega⟩ ⟨r.val % 8, by omega⟩ k)) * mu (ix3 0 0 k)) * w (ix2 k l)) := by
  pointwise [k0_pay10, k0_pay7]

/-- The decay's argument, read at an index. -/
theorem pay11_at (h : FVec Ideal S256x128 .f32) (b : FVec Ideal S1x2048 .f32) (w : FVec Ideal S128x2048 .bf16) (r : Fin 256) (d : Fin 2048) :
    k0_pay11 (F := Ideal) h b w (ix2 r d) = -(b (ix2 0 d) + ∑ l : Fin 128, h (ix2 r l) * w (ix2 l d)) := by
  pointwise [k0_pay11]
  rw [zero_sub]

/-- The decay's logarithm, read at an index. -/
theorem pay1_at (h : FVec Ideal S256x128 .f32) (b : FVec Ideal S1x2048 .f32) (w : FVec Ideal S128x2048 .bf16) (r : Fin 256) (d : Fin 2048) :
    k0_pay1 (F := Ideal) (k0_pay12 h b w) (k0_pay14 h b w) (k0_pay15 h b w) (k0_pay16 h b w) (ix2 r d)
      = Cert.Reference12Ideal.Lora.dec (k0_pay11 (F := Ideal) h b w (ix2 r d)) := by
  generalize hP : k0_pay11 (F := Ideal) h b w = P
  pointwise [k0_pay1, k0_pay12, k0_pay14, k0_pay15, k0_pay16, k0_pay13, hP]
  rw [if_neg (not_not_intro rfl)]
  simp only [zero_sub]
  rfl

/-- The learning rate, read at an index. -/
theorem pay2_at (h : FVec Ideal S256x128 .f32) (b : FVec Ideal S1x2048 .f32) (w : FVec Ideal S128x2048 .bf16) (r : Fin 256) (d : Fin 2048) :
    k0_pay2 (F := Ideal) h b w (ix2 r d) = Ideal.logistic (b (ix2 0 d) + ∑ l : Fin 128, h (ix2 r l) * w (ix2 l d)) := by
  pointwise [k0_pay2]

/-- The gate, read at an index. -/
theorem pay3_at (h : FVec Ideal S256x256 .f32) (w : FVec Ideal S256x2048 .bf16) (r : Fin 256) (d : Fin 2048) :
    k0_pay3 (F := Ideal) h w (ix2 r d) = ∑ l : Fin 256, h (ix2 r l) * w (ix2 l d) := by
  pointwise [k0_pay3]

/-- A sum over the padded rank against a factor that is zero past the rank. -/
theorem sum_padded (f : Fin 128 → EReal) (g : Fin 96 → EReal) :
    ∑ l : Fin 128, f l * (if h : l.val < 96 then g ⟨l.val, h⟩ else 0) = ∑ l : Fin 96, f ⟨l.val, by omega⟩ * g l := by
  refine (Fin.sum_univ_add (a := 96) (b := 32) (fun l : Fin 128 => f l * (if h : l.val < 96 then g ⟨l.val, h⟩ else 0))).trans ?_
  have e : ∀ i : Fin 32, f (Fin.natAdd 96 i) * (if h : (Fin.natAdd 96 i).val < 96 then g ⟨(Fin.natAdd 96 i).val, h⟩ else 0) = 0 := by
    intro i
    rw [dif_neg (by simp), mul_zero]
  rw [Finset.sum_congr rfl fun i _ => e i, Finset.sum_const_zero, add_zero]
  refine Finset.sum_congr rfl fun i _ => ?_
  rw [dif_pos (show (Fin.castAdd 32 i).val < 96 from i.isLt)]
  rfl

end Cert.Kernel12Ideal.Lora

end
-- ==== Proof.Lora.lean ====
/- The decay, the learning rate and the gate of the second layer's mixer: the kernel's three results are the
   reference's. -/
module

public import proofs.«01_k».proof.Proof.Gen.Kernel12Ideal.Value
public import proofs.«01_k».proof.Proof.LoraArgs
public import proofs.«01_k».proof.Proof.LoraParts
public import proofs.«01_k».proof.Proof.Place
public import Idealize.ShloMosaic.Lib.Pipeline.ReadBack
public import Idealize.ShloMosaic.Lib.Pipeline.ValueKit
public import Idealize.ShloMosaic.Lib.Pointwise

@[expose] public section
set_option maxRecDepth 16384
noncomputable section

open Idealize.ShloMosaic Idealize.ShloMosaic.TcCoe Idealize.SL.Sem
open Idealize.ShloMosaic.Pipeline (Dat)
namespace Cert.Kernel12Ideal.Lora

open Cert.Kernel12Ideal Cert.Kernel12Ideal.Gen Cert.Layer

variable (m : (ℓ : Loc nD τ sig) → Buf (Elt Ideal) ℓ) (ρ : Dev nD → PrngReg)

/-- An index of two axes is the one with its coordinates. -/
theorem ix2_of {n0 n1 : ℕ} (f : (⟨2, ![n0, n1]⟩ : Shape).Idx) (a : Fin n0) (b : Fin n1)
    (h0 : (f 0).val = a.val) (h1 : (f 1).val = b.val) : f = ix2 a b :=
  (eq_ix2 f).trans (congrArg₂ ix2 (Fin.ext h0) (Fin.ext h1))

/-- An entry of a row of offsets. -/
def entry (b : FVec Ideal S1x2048 .f32) (d : Fin 2048) : EReal := b (ix2 0 d)

/-- Row `s` of sample `p`, mixed with the one before it by share `i`. -/
def M (c : Dev nD) (i : Fin 6) (p : Fin 128) (s : Fin 8) (k : Fin 2048) : EReal :=
  mixed ((m ((c : Thread nD τ).loc main_arg0) : FVec Ideal S128x8x2048 .f32) (ix3 p s k))
    (Cert.Reference12Ideal.Lora.prev (m ((c : Thread nD τ).loc main_arg0)) (m ((c : Thread nD τ).loc main_arg1)) (ix3 p s k)) ((m ((c : Thread nD τ).loc main_arg2) : FVec Ideal S1x6x2048 .f32) (ix3 0 i k))

/-- The row before, read from the staged blocks, is the reference's. -/
theorem prev_blk (c : Dev nD) (t : Fin cfg0.N) (p : Fin 32) (s : Fin 8) (k : Fin 2048) (h) :
    prev (iblk m c 0 t) (iblk m c 1 t) (ix3 p s k) = Cert.Reference12Ideal.Lora.prev (m ((c : Thread nD τ).loc main_arg0)) (m ((c : Thread nD τ).loc main_arg1)) (ix3 ⟨t.val * 32 + p.val, h⟩ s k) := by
  refine (prev_at _ _ p s k).trans ?_
  refine Eq.trans ?_ (Cert.Reference12Ideal.Lora.prev_at _ _ _ s k).symm
  by_cases hs : s.val < 1
  · rw [dif_pos hs, dif_pos hs]
    exact blk1 m c t p k h
  · rw [dif_neg hs, dif_neg hs]
    exact blk0 m c t p _ k h

/-- A row of the staged shares, read at an index. -/
theorem share_blk (c : Dev nD) (t : Fin cfg0.N) (j : Fin 3) (off : Fin 3 → ℕ) (inb) (ho : off = ![j.val, 0, 0]) (k : Fin 2048) :
    (View.ld (iblk m c 2 t : Vec Ideal S3x1x2048 .f32) (Rect.unit (s := S3x1x2048) off ![1, 1, 2048] inb) : Vec Ideal S1x1x2048 .f32) (ix3 0 0 k)
      = (m ((c : Thread nD τ).loc main_arg2) : FVec Ideal S1x6x2048 .f32) (ix3 0 (share j) k) := by
  subst ho
  refine Eq.trans ?_ (blk2 m c t j k)
  show (iblk m c 2 t : Vec Ideal S3x1x2048 .f32) ((Rect.unit (s := S3x1x2048) ![j.val, 0, 0] ![1, 1, 2048] inb).idx (ix3 0 0 k)) = _
  refine congrArg (iblk m c 2 t : Vec Ideal S3x1x2048 .f32) (ix3_of _ _ _ _ ?_ ?_ ?_)
  · show j.val + 1 * 0 = j.val
    omega
  · rfl
  · show 0 + 1 * k.val = k.val
    omega

/-- A staged row, mixed by a staged share, is the mixed row of the arguments. -/
theorem mixed_blk (c : Dev nD) (t : Fin cfg0.N) (j : Fin 3) (off : Fin 3 → ℕ) (inb) (ho : off = ![j.val, 0, 0]) (r : Fin 256) (k : Fin 2048) (h) :
    mixed ((iblk m c 0 t : FVec Ideal S32x8x2048 .f32) (ix3 ⟨r.val / 8, by omega⟩ ⟨r.val % 8, by omega⟩ k))
        (prev (iblk m c 0 t) (iblk m c 1 t) (ix3 ⟨r.val / 8, by omega⟩ ⟨r.val % 8, by omega⟩ k))
        ((View.ld (iblk m c 2 t : Vec Ideal S3x1x2048 .f32) (Rect.unit (s := S3x1x2048) off ![1, 1, 2048] inb) : Vec Ideal S1x1x2048 .f32) (ix3 0 0 k))
      = M m c (share j) ⟨t.val * 32 + r.val / 8, h⟩ ⟨r.val % 8, by omega⟩ k := by
  have ex := blk0 m c t ⟨r.val / 8, by omega⟩ ⟨r.val % 8, by omega⟩ k h
  have ep := prev_blk m c t ⟨r.val / 8, by omega⟩ ⟨r.val % 8, by omega⟩ k h
  have es := share_blk m c t j off inb ho k
  unfold M
  rw [← ex, ← ep, ← es]

/-- A part of the staged matrices, read at an index. -/
theorem part128_at (c : Dev nD) (t : Fin cfg0.N) (o : ℕ) (inb) (k : Fin 2048) (l : Fin 128) (h) :
    (View.ld (iblk m c 3 t : Vec Ideal S2048x512 .bf16) (Rect.unit (s := S2048x512) ![0, o] ![2048, 128] inb) : Vec Ideal S2048x128 .bf16) (ix2 k l)
      = side (wide (m ((c : Thread nD τ).loc main_arg4))) (wide (m ((c : Thread nD τ).loc main_arg7))) (m ((c : Thread nD τ).loc main_arg9)) (ix2 k ⟨o + l.val, h⟩) := by
  refine Eq.trans ?_ (blk3 m c t k ⟨o + l.val, h⟩)
  show (iblk m c 3 t : Vec Ideal S2048x512 .bf16) ((Rect.unit (s := S2048x512) ![0, o] ![2048, 128] inb).idx (ix2 k l)) = _
  refine congrArg (iblk m c 3 t : Vec Ideal S2048x512 .bf16) (ix2_of _ _ _ ?_ ?_)
  · show 0 + 1 * k.val = k.val
    omega
  · show o + 1 * l.val = o + l.val
    omega

/-- A part of the staged matrices, read at an index. -/
theorem part256_at (c : Dev nD) (t : Fin cfg0.N) (o : ℕ) (inb) (k : Fin 2048) (l : Fin 256) (h) :
    (View.ld (iblk m c 3 t : Vec Ideal S2048x512 .bf16) (Rect.unit (s := S2048x512) ![0, o] ![2048, 256] inb) : Vec Ideal S2048x256 .bf16) (ix2 k l)
      = side (wide (m ((c : Thread nD τ).loc main_arg4))) (wide (m ((c : Thread nD τ).loc main_arg7))) (m ((c : Thread nD τ).loc main_arg9)) (ix2 k ⟨o + l.val, h⟩) := by
  refine Eq.trans ?_ (blk3 m c t k ⟨o + l.val, h⟩)
  show (iblk m c 3 t : Vec Ideal S2048x512 .bf16) ((Rect.unit (s := S2048x512) ![0, o] ![2048, 256] inb).idx (ix2 k l)) = _
  refine congrArg (iblk m c 3 t : Vec Ideal S2048x512 .bf16) (ix2_of _ _ _ ?_ ?_)
  · show 0 + 1 * k.val = k.val
    omega
  · show o + 1 * l.val = o + l.val
    omega

/-- The block of the decay at a point. -/
theorem block9 (c : Dev nD) (t : Fin cfg0.N) : (outsAt0 m c t).1
    = k0_pay1 (F := Ideal)
      (k0_pay12 (k0_pay8 (prev (iblk m c 0 t) (iblk m c 1 t)) (iblk m c 0 t) (View.ld (iblk m c 2 t) (Rect.unit ![0, 0, 0] ![1, 1, 2048] inb_S3x1x2048_S1x1x2048_0_0_0)) (View.ld (iblk m c 3 t) (Rect.unit ![0, 0] ![2048, 128] inb_S2048x512_S2048x128_0_0))) (iblk m c 7 t) (iblk m c 4 t))
      (k0_pay14 (k0_pay8 (prev (iblk m c 0 t) (iblk m c 1 t)) (iblk m c 0 t) (View.ld (iblk m c 2 t) (Rect.unit ![0, 0, 0] ![1, 1, 2048] inb_S3x1x2048_S1x1x2048_0_0_0)) (View.ld (iblk m c 3 t) (Rect.unit ![0, 0] ![2048, 128] inb_S2048x512_S2048x128_0_0))) (iblk m c 7 t) (iblk m c 4 t))
      (k0_pay15 (k0_pay8 (prev (iblk m c 0 t) (iblk m c 1 t)) (iblk m c 0 t) (View.ld (iblk m c 2 t) (Rect.unit ![0, 0, 0] ![1, 1, 2048] inb_S3x1x2048_S1x1x2048_0_0_0)) (View.ld (iblk m c 3 t) (Rect.unit ![0, 0] ![2048, 128] inb_S2048x512_S2048x128_0_0))) (iblk m c 7 t) (iblk m c 4 t))
      (k0_pay16 (k0_pay8 (prev (iblk m c 0 t) (iblk m c 1 t)) (iblk m c 0 t) (View.ld (iblk m c 2 t) (Rect.unit ![0, 0, 0] ![1, 1, 2048] inb_S3x1x2048_S1x1x2048_0_0_0)) (View.ld (iblk m c 3 t) (Rect.unit ![0, 0] ![2048, 128] inb_S2048x512_S2048x128_0_0))) (iblk m c 7 t) (iblk m c 4 t)) := by
  unfold outsAt0
  dsimp only
  unfold out0_A_9
  frame_out
  simp only [View.readCov_eq_canon']
  rfl

/-- The block of the learning rate at a point. -/
theorem block10 (c : Dev nD) (t : Fin cfg0.N) : (outsAt0 m c t).2.1
    = k0_pay2 (F := Ideal) (k0_pay9 (iblk m c 0 t) (k0_pay7 (prev (iblk m c 0 t) (iblk m c 1 t)) (iblk m c 0 t)) (View.ld (iblk m c 2 t) (Rect.unit ![1, 0, 0] ![1, 1, 2048] inb_S3x1x2048_S1x1x2048_1_0_0)) (View.ld (iblk m c 3 t) (Rect.unit ![0, 128] ![2048, 128] inb_S2048x512_S2048x128_0_128))) (iblk m c 8 t) (iblk m c 5 t) := by
  unfold outsAt0
  dsimp only
  unfold out0_A_10
  frame_out
  simp only [View.readCov_eq_canon']
  rfl

/-- The block of the gate at a point. -/
theorem block11 (c : Dev nD) (t : Fin cfg0.N) : (outsAt0 m c t).2.2
    = k0_pay3 (F := Ideal) (k0_pay10 (iblk m c 0 t) (k0_pay7 (prev (iblk m c 0 t) (iblk m c 1 t)) (iblk m c 0 t)) (View.ld (iblk m c 2 t) (Rect.unit ![2, 0, 0] ![1, 1, 2048] inb_S3x1x2048_S1x1x2048_2_0_0)) (View.ld (iblk m c 3 t) (Rect.unit ![0, 256] ![2048, 256] inb_S2048x512_S2048x256_0_256))) (iblk m c 6 t) := by
  unfold outsAt0
  dsimp only
  unfold out0_A_11
  frame_out
  simp only [View.readCov_eq_canon']
  rfl

/-- A mixed row times a column of a matrix into a low rank. -/
def low (c : Dev nD) (i : Fin 6) (q : Fin 1024) (f : Fin 2048 → EReal) : EReal :=
  ∑ k : Fin 2048, M m c i ⟨q.val / 8, by omega⟩ ⟨q.val % 8, by omega⟩ k * f k

/-- A staged row's products are those of the row it is. -/
theorem low_blk (c : Dev nD) (t : Fin cfg0.N) (i : Fin 6) (r : Fin 256) (f : Fin 2048 → EReal) (h) (h') :
    ∑ k : Fin 2048, M m c i ⟨t.val * 32 + r.val / 8, h⟩ ⟨r.val % 8, by omega⟩ k * f k = low m c i ⟨t.val * 256 + r.val, h'⟩ f := by
  unfold low
  have ep : (⟨t.val * 32 + r.val / 8, h⟩ : Fin 128) = ⟨(t.val * 256 + r.val) / 8, by omega⟩ := by
    apply Fin.ext
    show t.val * 32 + r.val / 8 = (t.val * 256 + r.val) / 8
    omega
  have es : (⟨r.val % 8, by omega⟩ : Fin 8) = ⟨(t.val * 256 + r.val) % 8, by omega⟩ := by
    apply Fin.ext
    show r.val % 8 = (t.val * 256 + r.val) % 8
    omega
  rw [ep, es]

/-- The entries of a matrix into a low rank. -/
def col {n : ℕ} (w : FVec Ideal (⟨3, ![1, 2048, n]⟩ : Shape) .f32) (l : Fin n) (k : Fin 2048) : EReal := w (ix3 0 k l)

/-- The decay, as one function of the arguments: the reference's. -/
def res0 (c : Dev nD) : FVec Ideal S1024x2048 .f32 :=
  Cert.Reference12Ideal.Lora.out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The learning rate, as one function of the arguments: the reference's. -/
def res1 (c : Dev nD) : FVec Ideal S1024x2048 .f32 :=
  Cert.Reference12Ideal.Lora.out1 (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8))

/-- The gate, as one function of the arguments: the reference's. -/
def res2 (c : Dev nD) : FVec Ideal S1024x2048 .f32 :=
  Cert.Reference12Ideal.Lora.out2 (m ((c : Thread nD τ).loc main_arg0)) (m ((c : Thread nD τ).loc main_arg1)) (m ((c : Thread nD τ).loc main_arg2)) (m ((c : Thread nD τ).loc main_arg9)) (m ((c : Thread nD τ).loc main_arg10))

/-- The reference's decay, read at an index. -/
theorem res0_at (c : Dev nD) (q : Fin 1024) (d : Fin 2048) :
    res0 m c (ix2 q d) = Cert.Reference12Ideal.Lora.dec (-(entry (m ((c : Thread nD τ).loc main_arg3)) d
      + ∑ l : Fin 96, Ideal.tanh (low m c 1 q (col (m ((c : Thread nD τ).loc main_arg4)) l)) * mat (m ((c : Thread nD τ).loc main_arg5)) l d)) := by
  refine (Cert.Reference12Ideal.Lora.decay_at _ q d).trans (congrArg (fun z : EReal => Cert.Reference12Ideal.Lora.dec (-z)) ?_)
  refine (Cert.Reference12Ideal.Lora.up_at _ _ _ q d).trans (Ideal.add_congr rfl (Finset.sum_congr rfl fun l _ => Ideal.mul_congr ?_ rfl))
  refine (Cert.Reference12Ideal.Lora.tanh_at _ q l).trans (congrArg Ideal.tanh ?_)
  refine (Cert.Reference12Ideal.Lora.down_at _ _ q l).trans (Finset.sum_congr rfl fun k _ => Ideal.mul_congr ?_ rfl)
  refine (Cert.Reference12Ideal.Lora.mix_at _ _ _ q k).trans ?_
  unfold M mixed
  pointwise []

/-- The reference's learning rate, read at an index. -/
theorem res1_at (c : Dev nD) (q : Fin 1024) (d : Fin 2048) :
    res1 m c (ix2 q d) = Ideal.logistic (entry (m ((c : Thread nD τ).loc main_arg6)) d
      + ∑ l : Fin 96, low m c 4 q (col (m ((c : Thread nD τ).loc main_arg7)) l) * mat (m ((c : Thread nD τ).loc main_arg8)) l d) := by
  refine (Cert.Reference12Ideal.Lora.rate_at _ q d).trans (congrArg Ideal.logistic ?_)
  refine (Cert.Reference12Ideal.Lora.up_at _ _ _ q d).trans (Ideal.add_congr rfl (Finset.sum_congr rfl fun l _ => Ideal.mul_congr ?_ rfl))
  refine (Cert.Reference12Ideal.Lora.down_at _ _ q l).trans (Finset.sum_congr rfl fun k _ => Ideal.mul_congr ?_ rfl)
  refine (Cert.Reference12Ideal.Lora.mix_at _ _ _ q k).trans ?_
  unfold M mixed
  pointwise []

/-- The reference's gate, read at an index. -/
theorem res2_at (c : Dev nD) (q : Fin 1024) (d : Fin 2048) :
    res2 m c (ix2 q d) = ∑ l : Fin 256, Ideal.logistic (low m c 5 q (col (m ((c : Thread nD τ).loc main_arg9)) l)) * (m ((c : Thread nD τ).loc main_arg10) : FVec Ideal S1x256x2048 .f32) (ix3 0 l d) := by
  refine (Cert.Reference12Ideal.Lora.gate_at _ _ _ q d).trans (Finset.sum_congr rfl fun l _ => Ideal.mul_congr (congrArg Ideal.logistic ?_) rfl)
  refine Finset.sum_congr rfl fun k _ => Ideal.mul_congr ?_ rfl
  refine (Cert.Reference12Ideal.Lora.mix_at _ _ _ q k).trans ?_
  unfold M mixed
  pointwise []

/-- The block of the decay is the reference's rows. -/
theorem at9 (c : Dev nD) (t : Fin cfg0.N) (r : Fin 256) (d : Fin 2048) (h' : t.val * 256 + r.val < 1024) :
    (outsAt0 m c t).1 (ix2 r d) = res0 m c (ix2 ⟨t.val * 256 + r.val, h'⟩ d) := by
  rw [block9, res0_at]
  refine (pay1_at _ _ _ r d).trans (congrArg Cert.Reference12Ideal.Lora.dec ?_)
  refine (pay11_at _ _ _ r d).trans (congrArg (fun z : EReal => -z) (Ideal.add_congr (blk7 m c t d) ?_))
  refine (Finset.sum_congr rfl fun l _ => Ideal.mul_congr rfl (blk4 m c t l d)).trans ?_
  refine (sum_padded (fun l => k0_pay8 (F := Ideal) (prev (iblk m c 0 t) (iblk m c 1 t)) (iblk m c 0 t) (View.ld (iblk m c 2 t) (Rect.unit ![0, 0, 0] ![1, 1, 2048] inb_S3x1x2048_S1x1x2048_0_0_0)) (View.ld (iblk m c 3 t) (Rect.unit ![0, 0] ![2048, 128] inb_S2048x512_S2048x128_0_0)) (ix2 r l)) (fun l => mat (m ((c : Thread nD τ).loc main_arg5)) l d)).trans ?_
  refine Finset.sum_congr rfl fun l _ => Ideal.mul_congr ?_ rfl
  refine (pay8_at _ _ _ _ r _).trans (congrArg Ideal.tanh ?_)
  refine Eq.trans (Finset.sum_congr rfl fun k _ => Ideal.mul_congr ?_ ?_) (low_blk m c t 1 r (col (m ((c : Thread nD τ).loc main_arg4)) l) (by omega) h')
  · exact mixed_blk m c t 0 ![0, 0, 0] inb_S3x1x2048_S1x1x2048_0_0_0 rfl r k (by omega)
  · refine (part128_at m c t 0 inb_S2048x512_S2048x128_0_0 k ⟨l.val, by omega⟩ (by show 0 + l.val < 512; omega)).trans ?_
    refine Eq.trans ?_ ((side0_at _ (wide (m ((c : Thread nD τ).loc main_arg7))) (m ((c : Thread nD τ).loc main_arg9)) k ⟨l.val, by omega⟩).trans (wide_at _ k l (by omega)))
    exact congrArg (fun z => side (wide (m ((c : Thread nD τ).loc main_arg4))) (wide (m ((c : Thread nD τ).loc main_arg7))) (m ((c : Thread nD τ).loc main_arg9)) (ix2 k z)) (Fin.ext (by show 0 + l.val = l.val; omega))

/-- The block of the learning rate is the reference's rows. -/
theorem at10 (c : Dev nD) (t : Fin cfg0.N) (r : Fin 256) (d : Fin 2048) (h' : t.val * 256 + r.val < 1024) :
    (outsAt0 m c t).2.1 (ix2 r d) = res1 m c (ix2 ⟨t.val * 256 + r.val, h'⟩ d) := by
  rw [block10, res1_at]
  refine (pay2_at _ _ _ r d).trans (congrArg Ideal.logistic (Ideal.add_congr (blk8 m c t d) ?_))
  refine (Finset.sum_congr rfl fun l _ => Ideal.mul_congr rfl (blk5 m c t l d)).trans ?_
  refine (sum_padded (fun l => k0_pay9 (F := Ideal) (iblk m c 0 t) (k0_pay7 (prev (iblk m c 0 t) (iblk m c 1 t)) (iblk m c 0 t)) (View.ld (iblk m c 2 t) (Rect.unit ![1, 0, 0] ![1, 1, 2048] inb_S3x1x2048_S1x1x2048_1_0_0)) (View.ld (iblk m c 3 t) (Rect.unit ![0, 128] ![2048, 128] inb_S2048x512_S2048x128_0_128)) (ix2 r l)) (fun l => mat (m ((c : Thread nD τ).loc main_arg8)) l d)).trans ?_
  refine Finset.sum_congr rfl fun l _ => Ideal.mul_congr ?_ rfl
  refine (pay9_at _ _ _ _ r _).trans ?_
  refine Eq.trans (Finset.sum_congr rfl fun k _ => Ideal.mul_congr ?_ ?_) (low_blk m c t 4 r (col (m ((c : Thread nD τ).loc main_arg7)) l) (by omega) h')
  · exact mixed_blk m c t 1 ![1, 0, 0] inb_S3x1x2048_S1x1x2048_1_0_0 rfl r k (by omega)
  · refine (part128_at m c t 128 inb_S2048x512_S2048x128_0_128 k ⟨l.val, by omega⟩ (by show 128 + l.val < 512; omega)).trans ?_
    exact (side1_at _ _ _ k ⟨l.val, by omega⟩).trans (wide_at _ k l (by omega))

/-- The block of the gate is the reference's rows. -/
theorem at11 (c : Dev nD) (t : Fin cfg0.N) (r : Fin 256) (d : Fin 2048) (h' : t.val * 256 + r.val < 1024) :
    (outsAt0 m c t).2.2 (ix2 r d) = res2 m c (ix2 ⟨t.val * 256 + r.val, h'⟩ d) := by
  rw [block11, res2_at]
  refine (pay3_at _ _ r d).trans (Finset.sum_congr rfl fun l _ => Ideal.mul_congr ?_ (blk6 m c t l d))
  refine (pay10_at _ _ _ _ r l).trans (congrArg Ideal.logistic ?_)
  refine Eq.trans (Finset.sum_congr rfl fun k _ => Ideal.mul_congr ?_ ?_) (low_blk m c t 5 r (col (m ((c : Thread nD τ).loc main_arg9)) l) (by omega) h')
  · exact mixed_blk m c t 2 ![2, 0, 0] inb_S3x1x2048_S1x1x2048_2_0_0 rfl r k (by omega)
  · exact (part256_at m c t 256 inb_S2048x512_S2048x256_0_256 k l (by omega)).trans (side2_at _ _ _ k l)

/-- The decay after the run. -/
theorem final0 (c : Dev nD) : (dats m 0 c).arrAt 9 (cfgs 0).N = res0 m c := by
  refine (dats m 0 c).arrAt_eq_of_covers 9 _ (by decide +kernel) fun t hf y => ?_
  blk_simp
  rw [after0_9]
  have ht : t.val < 4 := lt_of_lt_of_eq t.isLt N_0
  obtain ⟨r, d, rfl⟩ : ∃ (r : Fin 256) (d : Fin 2048), y = ix2 r d := ⟨y 0, y 1, eq_ix2 y⟩
  have hq : t.val * 256 + r.val < 1024 := by omega
  have e : ((cfg0.win 9).blk t).view.emb (ix2 r d) = ix2 ⟨t.val * 256 + r.val, hq⟩ d := by
    refine ix2_of _ _ _ ?_ ?_
    · blk_simp [idx t]
    · blk_simp [idx t]
  rw [e]
  exact at9 m c t r d hq

/-- The learning rate after the run. -/
theorem final1 (c : Dev nD) : (dats m 0 c).arrAt 10 (cfgs 0).N = res1 m c := by
  refine (dats m 0 c).arrAt_eq_of_covers 10 _ (by decide +kernel) fun t hf y => ?_
  blk_simp
  rw [after0_10]
  have ht : t.val < 4 := lt_of_lt_of_eq t.isLt N_0
  obtain ⟨r, d, rfl⟩ : ∃ (r : Fin 256) (d : Fin 2048), y = ix2 r d := ⟨y 0, y 1, eq_ix2 y⟩
  have hq : t.val * 256 + r.val < 1024 := by omega
  have e : ((cfg0.win 10).blk t).view.emb (ix2 r d) = ix2 ⟨t.val * 256 + r.val, hq⟩ d := by
    refine ix2_of _ _ _ ?_ ?_
    · blk_simp [idx t]
    · blk_simp [idx t]
  rw [e]
  exact at10 m c t r d hq

/-- The gate after the run. -/
theorem final2 (c : Dev nD) : (dats m 0 c).arrAt 11 (cfgs 0).N = res2 m c := by
  refine (dats m 0 c).arrAt_eq_of_covers 11 _ (by decide +kernel) fun t hf y => ?_
  blk_simp
  rw [after0_11]
  have ht : t.val < 4 := lt_of_lt_of_eq t.isLt N_0
  obtain ⟨r, d, rfl⟩ : ∃ (r : Fin 256) (d : Fin 2048), y = ix2 r d := ⟨y 0, y 1, eq_ix2 y⟩
  have hq : t.val * 256 + r.val < 1024 := by omega
  have e : ((cfg0.win 11).blk t).view.emb (ix2 r d) = ix2 ⟨t.val * 256 + r.val, hq⟩ d := by
    refine ix2_of _ _ _ ?_ ?_
    · blk_simp [idx t]
    · blk_simp [idx t]
  rw [e]
  exact at11 m c t r d hq

/-- The kernel's run: its three results are the reference's, and its arguments are as launched. -/
theorem run : θ_run defs (onTc (τ := τ) (main (F := Ideal))) ⟨m, fun _ => 0, ρ⟩ fun r => ∀ c : Dev nD,
      r.2.mem ((c : Thread nD τ).loc main_v33_0) = res0 m c
      ∧ r.2.mem ((c : Thread nD τ).loc main_v33_1) = res1 m c
      ∧ r.2.mem ((c : Thread nD τ).loc main_v33_2) = res2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨(h c).1.trans (final0 m c), (h c).2.1.trans (final1 m c), (h c).2.2.1.trans (final2 m c), (h c).2.2.2⟩)
    (Value.run_blocks (F := Ideal) m ρ)

end Cert.Kernel12Ideal.Lora

end
-- ==== Proof.lean ====
/- The claims, assembled: each kernel's run and its reference's run side by side, their results equal by the value
   modules; the frames by the generated runs. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.MlpPromptTie
public import proofs.«01_k».proof.Proof.Gen.Kernel3.Frame
public import proofs.«01_k».proof.Proof.Gen.Kernel3Ideal.Value
public import proofs.«01_k».proof.Proof.Gen.Reference3Ideal.Run
public import proofs.«01_k».proof.Proof.ProjTie
public import proofs.«01_k».proof.Proof.Gen.Kernel4.Frame
public import proofs.«01_k».proof.Proof.Gen.Kernel4Ideal.Value
public import proofs.«01_k».proof.Proof.Gen.Reference4Ideal.Run
public import proofs.«01_k».proof.Proof.RowsTie
public import proofs.«01_k».proof.Proof.Gen.Kernel5.Frame
public import proofs.«01_k».proof.Proof.Gen.Kernel5Ideal.Value
public import proofs.«01_k».proof.Proof.Gen.Reference5Ideal.Run
public import proofs.«01_k».proof.Proof.MlpSampleTie
public import proofs.«01_k».proof.Proof.Gen.Kernel8.Frame
public import proofs.«01_k».proof.Proof.Gen.Kernel8Ideal.Frame
public import proofs.«01_k».proof.Proof.Gen.Reference8Ideal.Run
public import proofs.«01_k».proof.Proof.FirstSampleTie
public import proofs.«01_k».proof.Proof.Gen.Kernel9.Frame
public import proofs.«01_k».proof.Proof.Gen.Kernel9Ideal.Frame
public import proofs.«01_k».proof.Proof.Gen.Reference9Ideal.Run
public import proofs.«01_k».proof.Proof.FirstPromptTie
public import proofs.«01_k».proof.Proof.Gen.Kernel10.Frame
public import proofs.«01_k».proof.Proof.Gen.Kernel10Ideal.Value
public import proofs.«01_k».proof.Proof.Gen.Reference10Ideal.Run
public import proofs.«01_k».proof.Proof.WoTie
public import proofs.«01_k».proof.Proof.Gen.Kernel11.Frame
public import proofs.«01_k».proof.Proof.Gen.Kernel11Ideal.Value
public import proofs.«01_k».proof.Proof.Gen.Reference11Ideal.Run
public import proofs.«01_k».proof.Proof.Rkv
public import proofs.«01_k».proof.Proof.Gen.Kernel2.Frame
public import proofs.«01_k».proof.Proof.Gen.Kernel2Ideal.Frame
public import proofs.«01_k».proof.Proof.Gen.Reference2Ideal.Run
public import proofs.«01_k».proof.Proof.Inproj
public import proofs.«01_k».proof.Proof.Gen.Kernel13.Frame
public import proofs.«01_k».proof.Proof.Gen.Kernel13Ideal.Frame
public import proofs.«01_k».proof.Proof.Gen.Reference13Ideal.Run
public import proofs.«01_k».proof.Proof.InprojSample
public import proofs.«01_k».proof.Proof.Gen.Kernel12.Frame
public import proofs.«01_k».proof.Proof.Gen.Kernel12Ideal.Value
public import proofs.«01_k».proof.Proof.Gen.Reference12Ideal.Run
public import proofs.«01_k».proof.Proof.Lora
public import proofs.«01_k».proof.Proof.InprojHwFrame
public import proofs.«01_k».proof.Proof.InprojSampleHwFrame
public import Idealize.ShloMosaic.Adequacy
public import Idealize.ShloMosaic.Init
public import Idealize.ShloMosaic.Lib.Quiescent

@[expose] public section

noncomputable section

namespace Cert.Proof

open Idealize.ShloMosaic Idealize.SL.Sem

/-- The reference of the feed-forward part of the prompts runs without a fault and leaves its arguments. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference of the feed-forward part of the prompts leave the same result. -/
theorem algebraic_KernelIdeal_ReferenceIdeal : algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  refine (h c).1.trans ((Cert.ReferenceIdeal.Mlp.res_eq m' c).trans ?_)
  simp only [hagree c]
  exact ((Cert.KernelIdeal.Mlp.final m c).trans (Cert.KernelIdeal.Mlp.tie m c)).symm

/-- The reference of the output projection of the prompts runs without a fault and leaves its arguments. -/
theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel and the reference of the output projection of the prompts leave the same result. -/
theorem algebraic_Kernel3Ideal_Reference3Ideal : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  refine (h c).1.trans ((Cert.Reference3Ideal.Proj.res_eq m' c).trans ?_)
  simp only [hagree c]
  exact (Cert.Kernel3Ideal.Proj.final m c).symm

/-- The reference of the compacted weights runs without a fault and leaves its arguments. -/
theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel and the reference of the compacted weights leave the same result. -/
theorem algebraic_Kernel4Ideal_Reference4Ideal : algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  exact (h c).1.trans ((congrArg Cert.Reference4Ideal.Rows.out (hagree c)).trans (Cert.Kernel4Ideal.Rows.final m c).symm)

/-- The reference of the feed-forward part of the samples runs without a fault and leaves its arguments. -/
theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The kernel and the reference of the feed-forward part of the samples leave the same result. -/
theorem algebraic_Kernel5Ideal_Reference5Ideal : algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  refine (h c).1.trans ((Cert.Reference5Ideal.Mlp.res_eq m' c).trans ?_)
  simp only [hagree c]
  exact ((Cert.Kernel5Ideal.Mlp.final m c).trans (Cert.Kernel5Ideal.Mlp.tie m c)).symm

/-- The reference of the first layer's feed-forward part of the samples runs without a fault and leaves its arguments. -/
theorem quiescent_Reference8Ideal : quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

/-- The kernel and the reference of the first layer's feed-forward part of the samples leave the same result. -/
theorem algebraic_Kernel8Ideal_Reference8Ideal : algebraic_Kernel8Ideal_Reference8Ideal := by
  intro m ρ m' ρ' _ hagree
  refine ⟨_, _, Cert.Kernel8Ideal.Mlp.run m ρ, ?_⟩
  have e : ∀ c, Cert.Reference8Ideal.Value.res_main_v38 (F := Ideal) m' c = Cert.Kernel8Ideal.Mlp.res m c := by
    intro c
    refine (Cert.Reference8Ideal.Mlp.res_eq m' c).trans ?_
    simp only [hagree c]
    exact (Cert.Kernel8Ideal.Mlp.tie m c).symm
  refine (θ_run Cert.Reference8Ideal.defs _ _).mono (fun _ h c => ⟨(h c).1.trans (e c), ?_, (h c).2.2⟩)
    (Cert.Reference8Ideal.Value.run (F := Ideal) m' ρ')
  refine (h c).2.1.trans ((Cert.Reference8Ideal.Mlp.last_eq m' c).trans ?_)
  rw [e c]
  exact (Cert.Kernel8Ideal.Mlp.last_tie _).symm

/-- The reference of the first layer's feed-forward part of the prompts runs without a fault and leaves its arguments. -/
theorem quiescent_Reference9Ideal : quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

/-- The kernel and the reference of the first layer's feed-forward part of the prompts leave the same result. -/
theorem algebraic_Kernel9Ideal_Reference9Ideal : algebraic_Kernel9Ideal_Reference9Ideal := by
  intro m ρ m' ρ' _ hagree
  refine ⟨_, _, Cert.Kernel9Ideal.Mlp.run m ρ, ?_⟩
  have e : ∀ c, Cert.Reference9Ideal.Value.res_main_v38 (F := Ideal) m' c = Cert.Kernel9Ideal.Mlp.res m c := by
    intro c
    refine (Cert.Reference9Ideal.Mlp.res_eq m' c).trans ?_
    simp only [hagree c]
    exact (Cert.Kernel9Ideal.Mlp.tie m c).symm
  refine (θ_run Cert.Reference9Ideal.defs _ _).mono (fun _ h c => ⟨(h c).1.trans (e c), ?_, (h c).2.2⟩)
    (Cert.Reference9Ideal.Value.run (F := Ideal) m' ρ')
  refine (h c).2.1.trans ((Cert.Reference9Ideal.Mlp.last_eq m' c).trans ?_)
  rw [e c]
  exact (Cert.Kernel9Ideal.Mlp.last_tie _).symm

/-- The reference of the second layer's output projection of the prompts runs without a fault and leaves its arguments. -/
theorem quiescent_Reference10Ideal : quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The kernel and the reference of the second layer's output projection of the prompts leave the same result. -/
theorem algebraic_Kernel10Ideal_Reference10Ideal : algebraic_Kernel10Ideal_Reference10Ideal := by
  intro m ρ m' ρ' _ hagree
  refine ⟨_, Cert.Kernel10Ideal.Value.run_blocks (F := Ideal) m ρ, ?_⟩
  refine (θ_run Cert.Reference10Ideal.defs _ _).mono (fun _ h c => ⟨?_, (h c).2⟩) (Cert.Reference10Ideal.Value.run (F := Ideal) m' ρ')
  refine (h c).1.trans ((Cert.Reference10Ideal.Wo.res_eq m' c).trans ?_)
  simp only [hagree c]
  exact (Cert.Kernel10Ideal.Wo.final m c).symm

/-- The reference of the three projections of the second layer's mixed rows of the samples runs without a fault and leaves its arguments. -/
theorem quiescent_Reference11Ideal : quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The kernel and the reference of the three projections of the second layer's mixed rows of the samples leave the same result. -/
theorem algebraic_Kernel11Ideal_Reference11Ideal : algebraic_Kernel11Ideal_Reference11Ideal := by
  intro m ρ m' ρ' _ hagree
  refine ⟨_, Cert.Kernel11Ideal.Value.run_blocks (F := Ideal) m ρ, ?_⟩
  refine (θ_run Cert.Reference11Ideal.defs _ _).mono (fun _ h c => ⟨?_, (h c).2⟩) (Cert.Reference11Ideal.Rkv.run m' ρ')
  refine (h c).1.trans ?_
  simp only [hagree c]
  exact (Cert.Kernel11Ideal.Rkv.final m c).symm

/-- The reference of the in-projection of the prompts runs without a fault and leaves its arguments. -/
theorem quiescent_Reference2Ideal : quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- The kernel and the reference of the in-projection of the prompts leave the same result. -/
theorem algebraic_Kernel2Ideal_Reference2Ideal : algebraic_Kernel2Ideal_Reference2Ideal := by
  intro m ρ m' ρ' _ hagree
  refine ⟨_, _, _, Cert.Kernel2Ideal.Inproj.run m ρ, ?_⟩
  refine (θ_run Cert.Reference2Ideal.defs _ _).mono (fun _ h c => ?_) (Cert.Reference2Ideal.Inproj.run m' ρ')
  refine ⟨(h c).1.trans ?_, (h c).2.1.trans ?_, (h c).2.2.1.trans ?_, (h c).2.2.2⟩
  all_goals
    simp only [hagree c]
    rfl

/-- The reference of the in-projection of the samples runs without a fault and leaves its arguments. -/
theorem quiescent_Reference13Ideal : quiescent_Reference13Ideal := fun m ρ _ =>
  (θ_run Cert.Reference13Ideal.defs _ _).mono (fun r h => ⟨fun c => (h c).2.2.2, sem_eq_zero_of_no_sems (by decide) r.2⟩)
    (Cert.Reference13Ideal.Value.run (F := Ideal) m ρ)

/-- The kernel and the reference of the in-projection of the samples leave the same result. -/
theorem algebraic_Kernel13Ideal_Reference13Ideal : algebraic_Kernel13Ideal_Reference13Ideal := by
  intro m ρ m' ρ' _ hagree
  refine ⟨_, _, _, Cert.Kernel13Ideal.Inproj.run m ρ, ?_⟩
  refine (θ_run Cert.Reference13Ideal.defs _ _).mono (fun _ h c => ?_) (Cert.Reference13Ideal.Inproj.run m' ρ')
  refine ⟨(h c).1.trans ?_, (h c).2.1.trans ?_, (h c).2.2.1.trans ?_, (h c).2.2.2⟩
  all_goals
    simp only [hagree c]
    rfl

/-- The reference of the decay, the learning rate and the gate of the second layer's mixer for the samples runs without a fault and leaves its arguments. -/
theorem quiescent_Reference12Ideal : quiescent_Reference12Ideal := fun m ρ _ =>
  (θ_run Cert.Reference12Ideal.defs _ _).mono (fun r h => ⟨fun c => (h c).2.2.2, sem_eq_zero_of_no_sems (by decide) r.2⟩)
    (Cert.Reference12Ideal.Value.run (F := Ideal) m ρ)

/-- The kernel and the reference of the decay, the learning rate and the gate of the second layer's mixer for the samples leave the same result. -/
theorem algebraic_Kernel12Ideal_Reference12Ideal : algebraic_Kernel12Ideal_Reference12Ideal := by
  intro m ρ m' ρ' _ hagree
  refine ⟨_, _, _, Cert.Kernel12Ideal.Lora.run m ρ, ?_⟩
  refine (θ_run Cert.Reference12Ideal.defs _ _).mono (fun _ h c => ?_) (Cert.Reference12Ideal.Lora.run m' ρ')
  refine ⟨(h c).1.trans ?_, (h c).2.1.trans ?_, (h c).2.2.1.trans ?_, (h c).2.2.2⟩
  all_goals
    simp only [hagree c]
    rfl

/-- Every claim of the certificate. -/
theorem claim : Cert.Claim := ⟨Cert.Kernel.Gen.facts, Cert.KernelIdeal.Gen.facts, Cert.ReferenceIdeal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel2.Gen.facts, Cert.Kernel2Ideal.Gen.facts, Cert.Reference2Ideal.Gen.facts, Cert.Kernel13.Gen.facts, Cert.Kernel13Ideal.Gen.facts, Cert.Reference13Ideal.Gen.facts, Cert.Kernel12.Gen.facts, Cert.Kernel12Ideal.Gen.facts, Cert.Reference12Ideal.Gen.facts,
  fun m ρ _ => Cert.Kernel.Gen.frame m ρ, fun m ρ _ => Cert.KernelIdeal.Gen.frame m ρ, quiescent_ReferenceIdeal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  fun m ρ _ => Cert.Kernel8.Gen.frame m ρ, fun m ρ _ => Cert.Kernel8Ideal.Gen.frame m ρ, quiescent_Reference8Ideal,
  fun m ρ _ => Cert.Kernel9.Gen.frame m ρ, fun m ρ _ => Cert.Kernel9Ideal.Gen.frame m ρ, quiescent_Reference9Ideal,
  fun m ρ _ => Cert.Kernel10.Gen.frame m ρ, fun m ρ _ => Cert.Kernel10Ideal.Gen.frame m ρ, quiescent_Reference10Ideal,
  fun m ρ _ => Cert.Kernel11.Gen.frame m ρ, fun m ρ _ => Cert.Kernel11Ideal.Gen.frame m ρ, quiescent_Reference11Ideal,
  fun m ρ _ => Cert.Kernel2.Inproj.frame m ρ, fun m ρ _ => Cert.Kernel2Ideal.Inproj.frame m ρ, quiescent_Reference2Ideal,
  fun m ρ _ => Cert.Kernel13.Inproj.frame m ρ, fun m ρ _ => Cert.Kernel13Ideal.Inproj.frame m ρ, quiescent_Reference13Ideal,
  fun m ρ _ => Cert.Kernel12.Gen.frame m ρ, fun m ρ _ => Cert.Kernel12Ideal.Gen.frame m ρ, quiescent_Reference12Ideal,
  (trivial : preserves_Kernel_KernelIdeal), algebraic_KernelIdeal_ReferenceIdeal,
  (trivial : preserves_Kernel3_Kernel3Ideal), algebraic_Kernel3Ideal_Reference3Ideal,
  (trivial : preserves_Kernel4_Kernel4Ideal), algebraic_Kernel4Ideal_Reference4Ideal,
  (trivial : preserves_Kernel5_Kernel5Ideal), algebraic_Kernel5Ideal_Reference5Ideal,
  (trivial : preserves_Kernel8_Kernel8Ideal), algebraic_Kernel8Ideal_Reference8Ideal,
  (trivial : preserves_Kernel9_Kernel9Ideal), algebraic_Kernel9Ideal_Reference9Ideal,
  (trivial : preserves_Kernel10_Kernel10Ideal), algebraic_Kernel10Ideal_Reference10Ideal,
  (trivial : preserves_Kernel11_Kernel11Ideal), algebraic_Kernel11Ideal_Reference11Ideal,
  (trivial : preserves_Kernel2_Kernel2Ideal), algebraic_Kernel2Ideal_Reference2Ideal,
  (trivial : preserves_Kernel13_Kernel13Ideal), algebraic_Kernel13Ideal_Reference13Ideal,
  (trivial : preserves_Kernel12_Kernel12Ideal), algebraic_Kernel12Ideal_Reference12Ideal⟩

end Cert.Proof

end
